-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨3, ![2, 4096, 1024]⟩ ⟨3, ![2, 4096, 4096]⟩ 2 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![4, 1024]⟩ ⟨2, ![4, 4096]⟩ 1 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![1024, 1024]⟩ ⟨2, ![4096, 1024]⟩ 0 4 c (m' (((0 : Dev Cert.ReferenceIdeal.nD).tc : Thread Cert.ReferenceIdeal.nD Cert.ReferenceIdeal.τ).loc Cert.ReferenceIdeal.main_arg2))) →
    ∃ (v0 : Buf (Elt Ideal) (((0 : Dev Cert.ReferenceIdeal.nD).tc : Thread Cert.ReferenceIdeal.nD Cert.ReferenceIdeal.τ).loc Cert.ReferenceIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v36) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x4096x1024 : Shape := ⟨3, ![2, 4096, 1024]⟩
abbrev S4x1024 : Shape := ⟨2, ![4, 1024]⟩
abbrev S1024x1024 : Shape := ⟨2, ![1024, 1024]⟩
abbrev S2x1032x1024 : Shape := ⟨3, ![2, 1032, 1024]⟩
abbrev S2x2x1024x1024 : Shape := ⟨4, ![2, 2, 1024, 1024]⟩
abbrev S2x3x1024x1024 : Shape := ⟨4, ![2, 3, 1024, 1024]⟩
abbrev S2x1024x1024 : Shape := ⟨3, ![2, 1024, 1024]⟩
abbrev S2x12 : Shape := ⟨2, ![2, 12]⟩
abbrev S2 : Shape := ⟨1, ![2]⟩
abbrev S_ : Shape := ⟨0, ![]⟩
abbrev S1 : Shape := ⟨1, ![1]⟩
abbrev S1x1032x1024 : Shape := ⟨3, ![1, 1032, 1024]⟩
abbrev S1032x1024 : Shape := ⟨2, ![1032, 1024]⟩
abbrev S1x1024x1024 : Shape := ⟨3, ![1, 1024, 1024]⟩
abbrev S8x1024 : Shape := ⟨2, ![8, 1024]⟩
abbrev S1x8x1024 : Shape := ⟨3, ![1, 8, 1024]⟩
abbrev S1x512x1024 : Shape := ⟨3, ![1, 512, 1024]⟩
abbrev S512x1024 : Shape := ⟨2, ![512, 1024]⟩
abbrev S1x1024 : Shape := ⟨2, ![1, 1024]⟩
abbrev S1024 : Shape := ⟨1, ![1024]⟩
abbrev S1x1x512x1024 : Shape := ⟨4, ![1, 1, 512, 1024]⟩
abbrev S1x1 : Shape := ⟨2, ![1, 1]⟩
abbrev S1x1x1024x1024 : Shape := ⟨4, ![1, 1, 1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S2x4096x1024, .f32⟩
  | .hbm, ⟨1, _⟩ => ⟨S4x1024, .f32⟩
  | .hbm, ⟨2, _⟩ => ⟨S1024x1024, .f32⟩
  | .hbm, ⟨3, _⟩ => ⟨S2x4096x1024, .f32⟩
  | .local _ .vmem, ⟨0, _⟩ => ⟨S4x1024, .f32⟩
  | .local _ .vmem, ⟨1, _⟩ => ⟨S1024x1024, .f32⟩
  | .local _ .vmem, ⟨2, _⟩ => ⟨S2x1032x1024, .f32⟩
  | .local _ .vmem, ⟨3, _⟩ => ⟨S2x2x1024x1024, .bf16⟩
  | .local _ .vmem, ⟨4, _⟩ => ⟨S2x2x1024x1024, .bf16⟩
  | .local _ .vmem, ⟨5, _⟩ => ⟨S2x3x1024x1024, .bf16⟩
  | .local _ .vmem, ⟨6, _⟩ => ⟨S2x1024x1024, .f32⟩
  | _, _ => ⟨S2x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 4 → Bool
  | ⟨0, _⟩ => true
  | ⟨1, _⟩ => true
  | ⟨2, _⟩ => false
  | ⟨3, _⟩ => true
  | _ => false

abbrev dmaSemScoped : Fin 54 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | _ => false

abbrev sig : RefSig :=
  (ofTc nBuf bufTy 4 54 bufScoped semScoped dmaSemScoped tileCredit tileCredit_eq_zero tileCredit_pos).withBarriers [(0, 2)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch4 : Ref sig .tc := ⟨.vmem, 6, rfl⟩
abbrev cc0_sem0_0 : DmaSem sig := 0
abbrev cc0_sem1_0 : DmaSem sig := 1
abbrev barrier0 : Sem sig := 2

abbrev nD : Nat := 4
abbrev τ : Topo := Topo.v7x

variable {F : FTy → Type} [FloatOps F]

abbrev grid0 : Pipeline.Grid := .none

def k0_dev1 (d0 : Dev nD) : Nat :=
  let c0_i32_15 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_14 : BitVec 32 := 1#32
  let v26 : BitVec 32 := Scalar.muli v13 c1_i32_14
  let v27 : BitVec 32 := Scalar.addi c0_i32_15 v26
  v27.toNat
def k0_dev2 (d0 : Dev nD) : Nat :=
  let c0_i32_18 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_17 : BitVec 32 := 1#32
  let v28 : BitVec 32 := Scalar.muli v24 c1_i32_17
  let v29 : BitVec 32 := Scalar.addi c0_i32_18 v28
  v29.toNat
def k0_cond1 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_19 : BitVec 32 := 0#32
  let v30 : BitVec 32 := Scalar.subi v2 c0_i32_19
  let c4_i32_20 : BitVec 32 := 4#32
  let c0_i32_21 : BitVec 32 := 0#32
  let v31 : BitVec 1 := Scalar.cmpi .eq c4_i32_20 c0_i32_21
  let c1_i32_22 : BitVec 32 := 1#32
  let v32 : BitVec 32 := Scalar.select v31 c1_i32_22 c4_i32_20
  let v33 : BitVec 32 := Scalar.remsi v30 v32
  let c0_i32_24 : BitVec 32 := 0#32
  let v35 : BitVec 1 := Scalar.cmpi .slt v33 c0_i32_24
  let c0_i32_25 : BitVec 32 := 0#32
  let v36 : BitVec 1 := Scalar.cmpi .slt v32 c0_i32_25
  let v37 : BitVec 1 := Scalar.xori v35 v36
  let c0_i32_23 : BitVec 32 := 0#32
  let v34 : BitVec 1 := Scalar.cmpi .ne v33 c0_i32_23
  let v38 : BitVec 1 := Scalar.andi v37 v34
  let v39 : BitVec 32 := Scalar.addi v33 v32
  let v40 : BitVec 32 := Scalar.select v38 v39 v33
  let c0_i32_33 : BitVec 32 := 0#32
  let v53 : BitVec 1 := Scalar.cmpi .sgt v40 c0_i32_33
  let v54 : BitVec 32 := Scalar.extui v53
  let c0_i32_34 : BitVec 32 := 0#32
  let v55 : BitVec 1 := Scalar.cmpi .ne v54 c0_i32_34
  v55

def k0_off1 (d0 : Dev nD) : Fin 3 → Nat :=
  let c0_i32_1930 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_19 : BitVec 32 := 0#32
  let v30 : BitVec 32 := Scalar.subi v2 c0_i32_19
  let c4_i32_20 : BitVec 32 := 4#32
  let c0_i32_21 : BitVec 32 := 0#32
  let v31 : BitVec 1 := Scalar.cmpi .eq c4_i32_20 c0_i32_21
  let c1_i32_22 : BitVec 32 := 1#32
  let v32 : BitVec 32 := Scalar.select v31 c1_i32_22 c4_i32_20
  let v33 : BitVec 32 := Scalar.remsi v30 v32
  let c0_i32_24 : BitVec 32 := 0#32
  let v35 : BitVec 1 := Scalar.cmpi .slt v33 c0_i32_24
  let c0_i32_25 : BitVec 32 := 0#32
  let v36 : BitVec 1 := Scalar.cmpi .slt v32 c0_i32_25
  let v37 : BitVec 1 := Scalar.xori v35 v36
  let c0_i32_23 : BitVec 32 := 0#32
  let v34 : BitVec 1 := Scalar.cmpi .ne v33 c0_i32_23
  let v38 : BitVec 1 := Scalar.andi v37 v34
  let v39 : BitVec 32 := Scalar.addi v33 v32
  let v40 : BitVec 32 := Scalar.select v38 v39 v33
  let c1024_i32 : BitVec 32 := 1024#32
  let v52 : BitVec 32 := Scalar.muli v40 c1024_i32
  let c8_i32_1929 : BitVec 32 := 8#32
  let v1946 : BitVec 32 := Scalar.subi v52 c8_i32_1929
  let c0_i32_1935 : BitVec 32 := 0#32
  ![0, v1946.toNat, 0]
def k0_cond3 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_26 : BitVec 32 := 0#32
  let v41 : BitVec 32 := Scalar.addi v2 c0_i32_26
  let c4_i32_27 : BitVec 32 := 4#32
  let c0_i32_28 : BitVec 32 := 0#32
  let v42 : BitVec 1 := Scalar.cmpi .eq c4_i32_27 c0_i32_28
  let c1_i32_29 : BitVec 32 := 1#32
  let v43 : BitVec 32 := Scalar.select v42 c1_i32_29 c4_i32_27
  let v44 : BitVec 32 := Scalar.remsi v41 v43
  let c0_i32_31 : BitVec 32 := 0#32
  let v46 : BitVec 1 := Scalar.cmpi .slt v44 c0_i32_31
  let c0_i32_32 : BitVec 32 := 0#32
  let v47 : BitVec 1 := Scalar.cmpi .slt v43 c0_i32_32
  let v48 : BitVec 1 := Scalar.xori v46 v47
  let c0_i32_30 : BitVec 32 := 0#32
  let v45 : BitVec 1 := Scalar.cmpi .ne v44 c0_i32_30
  let v49 : BitVec 1 := Scalar.andi v48 v45
  let v50 : BitVec 32 := Scalar.addi v44 v43
  let v51 : BitVec 32 := Scalar.select v49 v50 v44
  let c0_i32_38 : BitVec 32 := 0#32
  let v60 : BitVec 1 := Scalar.cmpi .sgt v51 c0_i32_38
  let v61 : BitVec 32 := Scalar.extui v60
  let c0_i32_39 : BitVec 32 := 0#32
  let v62 : BitVec 1 := Scalar.cmpi .ne v61 c0_i32_39
  v62

def k0_off2 (d0 : Dev nD) : Fin 3 → Nat :=
  let c1_i32_1930 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_26 : BitVec 32 := 0#32
  let v41 : BitVec 32 := Scalar.addi v2 c0_i32_26
  let c4_i32_27 : BitVec 32 := 4#32
  let c0_i32_28 : BitVec 32 := 0#32
  let v42 : BitVec 1 := Scalar.cmpi .eq c4_i32_27 c0_i32_28
  let c1_i32_29 : BitVec 32 := 1#32
  let v43 : BitVec 32 := Scalar.select v42 c1_i32_29 c4_i32_27
  let v44 : BitVec 32 := Scalar.remsi v41 v43
  let c0_i32_31 : BitVec 32 := 0#32
  let v46 : BitVec 1 := Scalar.cmpi .slt v44 c0_i32_31
  let c0_i32_32 : BitVec 32 := 0#32
  let v47 : BitVec 1 := Scalar.cmpi .slt v43 c0_i32_32
  let v48 : BitVec 1 := Scalar.xori v46 v47
  let c0_i32_30 : BitVec 32 := 0#32
  let v45 : BitVec 1 := Scalar.cmpi .ne v44 c0_i32_30
  let v49 : BitVec 1 := Scalar.andi v48 v45
  let v50 : BitVec 32 := Scalar.addi v44 v43
  let v51 : BitVec 32 := Scalar.select v49 v50 v44
  let c1024_i32_37 : BitVec 32 := 1024#32
  let v59 : BitVec 32 := Scalar.muli v51 c1024_i32_37
  let c8_i32_1929 : BitVec 32 := 8#32
  let v1946 : BitVec 32 := Scalar.subi v59 c8_i32_1929
  let c0_i32_1935 : BitVec 32 := 0#32
  ![1, v1946.toNat, 0]
def k0_cond5 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_19 : BitVec 32 := 0#32
  let v30 : BitVec 32 := Scalar.subi v2 c0_i32_19
  let c4_i32_20 : BitVec 32 := 4#32
  let c0_i32_21 : BitVec 32 := 0#32
  let v31 : BitVec 1 := Scalar.cmpi .eq c4_i32_20 c0_i32_21
  let c1_i32_22 : BitVec 32 := 1#32
  let v32 : BitVec 32 := Scalar.select v31 c1_i32_22 c4_i32_20
  let v33 : BitVec 32 := Scalar.remsi v30 v32
  let c0_i32_24 : BitVec 32 := 0#32
  let v35 : BitVec 1 := Scalar.cmpi .slt v33 c0_i32_24
  let c0_i32_25 : BitVec 32 := 0#32
  let v36 : BitVec 1 := Scalar.cmpi .slt v32 c0_i32_25
  let v37 : BitVec 1 := Scalar.xori v35 v36
  let c0_i32_23 : BitVec 32 := 0#32
  let v34 : BitVec 1 := Scalar.cmpi .ne v33 c0_i32_23
  let v38 : BitVec 1 := Scalar.andi v37 v34
  let v39 : BitVec 32 := Scalar.addi v33 v32
  let v40 : BitVec 32 := Scalar.select v38 v39 v33
  let c0_i32_43 : BitVec 32 := 0#32
  let v67 : BitVec 1 := Scalar.cmpi .sgt v40 c0_i32_43
  let v68 : BitVec 32 := Scalar.extui v67
  let c0_i32_44 : BitVec 32 := 0#32
  let v69 : BitVec 1 := Scalar.cmpi .ne v68 c0_i32_44
  v69

def k0_off3 (d0 : Dev nD) : Fin 3 → Nat :=
  let c0_i32_1930 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_19 : BitVec 32 := 0#32
  let v30 : BitVec 32 := Scalar.subi v2 c0_i32_19
  let c4_i32_20 : BitVec 32 := 4#32
  let c0_i32_21 : BitVec 32 := 0#32
  let v31 : BitVec 1 := Scalar.cmpi .eq c4_i32_20 c0_i32_21
  let c1_i32_22 : BitVec 32 := 1#32
  let v32 : BitVec 32 := Scalar.select v31 c1_i32_22 c4_i32_20
  let v33 : BitVec 32 := Scalar.remsi v30 v32
  let c0_i32_24 : BitVec 32 := 0#32
  let v35 : BitVec 1 := Scalar.cmpi .slt v33 c0_i32_24
  let c0_i32_25 : BitVec 32 := 0#32
  let v36 : BitVec 1 := Scalar.cmpi .slt v32 c0_i32_25
  let v37 : BitVec 1 := Scalar.xori v35 v36
  let c0_i32_23 : BitVec 32 := 0#32
  let v34 : BitVec 1 := Scalar.cmpi .ne v33 c0_i32_23
  let v38 : BitVec 1 := Scalar.andi v37 v34
  let v39 : BitVec 32 := Scalar.addi v33 v32
  let v40 : BitVec 32 := Scalar.select v38 v39 v33
  let c1024_i32_42 : BitVec 32 := 1024#32
  let v66 : BitVec 32 := Scalar.muli v40 c1024_i32_42
  let c8_i32_1929 : BitVec 32 := 8#32
  let v1946 : BitVec 32 := Scalar.subi v66 c8_i32_1929
  let c0_i32_1935 : BitVec 32 := 0#32
  ![0, v1946.toNat, 0]
def k0_cond7 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_26 : BitVec 32 := 0#32
  let v41 : BitVec 32 := Scalar.addi v2 c0_i32_26
  let c4_i32_27 : BitVec 32 := 4#32
  let c0_i32_28 : BitVec 32 := 0#32
  let v42 : BitVec 1 := Scalar.cmpi .eq c4_i32_27 c0_i32_28
  let c1_i32_29 : BitVec 32 := 1#32
  let v43 : BitVec 32 := Scalar.select v42 c1_i32_29 c4_i32_27
  let v44 : BitVec 32 := Scalar.remsi v41 v43
  let c0_i32_31 : BitVec 32 := 0#32
  let v46 : BitVec 1 := Scalar.cmpi .slt v44 c0_i32_31
  let c0_i32_32 : BitVec 32 := 0#32
  let v47 : BitVec 1 := Scalar.cmpi .slt v43 c0_i32_32
  let v48 : BitVec 1 := Scalar.xori v46 v47
  let c0_i32_30 : BitVec 32 := 0#32
  let v45 : BitVec 1 := Scalar.cmpi .ne v44 c0_i32_30
  let v49 : BitVec 1 := Scalar.andi v48 v45
  let v50 : BitVec 32 := Scalar.addi v44 v43
  let v51 : BitVec 32 := Scalar.select v49 v50 v44
  let c0_i32_48 : BitVec 32 := 0#32
  let v74 : BitVec 1 := Scalar.cmpi .sgt v51 c0_i32_48
  let v75 : BitVec 32 := Scalar.extui v74
  let c0_i32_49 : BitVec 32 := 0#32
  let v76 : BitVec 1 := Scalar.cmpi .ne v75 c0_i32_49
  v76

def k0_off4 (d0 : Dev nD) : Fin 3 → Nat :=
  let c1_i32_1930 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_26 : BitVec 32 := 0#32
  let v41 : BitVec 32 := Scalar.addi v2 c0_i32_26
  let c4_i32_27 : BitVec 32 := 4#32
  let c0_i32_28 : BitVec 32 := 0#32
  let v42 : BitVec 1 := Scalar.cmpi .eq c4_i32_27 c0_i32_28
  let c1_i32_29 : BitVec 32 := 1#32
  let v43 : BitVec 32 := Scalar.select v42 c1_i32_29 c4_i32_27
  let v44 : BitVec 32 := Scalar.remsi v41 v43
  let c0_i32_31 : BitVec 32 := 0#32
  let v46 : BitVec 1 := Scalar.cmpi .slt v44 c0_i32_31
  let c0_i32_32 : BitVec 32 := 0#32
  let v47 : BitVec 1 := Scalar.cmpi .slt v43 c0_i32_32
  let v48 : BitVec 1 := Scalar.xori v46 v47
  let c0_i32_30 : BitVec 32 := 0#32
  let v45 : BitVec 1 := Scalar.cmpi .ne v44 c0_i32_30
  let v49 : BitVec 1 := Scalar.andi v48 v45
  let v50 : BitVec 32 := Scalar.addi v44 v43
  let v51 : BitVec 32 := Scalar.select v49 v50 v44
  let c1024_i32_47 : BitVec 32 := 1024#32
  let v73 : BitVec 32 := Scalar.muli v51 c1024_i32_47
  let c8_i32_1929 : BitVec 32 := 8#32
  let v1946 : BitVec 32 := Scalar.subi v73 c8_i32_1929
  let c0_i32_1935 : BitVec 32 := 0#32
  ![1, v1946.toNat, 0]
def k0_dev3 (d0 : Dev nD) : Nat :=
  let c0_i32_108 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_107 : BitVec 32 := 1#32
  let v172 : BitVec 32 := Scalar.muli v24 c1_i32_107
  let v173 : BitVec 32 := Scalar.addi c0_i32_108 v172
  v173.toNat
def k0_dev4 (d0 : Dev nD) : Nat :=
  let c0_i32_126 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_125 : BitVec 32 := 1#32
  let v186 : BitVec 32 := Scalar.muli v13 c1_i32_125
  let v187 : BitVec 32 := Scalar.addi c0_i32_126 v186
  v187.toNat
def k0_dev5 (d0 : Dev nD) : Nat :=
  let c0_i32_191 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_190 : BitVec 32 := 1#32
  let v288 : BitVec 32 := Scalar.muli v24 c1_i32_190
  let v289 : BitVec 32 := Scalar.addi c0_i32_191 v288
  v289.toNat
def k0_dev6 (d0 : Dev nD) : Nat :=
  let c0_i32_208 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_207 : BitVec 32 := 1#32
  let v302 : BitVec 32 := Scalar.muli v13 c1_i32_207
  let v303 : BitVec 32 := Scalar.addi c0_i32_208 v302
  v303.toNat
def k0_cond9 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_213 : BitVec 32 := 0#32
  let v312 : BitVec 32 := Scalar.subi v2 c0_i32_213
  let c1_i32_214 : BitVec 32 := 1#32
  let v313 : BitVec 32 := Scalar.subi v312 c1_i32_214
  let c4_i32_215 : BitVec 32 := 4#32
  let c0_i32_216 : BitVec 32 := 0#32
  let v314 : BitVec 1 := Scalar.cmpi .eq c4_i32_215 c0_i32_216
  let c1_i32_217 : BitVec 32 := 1#32
  let v315 : BitVec 32 := Scalar.select v314 c1_i32_217 c4_i32_215
  let v316 : BitVec 32 := Scalar.remsi v313 v315
  let c0_i32_219 : BitVec 32 := 0#32
  let v318 : BitVec 1 := Scalar.cmpi .slt v316 c0_i32_219
  let c0_i32_220 : BitVec 32 := 0#32
  let v319 : BitVec 1 := Scalar.cmpi .slt v315 c0_i32_220
  let v320 : BitVec 1 := Scalar.xori v318 v319
  let c0_i32_218 : BitVec 32 := 0#32
  let v317 : BitVec 1 := Scalar.cmpi .ne v316 c0_i32_218
  let v321 : BitVec 1 := Scalar.andi v320 v317
  let v322 : BitVec 32 := Scalar.addi v316 v315
  let v323 : BitVec 32 := Scalar.select v321 v322 v316
  let c0_i32_230 : BitVec 32 := 0#32
  let v337 : BitVec 1 := Scalar.cmpi .sgt v323 c0_i32_230
  let v338 : BitVec 32 := Scalar.extui v337
  let c0_i32_231 : BitVec 32 := 0#32
  let v339 : BitVec 1 := Scalar.cmpi .ne v338 c0_i32_231
  v339

def k0_off5 (d0 : Dev nD) : Fin 3 → Nat :=
  let c0_i32_1930 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_213 : BitVec 32 := 0#32
  let v312 : BitVec 32 := Scalar.subi v2 c0_i32_213
  let c1_i32_214 : BitVec 32 := 1#32
  let v313 : BitVec 32 := Scalar.subi v312 c1_i32_214
  let c4_i32_215 : BitVec 32 := 4#32
  let c0_i32_216 : BitVec 32 := 0#32
  let v314 : BitVec 1 := Scalar.cmpi .eq c4_i32_215 c0_i32_216
  let c1_i32_217 : BitVec 32 := 1#32
  let v315 : BitVec 32 := Scalar.select v314 c1_i32_217 c4_i32_215
  let v316 : BitVec 32 := Scalar.remsi v313 v315
  let c0_i32_219 : BitVec 32 := 0#32
  let v318 : BitVec 1 := Scalar.cmpi .slt v316 c0_i32_219
  let c0_i32_220 : BitVec 32 := 0#32
  let v319 : BitVec 1 := Scalar.cmpi .slt v315 c0_i32_220
  let v320 : BitVec 1 := Scalar.xori v318 v319
  let c0_i32_218 : BitVec 32 := 0#32
  let v317 : BitVec 1 := Scalar.cmpi .ne v316 c0_i32_218
  let v321 : BitVec 1 := Scalar.andi v320 v317
  let v322 : BitVec 32 := Scalar.addi v316 v315
  let v323 : BitVec 32 := Scalar.select v321 v322 v316
  let c1024_i32_229 : BitVec 32 := 1024#32
  let v336 : BitVec 32 := Scalar.muli v323 c1024_i32_229
  let c8_i32_1929 : BitVec 32 := 8#32
  let v1946 : BitVec 32 := Scalar.subi v336 c8_i32_1929
  let c0_i32_1935 : BitVec 32 := 0#32
  ![0, v1946.toNat, 0]
def k0_cond11 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_221 : BitVec 32 := 0#32
  let v324 : BitVec 32 := Scalar.addi v2 c0_i32_221
  let c1_i32_222 : BitVec 32 := 1#32
  let v325 : BitVec 32 := Scalar.addi v324 c1_i32_222
  let c4_i32_223 : BitVec 32 := 4#32
  let c0_i32_224 : BitVec 32 := 0#32
  let v326 : BitVec 1 := Scalar.cmpi .eq c4_i32_223 c0_i32_224
  let c1_i32_225 : BitVec 32 := 1#32
  let v327 : BitVec 32 := Scalar.select v326 c1_i32_225 c4_i32_223
  let v328 : BitVec 32 := Scalar.remsi v325 v327
  let c0_i32_227 : BitVec 32 := 0#32
  let v330 : BitVec 1 := Scalar.cmpi .slt v328 c0_i32_227
  let c0_i32_228 : BitVec 32 := 0#32
  let v331 : BitVec 1 := Scalar.cmpi .slt v327 c0_i32_228
  let v332 : BitVec 1 := Scalar.xori v330 v331
  let c0_i32_226 : BitVec 32 := 0#32
  let v329 : BitVec 1 := Scalar.cmpi .ne v328 c0_i32_226
  let v333 : BitVec 1 := Scalar.andi v332 v329
  let v334 : BitVec 32 := Scalar.addi v328 v327
  let v335 : BitVec 32 := Scalar.select v333 v334 v328
  let c0_i32_235 : BitVec 32 := 0#32
  let v344 : BitVec 1 := Scalar.cmpi .sgt v335 c0_i32_235
  let v345 : BitVec 32 := Scalar.extui v344
  let c0_i32_236 : BitVec 32 := 0#32
  let v346 : BitVec 1 := Scalar.cmpi .ne v345 c0_i32_236
  v346

def k0_off6 (d0 : Dev nD) : Fin 3 → Nat :=
  let c1_i32_1930 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_221 : BitVec 32 := 0#32
  let v324 : BitVec 32 := Scalar.addi v2 c0_i32_221
  let c1_i32_222 : BitVec 32 := 1#32
  let v325 : BitVec 32 := Scalar.addi v324 c1_i32_222
  let c4_i32_223 : BitVec 32 := 4#32
  let c0_i32_224 : BitVec 32 := 0#32
  let v326 : BitVec 1 := Scalar.cmpi .eq c4_i32_223 c0_i32_224
  let c1_i32_225 : BitVec 32 := 1#32
  let v327 : BitVec 32 := Scalar.select v326 c1_i32_225 c4_i32_223
  let v328 : BitVec 32 := Scalar.remsi v325 v327
  let c0_i32_227 : BitVec 32 := 0#32
  let v330 : BitVec 1 := Scalar.cmpi .slt v328 c0_i32_227
  let c0_i32_228 : BitVec 32 := 0#32
  let v331 : BitVec 1 := Scalar.cmpi .slt v327 c0_i32_228
  let v332 : BitVec 1 := Scalar.xori v330 v331
  let c0_i32_226 : BitVec 32 := 0#32
  let v329 : BitVec 1 := Scalar.cmpi .ne v328 c0_i32_226
  let v333 : BitVec 1 := Scalar.andi v332 v329
  let v334 : BitVec 32 := Scalar.addi v328 v327
  let v335 : BitVec 32 := Scalar.select v333 v334 v328
  let c1024_i32_234 : BitVec 32 := 1024#32
  let v343 : BitVec 32 := Scalar.muli v335 c1024_i32_234
  let c8_i32_1929 : BitVec 32 := 8#32
  let v1946 : BitVec 32 := Scalar.subi v343 c8_i32_1929
  let c0_i32_1935 : BitVec 32 := 0#32
  ![1, v1946.toNat, 0]
def k0_cond13 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_239 : BitVec 32 := 1#32
  let v350 : BitVec 32 := Scalar.subi v2 c1_i32_239
  let c4_i32_240 : BitVec 32 := 4#32
  let c0_i32_241 : BitVec 32 := 0#32
  let v351 : BitVec 1 := Scalar.cmpi .eq c4_i32_240 c0_i32_241
  let c1_i32_242 : BitVec 32 := 1#32
  let v352 : BitVec 32 := Scalar.select v351 c1_i32_242 c4_i32_240
  let v353 : BitVec 32 := Scalar.remsi v350 v352
  let c0_i32_244 : BitVec 32 := 0#32
  let v355 : BitVec 1 := Scalar.cmpi .slt v353 c0_i32_244
  let c0_i32_245 : BitVec 32 := 0#32
  let v356 : BitVec 1 := Scalar.cmpi .slt v352 c0_i32_245
  let v357 : BitVec 1 := Scalar.xori v355 v356
  let c0_i32_243 : BitVec 32 := 0#32
  let v354 : BitVec 1 := Scalar.cmpi .ne v353 c0_i32_243
  let v358 : BitVec 1 := Scalar.andi v357 v354
  let v359 : BitVec 32 := Scalar.addi v353 v352
  let v360 : BitVec 32 := Scalar.select v358 v359 v353
  let c0_i32_254 : BitVec 32 := 0#32
  let v373 : BitVec 1 := Scalar.cmpi .sgt v360 c0_i32_254
  let v374 : BitVec 32 := Scalar.extui v373
  let c0_i32_255 : BitVec 32 := 0#32
  let v375 : BitVec 1 := Scalar.cmpi .ne v374 c0_i32_255
  v375

def k0_off7 (d0 : Dev nD) : Fin 3 → Nat :=
  let c0_i32_1930 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_239 : BitVec 32 := 1#32
  let v350 : BitVec 32 := Scalar.subi v2 c1_i32_239
  let c4_i32_240 : BitVec 32 := 4#32
  let c0_i32_241 : BitVec 32 := 0#32
  let v351 : BitVec 1 := Scalar.cmpi .eq c4_i32_240 c0_i32_241
  let c1_i32_242 : BitVec 32 := 1#32
  let v352 : BitVec 32 := Scalar.select v351 c1_i32_242 c4_i32_240
  let v353 : BitVec 32 := Scalar.remsi v350 v352
  let c0_i32_244 : BitVec 32 := 0#32
  let v355 : BitVec 1 := Scalar.cmpi .slt v353 c0_i32_244
  let c0_i32_245 : BitVec 32 := 0#32
  let v356 : BitVec 1 := Scalar.cmpi .slt v352 c0_i32_245
  let v357 : BitVec 1 := Scalar.xori v355 v356
  let c0_i32_243 : BitVec 32 := 0#32
  let v354 : BitVec 1 := Scalar.cmpi .ne v353 c0_i32_243
  let v358 : BitVec 1 := Scalar.andi v357 v354
  let v359 : BitVec 32 := Scalar.addi v353 v352
  let v360 : BitVec 32 := Scalar.select v358 v359 v353
  let c1024_i32_253 : BitVec 32 := 1024#32
  let v372 : BitVec 32 := Scalar.muli v360 c1024_i32_253
  let c8_i32_1929 : BitVec 32 := 8#32
  let v1946 : BitVec 32 := Scalar.subi v372 c8_i32_1929
  let c0_i32_1935 : BitVec 32 := 0#32
  ![0, v1946.toNat, 0]
def k0_cond15 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_246 : BitVec 32 := 1#32
  let v361 : BitVec 32 := Scalar.addi v2 c1_i32_246
  let c4_i32_247 : BitVec 32 := 4#32
  let c0_i32_248 : BitVec 32 := 0#32
  let v362 : BitVec 1 := Scalar.cmpi .eq c4_i32_247 c0_i32_248
  let c1_i32_249 : BitVec 32 := 1#32
  let v363 : BitVec 32 := Scalar.select v362 c1_i32_249 c4_i32_247
  let v364 : BitVec 32 := Scalar.remsi v361 v363
  let c0_i32_251 : BitVec 32 := 0#32
  let v366 : BitVec 1 := Scalar.cmpi .slt v364 c0_i32_251
  let c0_i32_252 : BitVec 32 := 0#32
  let v367 : BitVec 1 := Scalar.cmpi .slt v363 c0_i32_252
  let v368 : BitVec 1 := Scalar.xori v366 v367
  let c0_i32_250 : BitVec 32 := 0#32
  let v365 : BitVec 1 := Scalar.cmpi .ne v364 c0_i32_250
  let v369 : BitVec 1 := Scalar.andi v368 v365
  let v370 : BitVec 32 := Scalar.addi v364 v363
  let v371 : BitVec 32 := Scalar.select v369 v370 v364
  let c0_i32_259 : BitVec 32 := 0#32
  let v380 : BitVec 1 := Scalar.cmpi .sgt v371 c0_i32_259
  let v381 : BitVec 32 := Scalar.extui v380
  let c0_i32_260 : BitVec 32 := 0#32
  let v382 : BitVec 1 := Scalar.cmpi .ne v381 c0_i32_260
  v382

def k0_off8 (d0 : Dev nD) : Fin 3 → Nat :=
  let c1_i32_1930 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_246 : BitVec 32 := 1#32
  let v361 : BitVec 32 := Scalar.addi v2 c1_i32_246
  let c4_i32_247 : BitVec 32 := 4#32
  let c0_i32_248 : BitVec 32 := 0#32
  let v362 : BitVec 1 := Scalar.cmpi .eq c4_i32_247 c0_i32_248
  let c1_i32_249 : BitVec 32 := 1#32
  let v363 : BitVec 32 := Scalar.select v362 c1_i32_249 c4_i32_247
  let v364 : BitVec 32 := Scalar.remsi v361 v363
  let c0_i32_251 : BitVec 32 := 0#32
  let v366 : BitVec 1 := Scalar.cmpi .slt v364 c0_i32_251
  let c0_i32_252 : BitVec 32 := 0#32
  let v367 : BitVec 1 := Scalar.cmpi .slt v363 c0_i32_252
  let v368 : BitVec 1 := Scalar.xori v366 v367
  let c0_i32_250 : BitVec 32 := 0#32
  let v365 : BitVec 1 := Scalar.cmpi .ne v364 c0_i32_250
  let v369 : BitVec 1 := Scalar.andi v368 v365
  let v370 : BitVec 32 := Scalar.addi v364 v363
  let v371 : BitVec 32 := Scalar.select v369 v370 v364
  let c1024_i32_258 : BitVec 32 := 1024#32
  let v379 : BitVec 32 := Scalar.muli v371 c1024_i32_258
  let c8_i32_1929 : BitVec 32 := 8#32
  let v1946 : BitVec 32 := Scalar.subi v379 c8_i32_1929
  let c0_i32_1935 : BitVec 32 := 0#32
  ![1, v1946.toNat, 0]
def k0_dev7 (d0 : Dev nD) : Nat :=
  let c0_i32_346 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_345 : BitVec 32 := 1#32
  let v490 : BitVec 32 := Scalar.muli v24 c1_i32_345
  let v491 : BitVec 32 := Scalar.addi c0_i32_346 v490
  v491.toNat
def k0_dev8 (d0 : Dev nD) : Nat :=
  let c0_i32_382 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_381 : BitVec 32 := 1#32
  let v516 : BitVec 32 := Scalar.muli v13 c1_i32_381
  let v517 : BitVec 32 := Scalar.addi c0_i32_382 v516
  v517.toNat
def k0_dev9 (d0 : Dev nD) : Nat :=
  let c0_i32_464 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_463 : BitVec 32 := 1#32
  let v632 : BitVec 32 := Scalar.muli v13 c1_i32_463
  let v633 : BitVec 32 := Scalar.addi c0_i32_464 v632
  v633.toNat
def k0_dev10 (d0 : Dev nD) : Nat :=
  let c0_i32_473 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_472 : BitVec 32 := 1#32
  let v634 : BitVec 32 := Scalar.muli v24 c1_i32_472
  let v635 : BitVec 32 := Scalar.addi c0_i32_473 v634
  v635.toNat
def k0_dev11 (d0 : Dev nD) : Nat :=
  let c0_i32_503 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_502 : BitVec 32 := 1#32
  let v662 : BitVec 32 := Scalar.muli v24 c1_i32_502
  let v663 : BitVec 32 := Scalar.addi c0_i32_503 v662
  v663.toNat
def k0_dev12 (d0 : Dev nD) : Nat :=
  let c0_i32_513 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_512 : BitVec 32 := 1#32
  let v664 : BitVec 32 := Scalar.muli v13 c1_i32_512
  let v665 : BitVec 32 := Scalar.addi c0_i32_513 v664
  v665.toNat
def k0_cond17 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_518 : BitVec 32 := 1#32
  let v674 : BitVec 32 := Scalar.subi v2 c1_i32_518
  let c1_i32_519 : BitVec 32 := 1#32
  let v675 : BitVec 32 := Scalar.subi v674 c1_i32_519
  let c4_i32_520 : BitVec 32 := 4#32
  let c0_i32_521 : BitVec 32 := 0#32
  let v676 : BitVec 1 := Scalar.cmpi .eq c4_i32_520 c0_i32_521
  let c1_i32_522 : BitVec 32 := 1#32
  let v677 : BitVec 32 := Scalar.select v676 c1_i32_522 c4_i32_520
  let v678 : BitVec 32 := Scalar.remsi v675 v677
  let c0_i32_524 : BitVec 32 := 0#32
  let v680 : BitVec 1 := Scalar.cmpi .slt v678 c0_i32_524
  let c0_i32_525 : BitVec 32 := 0#32
  let v681 : BitVec 1 := Scalar.cmpi .slt v677 c0_i32_525
  let v682 : BitVec 1 := Scalar.xori v680 v681
  let c0_i32_523 : BitVec 32 := 0#32
  let v679 : BitVec 1 := Scalar.cmpi .ne v678 c0_i32_523
  let v683 : BitVec 1 := Scalar.andi v682 v679
  let v684 : BitVec 32 := Scalar.addi v678 v677
  let v685 : BitVec 32 := Scalar.select v683 v684 v678
  let c0_i32_535 : BitVec 32 := 0#32
  let v699 : BitVec 1 := Scalar.cmpi .sgt v685 c0_i32_535
  let v700 : BitVec 32 := Scalar.extui v699
  let c0_i32_536 : BitVec 32 := 0#32
  let v701 : BitVec 1 := Scalar.cmpi .ne v700 c0_i32_536
  v701

def k0_off9 (d0 : Dev nD) : Fin 3 → Nat :=
  let c0_i32_1930 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_518 : BitVec 32 := 1#32
  let v674 : BitVec 32 := Scalar.subi v2 c1_i32_518
  let c1_i32_519 : BitVec 32 := 1#32
  let v675 : BitVec 32 := Scalar.subi v674 c1_i32_519
  let c4_i32_520 : BitVec 32 := 4#32
  let c0_i32_521 : BitVec 32 := 0#32
  let v676 : BitVec 1 := Scalar.cmpi .eq c4_i32_520 c0_i32_521
  let c1_i32_522 : BitVec 32 := 1#32
  let v677 : BitVec 32 := Scalar.select v676 c1_i32_522 c4_i32_520
  let v678 : BitVec 32 := Scalar.remsi v675 v677
  let c0_i32_524 : BitVec 32 := 0#32
  let v680 : BitVec 1 := Scalar.cmpi .slt v678 c0_i32_524
  let c0_i32_525 : BitVec 32 := 0#32
  let v681 : BitVec 1 := Scalar.cmpi .slt v677 c0_i32_525
  let v682 : BitVec 1 := Scalar.xori v680 v681
  let c0_i32_523 : BitVec 32 := 0#32
  let v679 : BitVec 1 := Scalar.cmpi .ne v678 c0_i32_523
  let v683 : BitVec 1 := Scalar.andi v682 v679
  let v684 : BitVec 32 := Scalar.addi v678 v677
  let v685 : BitVec 32 := Scalar.select v683 v684 v678
  let c1024_i32_534 : BitVec 32 := 1024#32
  let v698 : BitVec 32 := Scalar.muli v685 c1024_i32_534
  let c8_i32_1929 : BitVec 32 := 8#32
  let v1946 : BitVec 32 := Scalar.subi v698 c8_i32_1929
  let c0_i32_1935 : BitVec 32 := 0#32
  ![0, v1946.toNat, 0]
def k0_cond19 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_526 : BitVec 32 := 1#32
  let v686 : BitVec 32 := Scalar.addi v2 c1_i32_526
  let c1_i32_527 : BitVec 32 := 1#32
  let v687 : BitVec 32 := Scalar.addi v686 c1_i32_527
  let c4_i32_528 : BitVec 32 := 4#32
  let c0_i32_529 : BitVec 32 := 0#32
  let v688 : BitVec 1 := Scalar.cmpi .eq c4_i32_528 c0_i32_529
  let c1_i32_530 : BitVec 32 := 1#32
  let v689 : BitVec 32 := Scalar.select v688 c1_i32_530 c4_i32_528
  let v690 : BitVec 32 := Scalar.remsi v687 v689
  let c0_i32_532 : BitVec 32 := 0#32
  let v692 : BitVec 1 := Scalar.cmpi .slt v690 c0_i32_532
  let c0_i32_533 : BitVec 32 := 0#32
  let v693 : BitVec 1 := Scalar.cmpi .slt v689 c0_i32_533
  let v694 : BitVec 1 := Scalar.xori v692 v693
  let c0_i32_531 : BitVec 32 := 0#32
  let v691 : BitVec 1 := Scalar.cmpi .ne v690 c0_i32_531
  let v695 : BitVec 1 := Scalar.andi v694 v691
  let v696 : BitVec 32 := Scalar.addi v690 v689
  let v697 : BitVec 32 := Scalar.select v695 v696 v690
  let c0_i32_540 : BitVec 32 := 0#32
  let v706 : BitVec 1 := Scalar.cmpi .sgt v697 c0_i32_540
  let v707 : BitVec 32 := Scalar.extui v706
  let c0_i32_541 : BitVec 32 := 0#32
  let v708 : BitVec 1 := Scalar.cmpi .ne v707 c0_i32_541
  v708

def k0_off10 (d0 : Dev nD) : Fin 3 → Nat :=
  let c1_i32_1930 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_526 : BitVec 32 := 1#32
  let v686 : BitVec 32 := Scalar.addi v2 c1_i32_526
  let c1_i32_527 : BitVec 32 := 1#32
  let v687 : BitVec 32 := Scalar.addi v686 c1_i32_527
  let c4_i32_528 : BitVec 32 := 4#32
  let c0_i32_529 : BitVec 32 := 0#32
  let v688 : BitVec 1 := Scalar.cmpi .eq c4_i32_528 c0_i32_529
  let c1_i32_530 : BitVec 32 := 1#32
  let v689 : BitVec 32 := Scalar.select v688 c1_i32_530 c4_i32_528
  let v690 : BitVec 32 := Scalar.remsi v687 v689
  let c0_i32_532 : BitVec 32 := 0#32
  let v692 : BitVec 1 := Scalar.cmpi .slt v690 c0_i32_532
  let c0_i32_533 : BitVec 32 := 0#32
  let v693 : BitVec 1 := Scalar.cmpi .slt v689 c0_i32_533
  let v694 : BitVec 1 := Scalar.xori v692 v693
  let c0_i32_531 : BitVec 32 := 0#32
  let v691 : BitVec 1 := Scalar.cmpi .ne v690 c0_i32_531
  let v695 : BitVec 1 := Scalar.andi v694 v691
  let v696 : BitVec 32 := Scalar.addi v690 v689
  let v697 : BitVec 32 := Scalar.select v695 v696 v690
  let c1024_i32_539 : BitVec 32 := 1024#32
  let v705 : BitVec 32 := Scalar.muli v697 c1024_i32_539
  let c8_i32_1929 : BitVec 32 := 8#32
  let v1946 : BitVec 32 := Scalar.subi v705 c8_i32_1929
  let c0_i32_1935 : BitVec 32 := 0#32
  ![1, v1946.toNat, 0]
def k0_cond21 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_544 : BitVec 32 := 2#32
  let v712 : BitVec 32 := Scalar.subi v2 c2_i32_544
  let c4_i32_545 : BitVec 32 := 4#32
  let c0_i32_546 : BitVec 32 := 0#32
  let v713 : BitVec 1 := Scalar.cmpi .eq c4_i32_545 c0_i32_546
  let c1_i32_547 : BitVec 32 := 1#32
  let v714 : BitVec 32 := Scalar.select v713 c1_i32_547 c4_i32_545
  let v715 : BitVec 32 := Scalar.remsi v712 v714
  let c0_i32_549 : BitVec 32 := 0#32
  let v717 : BitVec 1 := Scalar.cmpi .slt v715 c0_i32_549
  let c0_i32_550 : BitVec 32 := 0#32
  let v718 : BitVec 1 := Scalar.cmpi .slt v714 c0_i32_550
  let v719 : BitVec 1 := Scalar.xori v717 v718
  let c0_i32_548 : BitVec 32 := 0#32
  let v716 : BitVec 1 := Scalar.cmpi .ne v715 c0_i32_548
  let v720 : BitVec 1 := Scalar.andi v719 v716
  let v721 : BitVec 32 := Scalar.addi v715 v714
  let v722 : BitVec 32 := Scalar.select v720 v721 v715
  let c0_i32_559 : BitVec 32 := 0#32
  let v735 : BitVec 1 := Scalar.cmpi .sgt v722 c0_i32_559
  let v736 : BitVec 32 := Scalar.extui v735
  let c0_i32_560 : BitVec 32 := 0#32
  let v737 : BitVec 1 := Scalar.cmpi .ne v736 c0_i32_560
  v737

def k0_off11 (d0 : Dev nD) : Fin 3 → Nat :=
  let c0_i32_1930 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_544 : BitVec 32 := 2#32
  let v712 : BitVec 32 := Scalar.subi v2 c2_i32_544
  let c4_i32_545 : BitVec 32 := 4#32
  let c0_i32_546 : BitVec 32 := 0#32
  let v713 : BitVec 1 := Scalar.cmpi .eq c4_i32_545 c0_i32_546
  let c1_i32_547 : BitVec 32 := 1#32
  let v714 : BitVec 32 := Scalar.select v713 c1_i32_547 c4_i32_545
  let v715 : BitVec 32 := Scalar.remsi v712 v714
  let c0_i32_549 : BitVec 32 := 0#32
  let v717 : BitVec 1 := Scalar.cmpi .slt v715 c0_i32_549
  let c0_i32_550 : BitVec 32 := 0#32
  let v718 : BitVec 1 := Scalar.cmpi .slt v714 c0_i32_550
  let v719 : BitVec 1 := Scalar.xori v717 v718
  let c0_i32_548 : BitVec 32 := 0#32
  let v716 : BitVec 1 := Scalar.cmpi .ne v715 c0_i32_548
  let v720 : BitVec 1 := Scalar.andi v719 v716
  let v721 : BitVec 32 := Scalar.addi v715 v714
  let v722 : BitVec 32 := Scalar.select v720 v721 v715
  let c1024_i32_558 : BitVec 32 := 1024#32
  let v734 : BitVec 32 := Scalar.muli v722 c1024_i32_558
  let c8_i32_1929 : BitVec 32 := 8#32
  let v1946 : BitVec 32 := Scalar.subi v734 c8_i32_1929
  let c0_i32_1935 : BitVec 32 := 0#32
  ![0, v1946.toNat, 0]
def k0_cond23 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_551 : BitVec 32 := 2#32
  let v723 : BitVec 32 := Scalar.addi v2 c2_i32_551
  let c4_i32_552 : BitVec 32 := 4#32
  let c0_i32_553 : BitVec 32 := 0#32
  let v724 : BitVec 1 := Scalar.cmpi .eq c4_i32_552 c0_i32_553
  let c1_i32_554 : BitVec 32 := 1#32
  let v725 : BitVec 32 := Scalar.select v724 c1_i32_554 c4_i32_552
  let v726 : BitVec 32 := Scalar.remsi v723 v725
  let c0_i32_556 : BitVec 32 := 0#32
  let v728 : BitVec 1 := Scalar.cmpi .slt v726 c0_i32_556
  let c0_i32_557 : BitVec 32 := 0#32
  let v729 : BitVec 1 := Scalar.cmpi .slt v725 c0_i32_557
  let v730 : BitVec 1 := Scalar.xori v728 v729
  let c0_i32_555 : BitVec 32 := 0#32
  let v727 : BitVec 1 := Scalar.cmpi .ne v726 c0_i32_555
  let v731 : BitVec 1 := Scalar.andi v730 v727
  let v732 : BitVec 32 := Scalar.addi v726 v725
  let v733 : BitVec 32 := Scalar.select v731 v732 v726
  let c0_i32_564 : BitVec 32 := 0#32
  let v742 : BitVec 1 := Scalar.cmpi .sgt v733 c0_i32_564
  let v743 : BitVec 32 := Scalar.extui v742
  let c0_i32_565 : BitVec 32 := 0#32
  let v744 : BitVec 1 := Scalar.cmpi .ne v743 c0_i32_565
  v744

def k0_off12 (d0 : Dev nD) : Fin 3 → Nat :=
  let c1_i32_1930 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_551 : BitVec 32 := 2#32
  let v723 : BitVec 32 := Scalar.addi v2 c2_i32_551
  let c4_i32_552 : BitVec 32 := 4#32
  let c0_i32_553 : BitVec 32 := 0#32
  let v724 : BitVec 1 := Scalar.cmpi .eq c4_i32_552 c0_i32_553
  let c1_i32_554 : BitVec 32 := 1#32
  let v725 : BitVec 32 := Scalar.select v724 c1_i32_554 c4_i32_552
  let v726 : BitVec 32 := Scalar.remsi v723 v725
  let c0_i32_556 : BitVec 32 := 0#32
  let v728 : BitVec 1 := Scalar.cmpi .slt v726 c0_i32_556
  let c0_i32_557 : BitVec 32 := 0#32
  let v729 : BitVec 1 := Scalar.cmpi .slt v725 c0_i32_557
  let v730 : BitVec 1 := Scalar.xori v728 v729
  let c0_i32_555 : BitVec 32 := 0#32
  let v727 : BitVec 1 := Scalar.cmpi .ne v726 c0_i32_555
  let v731 : BitVec 1 := Scalar.andi v730 v727
  let v732 : BitVec 32 := Scalar.addi v726 v725
  let v733 : BitVec 32 := Scalar.select v731 v732 v726
  let c1024_i32_563 : BitVec 32 := 1024#32
  let v741 : BitVec 32 := Scalar.muli v733 c1024_i32_563
  let c8_i32_1929 : BitVec 32 := 8#32
  let v1946 : BitVec 32 := Scalar.subi v741 c8_i32_1929
  let c0_i32_1935 : BitVec 32 := 0#32
  ![1, v1946.toNat, 0]
def k0_dev13 (d0 : Dev nD) : Nat :=
  let c0_i32_667 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_666 : BitVec 32 := 1#32
  let v860 : BitVec 32 := Scalar.muli v24 c1_i32_666
  let v861 : BitVec 32 := Scalar.addi c0_i32_667 v860
  v861.toNat
def k0_dev14 (d0 : Dev nD) : Nat :=
  let c0_i32_719 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_718 : BitVec 32 := 1#32
  let v894 : BitVec 32 := Scalar.muli v13 c1_i32_718
  let v895 : BitVec 32 := Scalar.addi c0_i32_719 v894
  v895.toNat
def k0_dev15 (d0 : Dev nD) : Nat :=
  let c0_i32_819 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_818 : BitVec 32 := 1#32
  let v1014 : BitVec 32 := Scalar.muli v24 c1_i32_818
  let v1015 : BitVec 32 := Scalar.addi c0_i32_819 v1014
  v1015.toNat
def k0_dev16 (d0 : Dev nD) : Nat :=
  let c0_i32_868 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_867 : BitVec 32 := 1#32
  let v1046 : BitVec 32 := Scalar.muli v13 c1_i32_867
  let v1047 : BitVec 32 := Scalar.addi c0_i32_868 v1046
  v1047.toNat
def k0_cond25 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_873 : BitVec 32 := 2#32
  let v1056 : BitVec 32 := Scalar.subi v2 c2_i32_873
  let c1_i32_874 : BitVec 32 := 1#32
  let v1057 : BitVec 32 := Scalar.subi v1056 c1_i32_874
  let c4_i32_875 : BitVec 32 := 4#32
  let c0_i32_876 : BitVec 32 := 0#32
  let v1058 : BitVec 1 := Scalar.cmpi .eq c4_i32_875 c0_i32_876
  let c1_i32_877 : BitVec 32 := 1#32
  let v1059 : BitVec 32 := Scalar.select v1058 c1_i32_877 c4_i32_875
  let v1060 : BitVec 32 := Scalar.remsi v1057 v1059
  let c0_i32_879 : BitVec 32 := 0#32
  let v1062 : BitVec 1 := Scalar.cmpi .slt v1060 c0_i32_879
  let c0_i32_880 : BitVec 32 := 0#32
  let v1063 : BitVec 1 := Scalar.cmpi .slt v1059 c0_i32_880
  let v1064 : BitVec 1 := Scalar.xori v1062 v1063
  let c0_i32_878 : BitVec 32 := 0#32
  let v1061 : BitVec 1 := Scalar.cmpi .ne v1060 c0_i32_878
  let v1065 : BitVec 1 := Scalar.andi v1064 v1061
  let v1066 : BitVec 32 := Scalar.addi v1060 v1059
  let v1067 : BitVec 32 := Scalar.select v1065 v1066 v1060
  let c0_i32_890 : BitVec 32 := 0#32
  let v1081 : BitVec 1 := Scalar.cmpi .sgt v1067 c0_i32_890
  let v1082 : BitVec 32 := Scalar.extui v1081
  let c0_i32_891 : BitVec 32 := 0#32
  let v1083 : BitVec 1 := Scalar.cmpi .ne v1082 c0_i32_891
  v1083

def k0_off13 (d0 : Dev nD) : Fin 3 → Nat :=
  let c0_i32_1930 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_873 : BitVec 32 := 2#32
  let v1056 : BitVec 32 := Scalar.subi v2 c2_i32_873
  let c1_i32_874 : BitVec 32 := 1#32
  let v1057 : BitVec 32 := Scalar.subi v1056 c1_i32_874
  let c4_i32_875 : BitVec 32 := 4#32
  let c0_i32_876 : BitVec 32 := 0#32
  let v1058 : BitVec 1 := Scalar.cmpi .eq c4_i32_875 c0_i32_876
  let c1_i32_877 : BitVec 32 := 1#32
  let v1059 : BitVec 32 := Scalar.select v1058 c1_i32_877 c4_i32_875
  let v1060 : BitVec 32 := Scalar.remsi v1057 v1059
  let c0_i32_879 : BitVec 32 := 0#32
  let v1062 : BitVec 1 := Scalar.cmpi .slt v1060 c0_i32_879
  let c0_i32_880 : BitVec 32 := 0#32
  let v1063 : BitVec 1 := Scalar.cmpi .slt v1059 c0_i32_880
  let v1064 : BitVec 1 := Scalar.xori v1062 v1063
  let c0_i32_878 : BitVec 32 := 0#32
  let v1061 : BitVec 1 := Scalar.cmpi .ne v1060 c0_i32_878
  let v1065 : BitVec 1 := Scalar.andi v1064 v1061
  let v1066 : BitVec 32 := Scalar.addi v1060 v1059
  let v1067 : BitVec 32 := Scalar.select v1065 v1066 v1060
  let c1024_i32_889 : BitVec 32 := 1024#32
  let v1080 : BitVec 32 := Scalar.muli v1067 c1024_i32_889
  let c8_i32_1929 : BitVec 32 := 8#32
  let v1946 : BitVec 32 := Scalar.subi v1080 c8_i32_1929
  let c0_i32_1935 : BitVec 32 := 0#32
  ![0, v1946.toNat, 0]
def k0_cond27 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_881 : BitVec 32 := 2#32
  let v1068 : BitVec 32 := Scalar.addi v2 c2_i32_881
  let c1_i32_882 : BitVec 32 := 1#32
  let v1069 : BitVec 32 := Scalar.addi v1068 c1_i32_882
  let c4_i32_883 : BitVec 32 := 4#32
  let c0_i32_884 : BitVec 32 := 0#32
  let v1070 : BitVec 1 := Scalar.cmpi .eq c4_i32_883 c0_i32_884
  let c1_i32_885 : BitVec 32 := 1#32
  let v1071 : BitVec 32 := Scalar.select v1070 c1_i32_885 c4_i32_883
  let v1072 : BitVec 32 := Scalar.remsi v1069 v1071
  let c0_i32_887 : BitVec 32 := 0#32
  let v1074 : BitVec 1 := Scalar.cmpi .slt v1072 c0_i32_887
  let c0_i32_888 : BitVec 32 := 0#32
  let v1075 : BitVec 1 := Scalar.cmpi .slt v1071 c0_i32_888
  let v1076 : BitVec 1 := Scalar.xori v1074 v1075
  let c0_i32_886 : BitVec 32 := 0#32
  let v1073 : BitVec 1 := Scalar.cmpi .ne v1072 c0_i32_886
  let v1077 : BitVec 1 := Scalar.andi v1076 v1073
  let v1078 : BitVec 32 := Scalar.addi v1072 v1071
  let v1079 : BitVec 32 := Scalar.select v1077 v1078 v1072
  let c0_i32_895 : BitVec 32 := 0#32
  let v1088 : BitVec 1 := Scalar.cmpi .sgt v1079 c0_i32_895
  let v1089 : BitVec 32 := Scalar.extui v1088
  let c0_i32_896 : BitVec 32 := 0#32
  let v1090 : BitVec 1 := Scalar.cmpi .ne v1089 c0_i32_896
  v1090

def k0_off14 (d0 : Dev nD) : Fin 3 → Nat :=
  let c1_i32_1930 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_881 : BitVec 32 := 2#32
  let v1068 : BitVec 32 := Scalar.addi v2 c2_i32_881
  let c1_i32_882 : BitVec 32 := 1#32
  let v1069 : BitVec 32 := Scalar.addi v1068 c1_i32_882
  let c4_i32_883 : BitVec 32 := 4#32
  let c0_i32_884 : BitVec 32 := 0#32
  let v1070 : BitVec 1 := Scalar.cmpi .eq c4_i32_883 c0_i32_884
  let c1_i32_885 : BitVec 32 := 1#32
  let v1071 : BitVec 32 := Scalar.select v1070 c1_i32_885 c4_i32_883
  let v1072 : BitVec 32 := Scalar.remsi v1069 v1071
  let c0_i32_887 : BitVec 32 := 0#32
  let v1074 : BitVec 1 := Scalar.cmpi .slt v1072 c0_i32_887
  let c0_i32_888 : BitVec 32 := 0#32
  let v1075 : BitVec 1 := Scalar.cmpi .slt v1071 c0_i32_888
  let v1076 : BitVec 1 := Scalar.xori v1074 v1075
  let c0_i32_886 : BitVec 32 := 0#32
  let v1073 : BitVec 1 := Scalar.cmpi .ne v1072 c0_i32_886
  let v1077 : BitVec 1 := Scalar.andi v1076 v1073
  let v1078 : BitVec 32 := Scalar.addi v1072 v1071
  let v1079 : BitVec 32 := Scalar.select v1077 v1078 v1072
  let c1024_i32_894 : BitVec 32 := 1024#32
  let v1087 : BitVec 32 := Scalar.muli v1079 c1024_i32_894
  let c8_i32_1929 : BitVec 32 := 8#32
  let v1946 : BitVec 32 := Scalar.subi v1087 c8_i32_1929
  let c0_i32_1935 : BitVec 32 := 0#32
  ![1, v1946.toNat, 0]
def k0_cond29 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_899 : BitVec 32 := 3#32
  let v1094 : BitVec 32 := Scalar.subi v2 c3_i32_899
  let c4_i32_900 : BitVec 32 := 4#32
  let c0_i32_901 : BitVec 32 := 0#32
  let v1095 : BitVec 1 := Scalar.cmpi .eq c4_i32_900 c0_i32_901
  let c1_i32_902 : BitVec 32 := 1#32
  let v1096 : BitVec 32 := Scalar.select v1095 c1_i32_902 c4_i32_900
  let v1097 : BitVec 32 := Scalar.remsi v1094 v1096
  let c0_i32_904 : BitVec 32 := 0#32
  let v1099 : BitVec 1 := Scalar.cmpi .slt v1097 c0_i32_904
  let c0_i32_905 : BitVec 32 := 0#32
  let v1100 : BitVec 1 := Scalar.cmpi .slt v1096 c0_i32_905
  let v1101 : BitVec 1 := Scalar.xori v1099 v1100
  let c0_i32_903 : BitVec 32 := 0#32
  let v1098 : BitVec 1 := Scalar.cmpi .ne v1097 c0_i32_903
  let v1102 : BitVec 1 := Scalar.andi v1101 v1098
  let v1103 : BitVec 32 := Scalar.addi v1097 v1096
  let v1104 : BitVec 32 := Scalar.select v1102 v1103 v1097
  let c0_i32_914 : BitVec 32 := 0#32
  let v1117 : BitVec 1 := Scalar.cmpi .sgt v1104 c0_i32_914
  let v1118 : BitVec 32 := Scalar.extui v1117
  let c0_i32_915 : BitVec 32 := 0#32
  let v1119 : BitVec 1 := Scalar.cmpi .ne v1118 c0_i32_915
  v1119

def k0_off15 (d0 : Dev nD) : Fin 3 → Nat :=
  let c0_i32_1930 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_899 : BitVec 32 := 3#32
  let v1094 : BitVec 32 := Scalar.subi v2 c3_i32_899
  let c4_i32_900 : BitVec 32 := 4#32
  let c0_i32_901 : BitVec 32 := 0#32
  let v1095 : BitVec 1 := Scalar.cmpi .eq c4_i32_900 c0_i32_901
  let c1_i32_902 : BitVec 32 := 1#32
  let v1096 : BitVec 32 := Scalar.select v1095 c1_i32_902 c4_i32_900
  let v1097 : BitVec 32 := Scalar.remsi v1094 v1096
  let c0_i32_904 : BitVec 32 := 0#32
  let v1099 : BitVec 1 := Scalar.cmpi .slt v1097 c0_i32_904
  let c0_i32_905 : BitVec 32 := 0#32
  let v1100 : BitVec 1 := Scalar.cmpi .slt v1096 c0_i32_905
  let v1101 : BitVec 1 := Scalar.xori v1099 v1100
  let c0_i32_903 : BitVec 32 := 0#32
  let v1098 : BitVec 1 := Scalar.cmpi .ne v1097 c0_i32_903
  let v1102 : BitVec 1 := Scalar.andi v1101 v1098
  let v1103 : BitVec 32 := Scalar.addi v1097 v1096
  let v1104 : BitVec 32 := Scalar.select v1102 v1103 v1097
  let c1024_i32_913 : BitVec 32 := 1024#32
  let v1116 : BitVec 32 := Scalar.muli v1104 c1024_i32_913
  let c8_i32_1929 : BitVec 32 := 8#32
  let v1946 : BitVec 32 := Scalar.subi v1116 c8_i32_1929
  let c0_i32_1935 : BitVec 32 := 0#32
  ![0, v1946.toNat, 0]
def k0_cond31 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_906 : BitVec 32 := 3#32
  let v1105 : BitVec 32 := Scalar.addi v2 c3_i32_906
  let c4_i32_907 : BitVec 32 := 4#32
  let c0_i32_908 : BitVec 32 := 0#32
  let v1106 : BitVec 1 := Scalar.cmpi .eq c4_i32_907 c0_i32_908
  let c1_i32_909 : BitVec 32 := 1#32
  let v1107 : BitVec 32 := Scalar.select v1106 c1_i32_909 c4_i32_907
  let v1108 : BitVec 32 := Scalar.remsi v1105 v1107
  let c0_i32_911 : BitVec 32 := 0#32
  let v1110 : BitVec 1 := Scalar.cmpi .slt v1108 c0_i32_911
  let c0_i32_912 : BitVec 32 := 0#32
  let v1111 : BitVec 1 := Scalar.cmpi .slt v1107 c0_i32_912
  let v1112 : BitVec 1 := Scalar.xori v1110 v1111
  let c0_i32_910 : BitVec 32 := 0#32
  let v1109 : BitVec 1 := Scalar.cmpi .ne v1108 c0_i32_910
  let v1113 : BitVec 1 := Scalar.andi v1112 v1109
  let v1114 : BitVec 32 := Scalar.addi v1108 v1107
  let v1115 : BitVec 32 := Scalar.select v1113 v1114 v1108
  let c0_i32_919 : BitVec 32 := 0#32
  let v1124 : BitVec 1 := Scalar.cmpi .sgt v1115 c0_i32_919
  let v1125 : BitVec 32 := Scalar.extui v1124
  let c0_i32_920 : BitVec 32 := 0#32
  let v1126 : BitVec 1 := Scalar.cmpi .ne v1125 c0_i32_920
  v1126

def k0_off16 (d0 : Dev nD) : Fin 3 → Nat :=
  let c1_i32_1930 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_906 : BitVec 32 := 3#32
  let v1105 : BitVec 32 := Scalar.addi v2 c3_i32_906
  let c4_i32_907 : BitVec 32 := 4#32
  let c0_i32_908 : BitVec 32 := 0#32
  let v1106 : BitVec 1 := Scalar.cmpi .eq c4_i32_907 c0_i32_908
  let c1_i32_909 : BitVec 32 := 1#32
  let v1107 : BitVec 32 := Scalar.select v1106 c1_i32_909 c4_i32_907
  let v1108 : BitVec 32 := Scalar.remsi v1105 v1107
  let c0_i32_911 : BitVec 32 := 0#32
  let v1110 : BitVec 1 := Scalar.cmpi .slt v1108 c0_i32_911
  let c0_i32_912 : BitVec 32 := 0#32
  let v1111 : BitVec 1 := Scalar.cmpi .slt v1107 c0_i32_912
  let v1112 : BitVec 1 := Scalar.xori v1110 v1111
  let c0_i32_910 : BitVec 32 := 0#32
  let v1109 : BitVec 1 := Scalar.cmpi .ne v1108 c0_i32_910
  let v1113 : BitVec 1 := Scalar.andi v1112 v1109
  let v1114 : BitVec 32 := Scalar.addi v1108 v1107
  let v1115 : BitVec 32 := Scalar.select v1113 v1114 v1108
  let c1024_i32_918 : BitVec 32 := 1024#32
  let v1123 : BitVec 32 := Scalar.muli v1115 c1024_i32_918
  let c8_i32_1929 : BitVec 32 := 8#32
  let v1946 : BitVec 32 := Scalar.subi v1123 c8_i32_1929
  let c0_i32_1935 : BitVec 32 := 0#32
  ![1, v1946.toNat, 0]
def k0_dev17 (d0 : Dev nD) : Nat :=
  let c0_i32_1241 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1240 : BitVec 32 := 1#32
  let v1440 : BitVec 32 := Scalar.muli v24 c1_i32_1240
  let v1441 : BitVec 32 := Scalar.addi c0_i32_1241 v1440
  v1441.toNat
def k0_dev18 (d0 : Dev nD) : Nat :=
  let c0_i32_1255 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1254 : BitVec 32 := 1#32
  let v1450 : BitVec 32 := Scalar.muli v13 c1_i32_1254
  let v1451 : BitVec 32 := Scalar.addi c0_i32_1255 v1450
  v1451.toNat
def k0_dev19 (d0 : Dev nD) : Nat :=
  let c0_i32_1268 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1267 : BitVec 32 := 1#32
  let v1460 : BitVec 32 := Scalar.muli v24 c1_i32_1267
  let v1461 : BitVec 32 := Scalar.addi c0_i32_1268 v1460
  v1461.toNat
def k0_dev20 (d0 : Dev nD) : Nat :=
  let c0_i32_1282 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1281 : BitVec 32 := 1#32
  let v1470 : BitVec 32 := Scalar.muli v13 c1_i32_1281
  let v1471 : BitVec 32 := Scalar.addi c0_i32_1282 v1470
  v1471.toNat
def k0_off17 (d0 : Dev nD) : Fin 3 → Nat :=
  let c0_i32_1296 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1219 : BitVec 32 := 1#32
  let v1418 : BitVec 32 := Scalar.addi v2 c1_i32_1219
  let c4_i32_1220 : BitVec 32 := 4#32
  let c0_i32_1221 : BitVec 32 := 0#32
  let v1419 : BitVec 1 := Scalar.cmpi .eq c4_i32_1220 c0_i32_1221
  let c1_i32_1222 : BitVec 32 := 1#32
  let v1420 : BitVec 32 := Scalar.select v1419 c1_i32_1222 c4_i32_1220
  let v1421 : BitVec 32 := Scalar.remsi v1418 v1420
  let c0_i32_1224 : BitVec 32 := 0#32
  let v1423 : BitVec 1 := Scalar.cmpi .slt v1421 c0_i32_1224
  let c0_i32_1225 : BitVec 32 := 0#32
  let v1424 : BitVec 1 := Scalar.cmpi .slt v1420 c0_i32_1225
  let v1425 : BitVec 1 := Scalar.xori v1423 v1424
  let c0_i32_1223 : BitVec 32 := 0#32
  let v1422 : BitVec 1 := Scalar.cmpi .ne v1421 c0_i32_1223
  let v1426 : BitVec 1 := Scalar.andi v1425 v1422
  let v1427 : BitVec 32 := Scalar.addi v1421 v1420
  let v1428 : BitVec 32 := Scalar.select v1426 v1427 v1421
  let c1024_i32_1294 : BitVec 32 := 1024#32
  let v1486 : BitVec 32 := Scalar.muli v1428 c1024_i32_1294
  let c0_i32_1298 : BitVec 32 := 0#32
  ![0, v1486.toNat, 0]
def k0_off18 (d0 : Dev nD) : Fin 3 → Nat :=
  let c1_i32_1310 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1226 : BitVec 32 := 1#32
  let v1429 : BitVec 32 := Scalar.subi v2 c1_i32_1226
  let c4_i32_1227 : BitVec 32 := 4#32
  let c0_i32_1228 : BitVec 32 := 0#32
  let v1430 : BitVec 1 := Scalar.cmpi .eq c4_i32_1227 c0_i32_1228
  let c1_i32_1229 : BitVec 32 := 1#32
  let v1431 : BitVec 32 := Scalar.select v1430 c1_i32_1229 c4_i32_1227
  let v1432 : BitVec 32 := Scalar.remsi v1429 v1431
  let c0_i32_1231 : BitVec 32 := 0#32
  let v1434 : BitVec 1 := Scalar.cmpi .slt v1432 c0_i32_1231
  let c0_i32_1232 : BitVec 32 := 0#32
  let v1435 : BitVec 1 := Scalar.cmpi .slt v1431 c0_i32_1232
  let v1436 : BitVec 1 := Scalar.xori v1434 v1435
  let c0_i32_1230 : BitVec 32 := 0#32
  let v1433 : BitVec 1 := Scalar.cmpi .ne v1432 c0_i32_1230
  let v1437 : BitVec 1 := Scalar.andi v1436 v1433
  let v1438 : BitVec 32 := Scalar.addi v1432 v1431
  let v1439 : BitVec 32 := Scalar.select v1437 v1438 v1432
  let c1024_i32_1308 : BitVec 32 := 1024#32
  let v1499 : BitVec 32 := Scalar.muli v1439 c1024_i32_1308
  let c0_i32_1312 : BitVec 32 := 0#32
  ![1, v1499.toNat, 0]
def k0_dev21 (d0 : Dev nD) : Nat :=
  let c0_i32_1365 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1364 : BitVec 32 := 1#32
  let v1544 : BitVec 32 := Scalar.muli v24 c1_i32_1364
  let v1545 : BitVec 32 := Scalar.addi c0_i32_1365 v1544
  v1545.toNat
def k0_dev22 (d0 : Dev nD) : Nat :=
  let c0_i32_1379 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1378 : BitVec 32 := 1#32
  let v1554 : BitVec 32 := Scalar.muli v13 c1_i32_1378
  let v1555 : BitVec 32 := Scalar.addi c0_i32_1379 v1554
  v1555.toNat
def k0_dev23 (d0 : Dev nD) : Nat :=
  let c0_i32_1420 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1419 : BitVec 32 := 1#32
  let v1580 : BitVec 32 := Scalar.muli v24 c1_i32_1419
  let v1581 : BitVec 32 := Scalar.addi c0_i32_1420 v1580
  v1581.toNat
def k0_dev24 (d0 : Dev nD) : Nat :=
  let c0_i32_1434 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1433 : BitVec 32 := 1#32
  let v1590 : BitVec 32 := Scalar.muli v13 c1_i32_1433
  let v1591 : BitVec 32 := Scalar.addi c0_i32_1434 v1590
  v1591.toNat
def k0_off19 (d0 : Dev nD) (c0_i32_1315 : BitVec 32) : Fin 3 → Nat :=
  let c0_i32_1455 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v1506 : BitVec 32 := Scalar.subi v2 c0_i32_1315
  let c4_i32_1316 : BitVec 32 := 4#32
  let c0_i32_1317 : BitVec 32 := 0#32
  let v1507 : BitVec 1 := Scalar.cmpi .eq c4_i32_1316 c0_i32_1317
  let c1_i32_1318 : BitVec 32 := 1#32
  let v1508 : BitVec 32 := Scalar.select v1507 c1_i32_1318 c4_i32_1316
  let v1509 : BitVec 32 := Scalar.remsi v1506 v1508
  let c0_i32_1320 : BitVec 32 := 0#32
  let v1511 : BitVec 1 := Scalar.cmpi .slt v1509 c0_i32_1320
  let c0_i32_1321 : BitVec 32 := 0#32
  let v1512 : BitVec 1 := Scalar.cmpi .slt v1508 c0_i32_1321
  let v1513 : BitVec 1 := Scalar.xori v1511 v1512
  let c0_i32_1319 : BitVec 32 := 0#32
  let v1510 : BitVec 1 := Scalar.cmpi .ne v1509 c0_i32_1319
  let v1514 : BitVec 1 := Scalar.andi v1513 v1510
  let v1515 : BitVec 32 := Scalar.addi v1509 v1508
  let v1516 : BitVec 32 := Scalar.select v1514 v1515 v1509
  let c1024_i32_1453 : BitVec 32 := 1024#32
  let v1612 : BitVec 32 := Scalar.muli v1516 c1024_i32_1453
  let c0_i32_1457 : BitVec 32 := 0#32
  ![0, v1612.toNat, 0]
def k0_off20 (d0 : Dev nD) (c0_i32_1322 : BitVec 32) : Fin 3 → Nat :=
  let c1_i32_1476 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v1517 : BitVec 32 := Scalar.addi v2 c0_i32_1322
  let c4_i32_1323 : BitVec 32 := 4#32
  let c0_i32_1324 : BitVec 32 := 0#32
  let v1518 : BitVec 1 := Scalar.cmpi .eq c4_i32_1323 c0_i32_1324
  let c1_i32_1325 : BitVec 32 := 1#32
  let v1519 : BitVec 32 := Scalar.select v1518 c1_i32_1325 c4_i32_1323
  let v1520 : BitVec 32 := Scalar.remsi v1517 v1519
  let c0_i32_1327 : BitVec 32 := 0#32
  let v1522 : BitVec 1 := Scalar.cmpi .slt v1520 c0_i32_1327
  let c0_i32_1328 : BitVec 32 := 0#32
  let v1523 : BitVec 1 := Scalar.cmpi .slt v1519 c0_i32_1328
  let v1524 : BitVec 1 := Scalar.xori v1522 v1523
  let c0_i32_1326 : BitVec 32 := 0#32
  let v1521 : BitVec 1 := Scalar.cmpi .ne v1520 c0_i32_1326
  let v1525 : BitVec 1 := Scalar.andi v1524 v1521
  let v1526 : BitVec 32 := Scalar.addi v1520 v1519
  let v1527 : BitVec 32 := Scalar.select v1525 v1526 v1520
  let c1024_i32_1474 : BitVec 32 := 1024#32
  let v1631 : BitVec 32 := Scalar.muli v1527 c1024_i32_1474
  let c0_i32_1478 : BitVec 32 := 0#32
  ![1, v1631.toNat, 0]
def k0_dev25 (d0 : Dev nD) : Nat :=
  let c0_i32_1531 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1530 : BitVec 32 := 1#32
  let v1676 : BitVec 32 := Scalar.muli v24 c1_i32_1530
  let v1677 : BitVec 32 := Scalar.addi c0_i32_1531 v1676
  v1677.toNat
def k0_dev26 (d0 : Dev nD) : Nat :=
  let c0_i32_1545 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1544 : BitVec 32 := 1#32
  let v1686 : BitVec 32 := Scalar.muli v13 c1_i32_1544
  let v1687 : BitVec 32 := Scalar.addi c0_i32_1545 v1686
  v1687.toNat
def k0_dev27 (d0 : Dev nD) : Nat :=
  let c0_i32_1586 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1585 : BitVec 32 := 1#32
  let v1712 : BitVec 32 := Scalar.muli v24 c1_i32_1585
  let v1713 : BitVec 32 := Scalar.addi c0_i32_1586 v1712
  v1713.toNat
def k0_dev28 (d0 : Dev nD) : Nat :=
  let c0_i32_1600 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1599 : BitVec 32 := 1#32
  let v1722 : BitVec 32 := Scalar.muli v13 c1_i32_1599
  let v1723 : BitVec 32 := Scalar.addi c0_i32_1600 v1722
  v1723.toNat
def k0_dev29 (d0 : Dev nD) : Nat :=
  let c0_i32_1931_r0 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1930_r0 : BitVec 32 := 1#32
  let v1947_r0 : BitVec 32 := Scalar.muli v13 c1_i32_1930_r0
  let v1948_r0 : BitVec 32 := Scalar.addi c0_i32_1931_r0 v1947_r0
  v1948_r0.toNat
def k0_dev30 (d0 : Dev nD) : Nat :=
  let c0_i32_1934_r0 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1933_r0 : BitVec 32 := 1#32
  let v1949_r0 : BitVec 32 := Scalar.muli v24 c1_i32_1933_r0
  let v1950_r0 : BitVec 32 := Scalar.addi c0_i32_1934_r0 v1949_r0
  v1950_r0.toNat
abbrev stage0_0 : Fin 1 → Memref sig .tc .vmem S4x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S2x4096x4096 : Shape := ⟨3, ![2, 4096, 4096]⟩
abbrev S4x4096 : Shape := ⟨2, ![4, 4096]⟩
abbrev S4096x1024 : Shape := ⟨2, ![4096, 1024]⟩
abbrev S_ : Shape := ⟨0, ![]⟩
abbrev S2x3x4096 : Shape := ⟨3, ![2, 3, 4096]⟩
abbrev S2x4099x4096 : Shape := ⟨3, ![2, 4099, 4096]⟩
abbrev S1x4096 : Shape := ⟨2, ![1, 4096]⟩
abbrev S4096 : Shape := ⟨1, ![4096]⟩
abbrev S1x1x4096 : Shape := ⟨3, ![1, 1, 4096]⟩
abbrev S2x4096x1024 : Shape := ⟨3, ![2, 4096, 1024]⟩

abbrev nBuf : Space → Nat
  | .hbm => 43
  | .vmem => 0
  | .smem => 0
  | _ => 0

abbrev bufTy : (tb : Table) → Fin (tcTables nBuf tb) → BufTy
  | .hbm, ⟨0, _⟩ => ⟨S2x4096x4096, .f32⟩
  | .hbm, ⟨1, _⟩ => ⟨S4x4096, .f32⟩
  | .hbm, ⟨2, _⟩ => ⟨S4096x1024, .f32⟩
  | .hbm, ⟨3, _⟩ => ⟨S_, .f32⟩
  | .hbm, ⟨4, _⟩ => ⟨S2x3x4096, .f32⟩
  | .hbm, ⟨5, _⟩ => ⟨S2x4099x4096, .f32⟩
  | .hbm, ⟨6, _⟩ => ⟨S_, .f32⟩
  | .hbm, ⟨7, _⟩ => ⟨S2x4096x4096, .f32⟩
  | .hbm, ⟨8, _⟩ => ⟨S2x4096x4096, .f32⟩
  | .hbm, ⟨9, _⟩ => ⟨S1x4096, .f32⟩
  | .hbm, ⟨10, _⟩ => ⟨S4096, .f32⟩
  | .hbm, ⟨11, _⟩ => ⟨S1x1x4096, .f32⟩
  | .hbm, ⟨12, _⟩ => ⟨S2x4096x4096, .f32⟩
  | .hbm, ⟨13, _⟩ => ⟨S2x4096x4096, .f32⟩
  | .hbm, ⟨14, _⟩ => ⟨S2x4096x4096, .f32⟩
  | .hbm, ⟨15, _⟩ => ⟨S2x4096x4096, .f32⟩
  | .hbm, ⟨16, _⟩ => ⟨S1x4096, .f32⟩
  | .hbm, ⟨17, _⟩ => ⟨S4096, .f32⟩
  | .hbm, ⟨18, _⟩ => ⟨S1x1x4096, .f32⟩
  | .hbm, ⟨19, _⟩ => ⟨S2x4096x4096, .f32⟩
  | .hbm, ⟨20, _⟩ => ⟨S2x4096x4096, .f32⟩
  | .hbm, ⟨21, _⟩ => ⟨S2x4096x4096, .f32⟩
  | .hbm, ⟨22, _⟩ => ⟨S2x4096x4096, .f32⟩
  | .hbm, ⟨23, _⟩ => ⟨S1x4096, .f32⟩
  | .hbm, ⟨24, _⟩ => ⟨S4096, .f32⟩
  | .hbm, ⟨25, _⟩ => ⟨S1x1x4096, .f32⟩
  | .hbm, ⟨26, _⟩ => ⟨S2x4096x4096, .f32⟩
  | .hbm, ⟨27, _⟩ => ⟨S2x4096x4096, .f32⟩
  | .hbm, ⟨28, _⟩ => ⟨S2x4096x4096, .f32⟩
  | .hbm, ⟨29, _⟩ => ⟨S2x4096x4096, .f32⟩
  | .hbm, ⟨30, _⟩ => ⟨S1x4096, .f32⟩
  | .hbm, ⟨31, _⟩ => ⟨S4096, .f32⟩
  | .hbm, ⟨32, _⟩ => ⟨S1x1x4096, .f32⟩
  | .hbm, ⟨33, _⟩ => ⟨S2x4096x4096, .f32⟩
  | .hbm, ⟨34, _⟩ => ⟨S2x4096x4096, .f32⟩
  | .hbm, ⟨35, _⟩ => ⟨S2x4096x4096, .f32⟩
  | .hbm, ⟨36, _⟩ => ⟨S2x4096x4096, .f32⟩
  | .hbm, ⟨37, _⟩ => ⟨S2x4096x4096, .f32⟩
  | .hbm, ⟨38, _⟩ => ⟨S_, .f32⟩
  | .hbm, ⟨39, _⟩ => ⟨S2x4096x4096, .f32⟩
  | .hbm, ⟨40, _⟩ => ⟨S2x4096x4096, .f32⟩
  | .hbm, ⟨41, _⟩ => ⟨S2x4096x4096, .f32⟩
  | .hbm, ⟨42, _⟩ => ⟨S2x4096x1024, .f32⟩
  | _, _ => ⟨S2x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_cst_1 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩

abbrev nD : Nat := 1
abbrev τ : Topo := Topo.v7x

variable {F : FTy → Type} [FloatOps F]
-- ==== Proof.Proto.lean ====
/-
# The ring protocol of the kernel, written down before any program is run

Four devices in a ring. Each runs the kernel once: batch row `r = 0` travels to the next device (`nxt`), batch row
`r = 1` to the previous one (`prv`). Everything the devices do to one another goes over 52 semaphore cells of a device:

* the barrier cell: two units at the start, one from each neighbour. A neighbour's unit hands over the windows of ITS
  landing buffers that this device will write;
* the credit cell of ring `r`: one unit, from the device downstream, when the two windows of landing slot 0 have been
  read and may be written a second time; the unit hands those two windows back;
* the send cell `(r, k)` and the receive cell `(r, k)`, `k < 12`: transfer `k` of ring `r`, to the device downstream.
  `k < 6` is the reduce-scatter (`k = 2 s + u`: step `s`, half `u` of the chunk), `6 ≤ k` the all-gather
  (`k = 6 + 2 h + u`: hop `h`). The receive cell hands over the landing window with the sent values in it, the send
  cell hands the source window back;
* the exit cell: two units at the end, one from each neighbour, handing over nothing.

Every cell has one round. The windows are half chunks of 512 rows.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic
public import Idealize.ShloMosaic.Lib.ValueIdxCore
public import Idealize.ShloMosaic.Lib.ViewIndex

@[expose] public section

set_option maxRecDepth 16384

noncomputable section

namespace Cert.RingProof

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy, the ring's rounds, the counters of local transfers -/

abbrev UB : Type := URounds (GSem nD τ sig) (Fin 2)
abbrev UU : Type := UR sig nD τ × (UB × Counters)

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := (Emb.inl : Emb UB (UB × Counters)).trans embR
abbrev EC : UEmb Counters (MT nD τ sig Unit (Elt F) ℕ UU ℕ) := countersEmb
abbrev 𝒱₀ : Variants := Variants.none

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The ring -/

set_option backward.proofsInPublic true in
def nxt (c : Dev nD) : Dev nD := ⟨(c.val + 1) % 4, Nat.mod_lt _ (by decide)⟩
set_option backward.proofsInPublic true in
def prv (c : Dev nD) : Dev nD := ⟨(c.val + 3) % 4, Nat.mod_lt _ (by decide)⟩

theorem prv_nxt (c : Dev nD) : prv (nxt c) = c := by revert c; decide
theorem nxt_prv (c : Dev nD) : nxt (prv c) = c := by revert c; decide

/-- The device ring `r` sends to, and the one it receives from. -/
def dwn (r : ℕ) (c : Dev nD) : Dev nD := if r = 0 then nxt c else prv c
def up (r : ℕ) (c : Dev nD) : Dev nD := if r = 0 then prv c else nxt c

theorem up_dwn (r : ℕ) (c : Dev nD) : up r (dwn r c) = c := by
  unfold up dwn; split
  · exact prv_nxt c
  · exact nxt_prv c
theorem dwn_up (r : ℕ) (c : Dev nD) : dwn r (up r c) = c := by
  unfold up dwn; split
  · exact nxt_prv c
  · exact prv_nxt c

/-! ## The windows -/

theorem inb_c (r p u : ℕ) : ∀ a, ![r % 2, p % 2, 512 * (u % 2), 0] a + S1x1x512x1024.size a ≤ S2x2x1024x1024.size a := by
  intro a; match a with
  | 0 => show r % 2 + 1 ≤ 2; omega
  | 1 => show p % 2 + 1 ≤ 2; omega
  | 2 => show 512 * (u % 2) + 512 ≤ 1024; omega
  | 3 => exact Nat.le_refl _
theorem inb_a (r h u : ℕ) : ∀ a, ![r % 2, h % 3, 512 * (u % 2), 0] a + S1x1x512x1024.size a ≤ S2x3x1024x1024.size a := by
  intro a; match a with
  | 0 => show r % 2 + 1 ≤ 2; omega
  | 1 => show h % 3 + 1 ≤ 3; omega
  | 2 => show 512 * (u % 2) + 512 ≤ 1024; omega
  | 3 => exact Nat.le_refl _

abbrev WinM : Type := Memref sig .tc .vmem S1x1x512x1024 .bf16

/-- Half `u` of slot `p` of row `r`: of the outgoing buffer, -/
def cbS (r p u : ℕ) : WinM :=
  (Memref.whole cc0_scratch1).slice (Rect.unit (s := S2x2x1024x1024) ![r % 2, p % 2, 512 * (u % 2), 0] S1x1x512x1024.size (inb_c r p u)) (fun _ => rfl)
/-- of the landing buffer, -/
def rbS (r p u : ℕ) : WinM :=
  (Memref.whole cc0_scratch2).slice (Rect.unit (s := S2x2x1024x1024) ![r % 2, p % 2, 512 * (u % 2), 0] S1x1x512x1024.size (inb_c r p u)) (fun _ => rfl)
/-- of the all-gather buffer. -/
def abS (r h u : ℕ) : WinM :=
  (Memref.whole cc0_scratch3).slice (Rect.unit (s := S2x3x1024x1024) ![r % 2, h % 3, 512 * (u % 2), 0] S1x1x512x1024.size (inb_a r h u)) (fun _ => rfl)

/-- The source and the destination window of transfer `k` of ring `r`. -/
def srcS (r k : ℕ) : WinM := if k < 6 then cbS r (k / 2 % 2) (k % 2) else if k < 8 then cbS r 1 (k % 2) else abS r ((k - 8) / 2) (k % 2)
def dstS (r k : ℕ) : WinM := if k < 6 then rbS r (k / 2 % 2) (k % 2) else abS r ((k - 6) / 2) (k % 2)

/-- A window as the transfers see it: without its two unit axes. -/
abbrev sq (w : WinM) : Memref sig .tc .vmem S512x1024 .bf16 := w.squeeze S512x1024 squeezes_S1x1x512x1024_S512x1024

/-- The bytes' credit of a transfer. -/
def N : ℕ := (sq (cbS 0 0 0)).view.dmaCredit

theorem credit_cb (r p u : ℕ) : (sq (cbS r p u)).view.dmaCredit = N := rfl
theorem credit_rb (r p u : ℕ) : (sq (rbS r p u)).view.dmaCredit = N := by rfl
theorem credit_ab (r p u : ℕ) : (sq (abS r p u)).view.dmaCredit = N := by rfl
theorem credit_dst (r k : ℕ) : (sq (dstS r k)).view.dmaCredit = N := by
  unfold dstS; split
  · rfl
  · rfl
theorem N_pos : 0 < N := View.dmaCredit_pos _ (by decide)

/-! ## The cells -/

/-- The semaphores: the barrier, the exit, the credits; the send and receive cells. -/
abbrev barS : Sem sig := ⟨2, by decide⟩
abbrev exitS : Sem sig := ⟨3, by decide⟩
def credS (r : ℕ) : Sem sig := ⟨r % 2, by have : r % 2 < 2 := Nat.mod_lt _ (by decide); exact Nat.lt_of_lt_of_le this (by decide)⟩
theorem lt54 {n : ℕ} (h : n < 54) : n < sig.nDmaSem := Nat.lt_of_lt_of_le h (by decide)
def sendS (r k : ℕ) : DmaSem sig := ⟨2 + 12 * (r % 2) + k % 12, lt54 (by omega)⟩
def recvS (r k : ℕ) : DmaSem sig := ⟨26 + 12 * (r % 2) + k % 12, lt54 (by omega)⟩

/-- The own semaphores of the local transfers: `copyS r` of row `r` in, `stageS r` of row `r` out. -/
def copyS (r : ℕ) : DmaSem sig := ⟨50 + r % 2, lt54 (by omega)⟩
def stageS (r : ℕ) : DmaSem sig := ⟨52 + r % 2, lt54 (by omega)⟩

end Cert.RingProof
-- ==== Proof.Values.lean ====
/-
# The values the ring carries

Written with the payloads of the printed program, over any reading of the scalars: the 1032-row window of `x` a ring reads
in a step, the gated convolution of half a chunk times the device's rows of the projection, the running sum of a chunk as
it travels, and the contents of every transfer.
-/
module

public import proofs.«01_k».proof.Proof.Proto

@[expose] public section

set_option maxRecDepth 16384

noncomputable section

namespace Cert.RingProof

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The three operands, per device: the block of `x`, of the taps, of the projection. -/
structure Inp (F : FTy → Type) where
  x : Dev nD → Vec F S2x4096x1024 .f32
  k : Dev nD → Vec F S4x1024 .f32
  w : Dev nD → Vec F S1024x1024 .f32

variable (I : Inp F)

/-- Rows `1024 g - 8 ≤ j < 1024 g + 1024` of batch row `r` of the block of `x`; rows before the first are zero. -/
def xch (c : Dev nD) (r g : ℕ) : Vec F S1x1032x1024 .f32 := fun i =>
  if 1024 * g + (i 1).val < 8 then (Scalar.ofBits .f32 0x00000000#32 : F .f32)
  else I.x c (ix3 ⟨r % 2, Nat.mod_lt _ (by decide)⟩ ⟨(1024 * g + (i 1).val - 8) % 4096, Nat.mod_lt _ (by decide)⟩ (i 2))

/-- 512 rows of such a window, from row `off`; -/
def xrow (X : Vec F S1x1032x1024 .f32) (off : ℕ) : Vec F S1x512x1024 .f32 := fun i =>
  X (ix3 (i 0) ⟨(off + (i 1).val) % 1032, Nat.mod_lt _ (by decide)⟩ (i 2))
/-- one tap. -/
def krow (k : Vec F S4x1024 .f32) (t : ℕ) : Vec F S1x1024 .f32 := fun i =>
  k (ix2 ⟨(t + (i 0).val) % 4, Nat.mod_lt _ (by decide)⟩ (i 1))

/-- The gated convolution of half `u` of the window `X`, times the projection's rows. -/
def convDot (X : Vec F S1x1032x1024 .f32) (k : Vec F S4x1024 .f32) (w : Vec F S1024x1024 .f32) (u : ℕ) : FVec F S512x1024 .f32 :=
  k0_pay5 (k0_pay3 (xrow X (8 + 512 * u)) (krow k 3) (xrow X (5 + 512 * u)) (krow k 0)) (k0_pay4 (xrow X (6 + 512 * u)))
    (krow k 1) (xrow X (7 + 512 * u)) (krow k 2) w

/-- Device `c`'s part of half `u` of chunk `g`. -/
def part (c : Dev nD) (r g u : ℕ) : FVec F S512x1024 .f32 := convDot (xch I c r g) (I.k c) (I.w c) u

/-- The chunk ring `r` works on at device `c` in step `s`. -/
def chunk (r : ℕ) (c : Dev nD) (s : ℕ) : ℕ := if r = 0 then (c.val + 4 - s) % 4 else (c.val + s) % 4

/-- What device `c` holds of half `u` after step `s`: its own part, added to what came from the device before. -/
def accB (r : ℕ) (u : ℕ) : ℕ → Dev nD → FVec F S1x1x512x1024 .bf16
  | 0, c => k0_pay9 (part I c r (chunk r c 0) u)
  | s + 1, c => k0_pay24 (part I c r (chunk r c (s + 1)) u) (accB r u s (up r c))

/-- The device `h` places upstream. -/
def upN (r : ℕ) : ℕ → Dev nD → Dev nD
  | 0, c => c
  | h + 1, c => up r (upN r h c)

theorem upN_succ (r h : ℕ) (c : Dev nD) : upN r h (up r c) = upN r (h + 1) c := by
  induction h with
  | zero => rfl
  | succ h ih => show up r (upN r h (up r c)) = _; rw [ih]; rfl

/-- The finished half `u` that device `c` holds after `h` hops of the all-gather. -/
def fin (r u h : ℕ) (c : Dev nD) : FVec F S1x1x512x1024 .bf16 := accB I r u 3 (upN r h c)

/-- What transfer `k` of ring `r` carries away from device `c`. -/
def sv (c : Dev nD) (r k : ℕ) : FVec F S1x1x512x1024 .bf16 :=
  if k < 6 then accB I r (k % 2) (k / 2) c else fin I r (k % 2) ((k - 6) / 2) c

/-- Which chunk is finished at device `c` for ring `r`, after `h` hops. -/
def gid (r h : ℕ) (c : Dev nD) : ℕ := chunk r (upN r h c) 3

end Cert.RingProof
-- ==== Proof.Sched.lean ====
/-
# The schedule of the ring's cells, what each device owes, and the levels

Every cell has one round. The barrier and exit cells have two duties of one unit, one per ring; the others one duty.
-/
module

public import proofs.«01_k».proof.Proof.Values

@[expose] public section

set_option maxRecDepth 16384

noncomputable section

namespace Cert.RingProof

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (I : Inp F)

/-! ## Payloads -/

/-- A window at any contents. -/
def anyW (c : Dev nD) (w : WinM) : sProp 𝕄 := iprop(∃ X, ownsTc c w fullShare X)

instance anyW_storable (c : Dev nD) (w : WinM) : BI.Storable (upEmb : UEmb _ 𝕄) (anyW (F := F) c w) := by unfold anyW; infer_instance

/-- The landing windows of ring `r` that the barrier hands over: slot by slot, each once. -/
def landAll (c : Dev nD) (r : ℕ) : sProp 𝕄 :=
  iprop(anyW c (dstS r 0) ∗ anyW c (dstS r 1) ∗ anyW c (dstS r 2) ∗ anyW c (dstS r 3)
    ∗ anyW c (dstS r 6) ∗ anyW c (dstS r 7) ∗ anyW c (dstS r 8) ∗ anyW c (dstS r 9) ∗ anyW c (dstS r 10) ∗ anyW c (dstS r 11))
/-- The two that the credit hands over a second time. -/
def landCred (c : Dev nD) (r : ℕ) : sProp 𝕄 := iprop(anyW c (dstS r 4) ∗ anyW c (dstS r 5))

/-- The share of its source window a transfer takes: all of it in the reduce-scatter, half in the all-gather. -/
def shr (k : ℕ) : PosShare TreeShare := if k < 6 then fullShare else fullShare.left

/-- The send cell gives the source window back; the receive cell gives the landing window with the values in it. -/
def sendP (c : Dev nD) (r k : ℕ) : sProp 𝕄 := ownsTc c (srcS r k) (shr k) (sv I c r k)
def recvP (c : Dev nD) (r k : ℕ) : sProp 𝕄 := ownsTc c (dstS r k) fullShare (sv I (up r c) r k)

def payOf (c : Dev nD) (sm : SemLoc sig) (b : Fin 2) : sProp 𝕄 :=
  match sm with
  | .reg s => if s.val = 2 then landAll (dwn b.val c) b.val else if s.val < 2 then landCred (dwn s.val c) s.val else iprop(emp)
  | .dma q => if q.val < 26 then sendP I c ((q.val - 2) / 12) ((q.val - 2) % 12) else recvP I c ((q.val - 26) / 12) ((q.val - 26) % 12)

def dutOf (sm : SemLoc sig) : Finset (Fin 2) :=
  match sm with
  | .reg s => if s.val < 2 then {0} else Finset.univ
  | .dma q => if 2 ≤ q.val ∧ q.val < 50 then {0} else ∅

def amtOf (sm : SemLoc sig) : ℕ :=
  match sm with
  | .reg _ => 1
  | .dma _ => N

theorem amtOf_pos (sm : SemLoc sig) : 0 < amtOf sm := by
  cases sm with
  | reg s => exact Nat.one_pos
  | dma q => exact N_pos

def ringRd : Rounds.Schedule (GSem nD τ sig) (Fin 2) 𝕄 where
  duties g r := if r = 0 ∧ g.1.2 = .tc then dutOf g.2 else ∅
  unitless _ := False
  amount g _ _ := amtOf g.2
  payload g _ b := payOf I g.1.1 g.2 b
  amount_pos g _ _ _ := amtOf_pos g.2

instance landAll_storable (c : Dev nD) (r : ℕ) : BI.Storable (upEmb : UEmb _ 𝕄) (landAll (F := F) c r) := by unfold landAll; infer_instance
instance landCred_storable (c : Dev nD) (r : ℕ) : BI.Storable (upEmb : UEmb _ 𝕄) (landCred (F := F) c r) := by unfold landCred; infer_instance

instance ringRd_payload_storable (g : GSem nD τ sig) (r : ℕ) (d : Fin 2) :
    BI.Storable (upEmb : UEmb _ 𝕄) ((ringRd (F := F) I).payload g r d) := by
  show BI.Storable upEmb (payOf I g.1.1 g.2 d)
  unfold payOf sendP recvP
  rcases g.2 with s | q
  · dsimp only; (repeat' split) <;> infer_instance
  · dsimp only; split <;> infer_instance

abbrev gc (c : Dev nD) (sm : SemLoc sig) : GSem nD τ sig := ((c : Thread nD τ), sm)
abbrev sendL (r k : ℕ) : SemLoc sig := .dma (sendS r k)
abbrev recvL (r k : ℕ) : SemLoc sig := .dma (recvS r k)
abbrev credL (r : ℕ) : SemLoc sig := .reg (credS r)
abbrev barL : SemLoc sig := .reg barS
abbrev exitL : SemLoc sig := .reg exitS

section Sched
variable (c : Dev nD)

theorem duties_gc (sm : SemLoc sig) : (ringRd (F := F) I).duties (gc c sm) 0 = dutOf sm := by dsimp only [ringRd]; exact if_pos ⟨rfl, rfl⟩
theorem payload_gc (sm : SemLoc sig) (b : Fin 2) : (ringRd (F := F) I).payload (gc c sm) 0 b = payOf I c sm b := rfl
theorem duties_later (g : GSem nD τ sig) : ∀ r, 0 + 1 ≤ r → (ringRd (F := F) I).duties g r = ∅ :=
  fun r hr => by dsimp only [ringRd]; rw [if_neg fun h => by omega]
theorem dut_send (r k : ℕ) : dutOf (sendL r k) = {0} := if_pos ⟨by show 2 ≤ 2 + 12 * (r % 2) + k % 12; omega, by show 2 + 12 * (r % 2) + k % 12 < 50; omega⟩
theorem dut_recv (r k : ℕ) : dutOf (recvL r k) = {0} := if_pos ⟨by show 2 ≤ 26 + 12 * (r % 2) + k % 12; omega, by show 26 + 12 * (r % 2) + k % 12 < 50; omega⟩
theorem dut_cred (r : ℕ) : dutOf (credL r) = {0} := if_pos (by show r % 2 < 2; omega)
theorem dut_bar : dutOf barL = Finset.univ := by
  unfold dutOf; exact if_neg (by decide)
theorem dut_exit : dutOf exitL = Finset.univ := by
  unfold dutOf; exact if_neg (by decide)

theorem pay_send (r k : ℕ) (hr : r < 2) (hk : k < 12) (b : Fin 2) : payOf I c (sendL r k) b = sendP I c r k := by
  show (if 2 + 12 * (r % 2) + k % 12 < 26 then sendP I c ((2 + 12 * (r % 2) + k % 12 - 2) / 12) ((2 + 12 * (r % 2) + k % 12 - 2) % 12) else _) = _
  rw [if_pos (by omega), show (2 + 12 * (r % 2) + k % 12 - 2) / 12 = r by omega, show (2 + 12 * (r % 2) + k % 12 - 2) % 12 = k by omega]
theorem pay_recv (r k : ℕ) (hr : r < 2) (hk : k < 12) (b : Fin 2) : payOf I c (recvL r k) b = recvP I c r k := by
  show (if 26 + 12 * (r % 2) + k % 12 < 26 then _ else recvP I c ((26 + 12 * (r % 2) + k % 12 - 26) / 12) ((26 + 12 * (r % 2) + k % 12 - 26) % 12)) = _
  rw [if_neg (by omega), show (26 + 12 * (r % 2) + k % 12 - 26) / 12 = r by omega, show (26 + 12 * (r % 2) + k % 12 - 26) % 12 = k by omega]
theorem pay_cred (r : ℕ) (hr : r < 2) (b : Fin 2) : payOf I c (credL r) b = landCred (dwn r c) r := by
  show (if r % 2 = 2 then _ else if r % 2 < 2 then landCred (dwn (r % 2) c) (r % 2) else _) = _
  rw [if_neg (by omega), if_pos (by omega), Nat.mod_eq_of_lt hr]
theorem pay_bar (b : Fin 2) : payOf I c barL b = landAll (dwn b.val c) b.val := by
  unfold payOf; exact if_pos rfl
theorem pay_exit (b : Fin 2) : payOf I c exitL b = iprop(emp) := rfl

theorem expect_one (sm : SemLoc sig) (h : dutOf sm = {0}) : (ringRd (F := F) I).expect (gc c sm) 0 = amtOf sm := by
  unfold Schedule.expect Schedule.amountOf; rw [duties_gc, h, Finset.sum_singleton]; rfl
theorem expect_two (sm : SemLoc sig) (h : dutOf sm = Finset.univ) : (ringRd (F := F) I).expect (gc c sm) 0 = amtOf sm + amtOf sm := by
  unfold Schedule.expect Schedule.amountOf; rw [duties_gc, h, Fin.sum_univ_two]; rfl
theorem rest_one (sm : SemLoc sig) (h : dutOf sm = {0}) :
    bigSep ((ringRd (F := F) I).duties (gc c sm) 0 \ ∅) (fun d => (ringRd (F := F) I).payload (gc c sm) 0 d) = payOf I c sm 0 := by
  rw [Finset.sdiff_empty, duties_gc, h, bigSep_singleton]; rfl
theorem rest_two (sm : SemLoc sig) (h : dutOf sm = Finset.univ) :
    bigSep ((ringRd (F := F) I).duties (gc c sm) 0 \ ∅) (fun d => (ringRd (F := F) I).payload (gc c sm) 0 d) = iprop(payOf I c sm 0 ∗ payOf I c sm 1) := by
  rw [Finset.sdiff_empty, duties_gc, h, bigSep_univ_eq_bigSepL [0, 1] (by decide) (by decide), bigSepL_cons_cons, bigSepL_singleton]; rfl

end Sched

/-! ## The cells, by number -/

def cloc (i : Fin 52) : SemLoc sig :=
  if h : i.val < 4 then .reg ⟨i.val, Nat.lt_of_lt_of_le h (by decide)⟩ else .dma ⟨i.val - 2, lt54 (by omega)⟩
abbrev kcell (x : Dev nD × Fin 52) : GSem nD τ sig := gc x.1 (cloc x.2)

theorem cloc_inj : Function.Injective cloc := by
  intro i j h
  unfold cloc at h
  split at h <;> split at h
  · have := congrArg (fun s : SemLoc sig => match s with | .reg q => q.val | .dma q => q.val) h; exact Fin.ext this
  · cases h
  · cases h
  · have := congrArg (fun s : SemLoc sig => match s with | .reg q => q.val | .dma q => q.val) h; dsimp only at this; exact Fin.ext (by omega)

theorem kcell_injective : Function.Injective (kcell : Dev nD × Fin 52 → GSem nD τ sig) := by
  rintro ⟨c, k⟩ ⟨c', k'⟩ h
  have h1 : c = c' := by have := congrArg (fun g : GSem nD τ sig => g.1.1) h; exact this
  subst h1
  have h2 : cloc k = cloc k' := congrArg Prod.snd h
  rw [cloc_inj h2]

def sendI (r k : ℕ) : Fin 52 := ⟨4 + 12 * (r % 2) + k % 12, by omega⟩
def recvI (r k : ℕ) : Fin 52 := ⟨28 + 12 * (r % 2) + k % 12, by omega⟩
def credI (r : ℕ) : Fin 52 := ⟨r % 2, by omega⟩
theorem cloc_send (r k : ℕ) : cloc (sendI r k) = sendL r k := by
  unfold cloc sendI; rw [dif_neg (by dsimp only; omega)]
  exact congrArg SemLoc.dma (Fin.ext (by show 4 + 12 * (r % 2) + k % 12 - 2 = 2 + 12 * (r % 2) + k % 12; omega))
theorem cloc_recv (r k : ℕ) : cloc (recvI r k) = recvL r k := by
  unfold cloc recvI; rw [dif_neg (by dsimp only; omega)]
  exact congrArg SemLoc.dma (Fin.ext (by show 28 + 12 * (r % 2) + k % 12 - 2 = 26 + 12 * (r % 2) + k % 12; omega))
theorem cloc_cred (r : ℕ) : cloc (credI r) = credL r := by
  unfold cloc credI; rw [dif_pos (by dsimp only; omega)]; rfl
theorem cloc_bar : cloc 2 = barL := rfl
theorem cloc_exit : cloc 3 = exitL := rfl

/-! ## What each device owes, in the order it pays -/

/-- The number of the transfer that payment `n` is, when it is one. -/
def dj (n : ℕ) : ℕ := if n < 8 then n - 2 else if n = 9 then 6 else if n = 11 then 7 else n - 4
/-- The cell that payment `n` goes to, -/
def dloc (n : ℕ) : SemLoc sig :=
  if n < 2 then barL else if n = 8 then credL 0 else if n = 10 then credL 1 else if 28 ≤ n then exitL else recvL (dj n % 2) (dj n / 2)
/-- and whose it is. -/
def dto (n : ℕ) (c : Dev nD) : Dev nD :=
  if n < 2 then up n c else if n = 8 then up 0 c else if n = 10 then up 1 c else if 28 ≤ n then up (n - 28) c else dwn (dj n % 2) c

/-- Device `c`'s debts from payment `n` on. -/
def owedFrom (c : Dev nD) (n : ℕ) : CellTallies nD τ sig Unit :=
  ∑ i ∈ Finset.Ico n 30, tallyAt (gc (dto i c) (dloc i)) () (amtOf (dloc i))

theorem owedFrom_peel (c : Dev nD) (n : ℕ) (h : n < 30) :
    owedFrom c n = owedFrom c (n + 1) + tallyAt (gc (dto n c) (dloc n)) () (amtOf (dloc n)) := by
  unfold owedFrom
  have e : Finset.Ico n 30 = insert n (Finset.Ico (n + 1) 30) := by
    ext x; simp only [Finset.mem_Ico, Finset.mem_insert]; omega
  rw [e, Finset.sum_insert (by simp), add_comm]
theorem owedFrom_end (c : Dev nD) : owedFrom c 30 = 0 := by
  unfold owedFrom; rw [Finset.Ico_self, Finset.sum_empty]

def L (g : GSem nD τ sig) : Finset Unit := if g.1.2 = .tc then {()} else ∅
/-- Local transfers and send cells lowest; the barrier; the receive cells in the order of the transfers, the credits among
    them; the exit highest. -/
def lvS (sm : SemLoc sig) : ℕ :=
  match sm with
  | .reg s => if s.val < 2 then 15 else if s.val = 2 then 1 else 100
  | .dma q => if 26 ≤ q.val ∧ q.val < 50 then 10 + 2 * ((q.val - 26) % 12) else 0
def lv (g : GSem nD τ sig) (_ : Unit) : ℕ := lvS g.2

theorem L_of_ne (g : GSem nD τ sig) (h : g.1.2 ≠ .tc) : L g = ∅ := if_neg h
theorem L_tc (c : Dev nD) (sm : SemLoc sig) : L (gc c sm) = {()} := if_pos rfl

theorem owedFrom_pos {c : Dev nD} {n : ℕ} {g : GSem nD τ sig} {u : Unit} (h : 0 < owedFrom c n g u) :
    ∃ i, n ≤ i ∧ i < 30 ∧ g = gc (dto i c) (dloc i) := by
  unfold owedFrom at h
  rw [Finset.sum_apply, Finsupp.finset_sum_apply] at h
  obtain ⟨i, hi, hpos⟩ := Finset.exists_ne_zero_of_sum_ne_zero (Nat.pos_iff_ne_zero.mp h)
  rw [tallyAt_apply] at hpos
  by_cases hg : g = gc (dto i c) (dloc i) ∧ u = ()
  · exact ⟨i, (Finset.mem_Ico.mp hi).1, (Finset.mem_Ico.mp hi).2, hg.1⟩
  · rw [if_neg hg] at hpos; exact absurd rfl hpos

/-- A device may wait on a cell below every cell it still owes. -/
theorem mayWait (c : Dev nD) (sm : SemLoc sig) (n : ℕ) (h : ∀ i < 30, n ≤ i → lvS sm < lvS (dloc i)) :
    (levAts L lv : sProp 𝕄) ⊢ MayWait (c : Thread nD τ) sm () (owedFrom c n) :=
  MayOwe.of_cut (L := L) (lev := lv) (lvS sm) (fun p hp => by rw [Finset.mem_singleton.mp hp, L_tc]; exact Finset.mem_singleton_self _)
    (fun g u hg => by obtain ⟨i, _, _, rfl⟩ := owedFrom_pos hg; exact Finset.mem_singleton_self _)
    (fun p hp => by rw [Finset.mem_singleton.mp hp]; exact Nat.le_refl _)
    (fun g u hg => by obtain ⟨i, h1, h2, rfl⟩ := owedFrom_pos hg; exact h i h2 h1)

end Cert.RingProof
-- ==== Proof.Ops.lean ====
/-
# The operations of the program, one rule each, on the ring's resources

Each rule takes the operation as the program has it, with equations saying which cell and which window it is.
-/
module

public import proofs.«01_k».proof.Proof.Sched

@[expose] public section

set_option maxRecDepth 16384

noncomputable section

namespace Cert.RingProof

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (I : Inp F) (K : Dev nD × Fin 52 → ℕ)

/-- The weakest precondition of a program on device `c`. -/
abbrev Run {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

/-- Every cell's invariant, that every cell has reached its round, and the levels. -/
def Env : sProp 𝕄 :=
  iprop(bigSep Finset.univ (fun x : Dev nD × Fin 52 => iprop(cellInv ER (ringRd I) (K x) (kcell x) ∗ reached ER (kcell x) 0)) ∗ levAts L lv)

instance Env_persistent : BI.Persistent (Env I K) := by unfold Env; infer_instance

theorem env_at (c : Dev nD) (i : Fin 52) {sm : SemLoc sig} (h : cloc i = sm) :
    Env I K ⊢ iprop(cellInv ER (ringRd I) (K (c, i)) (gc c sm) ∗ reached ER (gc c sm) 0) := by
  subst h
  unfold Env
  iintro ⟨#H, -⟩
  have h : bigSep Finset.univ (fun x : Dev nD × Fin 52 => iprop(cellInv ER (ringRd I) (K x) (kcell x) ∗ reached ER (kcell x) 0))
      ⊢ iprop(cellInv ER (ringRd I) (K (c, i)) (kcell (c, i)) ∗ reached ER (kcell (c, i)) 0) := bigSep_elim (Finset.mem_univ (c, i))
  iapply h; iexact H
theorem env_lev : Env I K ⊢ levAts L lv := by unfold Env; iintro ⟨-, #H⟩; iexact H

/-! ## A device's place in the protocol

`n` of its payments are made and `j` of its cells have been waited on, in the orders of the program. -/

/-- The cells in the order a device waits on them, by number. -/
def zi (j : ℕ) : Fin 52 :=
  if j = 0 then 2 else if j < 5 then recvI ((j - 1) % 2) ((j - 1) / 2)
  else if j = 5 then sendI 0 0 else if j = 6 then recvI 0 2 else if j = 7 then credI 0
  else if j = 8 then sendI 1 0 else if j = 9 then recvI 1 2 else if j = 10 then credI 1
  else if j < 23 then (if j % 2 = 1 then sendI ((j - 11) / 2 % 2) ((j - 7) / 4) else recvI ((j - 11) / 2 % 2) ((j - 11) / 4 + 3))
  else if j < 27 then sendI ((j - 23) / 2) (4 + (j - 23) % 2)
  else if j < 39 then recvI ((j - 27) % 2) (6 + (j - 27) / 2)
  else if j < 51 then sendI ((j - 39) / 6) (6 + (j - 39) % 6) else 3
def zloc (j : ℕ) : SemLoc sig := cloc (zi j)

set_option maxRecDepth 100000 in
theorem zi_inj : ∀ i < 52, ∀ j < 52, zi i = zi j → i = j := by decide +kernel

def isSnd (sm : SemLoc sig) : Bool :=
  match sm with
  | .reg _ => false
  | .dma q => decide (q.val < 26)
def wamt (sm : SemLoc sig) : ℕ :=
  match sm with
  | .reg s => if s.val < 2 then 1 else 2
  | .dma _ => N

def isPut (n : ℕ) : Bool := !(decide (n < 2) || decide (n = 8) || decide (n = 10) || decide (28 ≤ n))
/-- Which of the cell's duties payment `n` is. -/
def db (n : ℕ) : Fin 2 := if n = 1 ∨ n = 29 then 1 else 0

/-- What lets device `c` make payment `n`, -/
def ptok (c : Dev nD) (n : ℕ) : sProp 𝕄 :=
  iprop(dutyTok ER (gc (dto n c) (dloc n)) 0 (db n) ∗ if isPut n then dutyTok ER (gc c (sendL (dj n % 2) (dj n / 2))) 0 0 else emp)
/-- and wait on its `j`-th cell. A send cell's credit comes from the sending. -/
def wtok (c : Dev nD) (j : ℕ) : sProp 𝕄 :=
  iprop(atPos ER (gc c (zloc j)) 0 ∅ 0 ∗ if isSnd (zloc j) then emp else cred (tallyAt (gc c (zloc j)) () (wamt (zloc j))))

def Ow (c : Dev nD) (n : ℕ) : sProp 𝕄 := iprop(∃ W, owes (c : Thread nD τ) (owedFrom c n) W)
def Pays (c : Dev nD) (n : ℕ) : sProp 𝕄 := bigSep (Finset.Ico n 30) (ptok c)
def Wts (c : Dev nD) (j : ℕ) : sProp 𝕄 :=
  iprop(bigSep (Finset.Ico j 52) (wtok c) ∗ bigSep (Finset.range j) fun i => semVal (gc c (zloc i)) 0)

/-- Device `c` after `n` payments and `j` waits. -/
def St (c : Dev nD) (n j : ℕ) : sProp 𝕄 := iprop(Ow c n ∗ Pays c n ∗ Wts c j)

theorem Ico_peel {n m : ℕ} (h : n < m) : Finset.Ico n m = insert n (Finset.Ico (n + 1) m) := by
  ext x; simp only [Finset.mem_Ico, Finset.mem_insert]; omega

theorem Pays_peel (c : Dev nD) (n : ℕ) (h : n < 30) : (Pays c n : sProp 𝕄) = iprop(ptok c n ∗ Pays c (n + 1)) := by
  unfold Pays; rw [Ico_peel h, bigSep_insert (by simp)]; rfl
theorem Wts_peel (c : Dev nD) (j : ℕ) (h : j < 52) : (Wts c j : sProp 𝕄)
    = iprop((wtok c j ∗ bigSep (Finset.Ico (j + 1) 52) (wtok c)) ∗ bigSep (Finset.range j) fun i => semVal (gc c (zloc i)) 0) := by
  unfold Wts; rw [Ico_peel h, bigSep_insert (by simp)]; rfl
theorem Wts_next (c : Dev nD) (j : ℕ) :
    iprop(bigSep (Finset.Ico (j + 1) 52) (wtok c) ∗ semVal (gc c (zloc j)) 0 ∗ bigSep (Finset.range j) fun i => semVal (gc c (zloc i)) 0) ⊢ (Wts c (j + 1) : sProp 𝕄) := by
  unfold Wts
  rw [Finset.range_add_one, bigSep_insert (by simp)]
  exact .rfl

theorem lv0 : ∀ i < 30, 0 < lvS (dloc i) := by decide

section Ops
variable (c : Dev nD)

theorem op_signal {α : Type} {Φ : α → sProp 𝕄} (n j : ℕ) (i : Fin 52) (s : Sem sig) (hn : n < 30) (hb : db n ∈ dutOf (.reg s)) (hi : cloc i = .reg s)
    (hl : dloc n = .reg s) (hp : isPut n = false) (d : Dev nD) (hd : d = dto n c) {k' : ℕ} (hk : 1 = k') {s' : Sem sig} (hs : s' = s)
    {k : PUnit → Prog (TpuEff nD τ sig (Elt F) Λ₀ .tc) α} :
    Env I K ⊢ iprop(payOf I (dto n c) (.reg s) (db n) -∗ St c n j -∗ (St c (n + 1) j -∗ Run c (k ⟨⟩) Φ)
      -∗ Run c (.op (.semSignal (Dev.tc d : Thread nD τ) s' k') k) Φ) := by
  subst hk; subst hs; subst hd
  have hr : τ.routes (c : Thread nD τ) (dto n c : Thread nD τ) = true := by routes
  have hd' : db n ∈ (ringRd (F := F) I).duties (gc (dto n c) (.reg s')) 0 := by rw [duties_gc]; exact hb
  have hO : owedFrom c n = owedFrom c (n + 1) + tallyAt (gc (dto n c) (.reg s')) () 1 := by rw [owedFrom_peel c n hn, hl]; rfl
  unfold St Ow
  rw [Pays_peel c n hn]
  unfold ptok
  rw [hl, hp]
  iintro #HE Hp ⟨⟨%W, HO⟩, ⟨⟨Ht, -⟩, HP⟩, HW⟩ Hk
  ihave #H := (env_at I K (dto n c) i hi) $$ HE
  icases H with ⟨#Hi, #Hr⟩
  iapply (Rounds.wp_signal 𝒱₀ ER (ringRd I) (c : Thread nD τ) none (dst := (dto n c : Thread nD τ)) (κ := K (dto n c, i)) (r := 0)
    (d := db n) hd' rfl () (O₀ := owedFrom c n) (owedFrom c (n + 1)) hO (hr := hr)) $$ [HO Ht Hp]
  · isplitr; · iexact Hi
    isplitl [HO]; · iexact HO
    isplitl [Ht]; · iexact Ht
    isplitl [Hp]; · rw [payload_gc]; iexact Hp
    iexact Hr
  iintro HO
  iapply Hk
  isplitl [HO]; · iexists W; iexact HO
  isplitl [HP]; · iexact HP
  iexact HW

/-- The wait on the `j`-th cell, whichever: its payloads, and the cell closed. -/
theorem op_wait {α : Type} {Φ : α → sProp 𝕄} (n j : ℕ) (sm : SemLoc sig) (hj : j < 52) (hz : zloc j = sm)
    (hlv : ∀ i < 30, n ≤ i → lvS sm < lvS (dloc i)) (he : wamt sm = (ringRd (F := F) I).expect (gc c sm) 0)
    {w : TpuEff nD τ sig (Elt F) Λ₀ .tc PUnit} {k' : ℕ} (hk : wamt sm = k')
    (hw : ∀ Q : PUnit → sProp 𝕄, wpE (defs₀ (F := F)) 𝒱₀ (c : Thread nD τ) none Set.univ w Q = waitSpec (c : Thread nD τ) Set.univ sm k' Q)
    {k : PUnit → Prog (TpuEff nD τ sig (Elt F) Λ₀ .tc) α} :
    Env I K ⊢ iprop((if isSnd sm then cred (tallyAt (gc c sm) () (wamt sm)) else emp) -∗ St c n j
      -∗ ((bigSep ((ringRd (F := F) I).duties (gc c sm) 0 \ ∅) (fun d => (ringRd (F := F) I).payload (gc c sm) 0 d)) -∗ St c n (j + 1) -∗ Run c (k ⟨⟩) Φ)
      -∗ Run c (.op w k) Φ) := by
  subst hk; subst hz
  unfold St Ow
  rw [Wts_peel c j hj]
  unfold wtok
  iintro #HE Hs ⟨⟨%W, HO⟩, HP, ⟨⟨Hat, Hc⟩, HW⟩, HZ⟩ Hk
  ihave #H := (env_at I K c (zi j) rfl) $$ HE
  icases H with ⟨#Hi, #Hr⟩
  ihave #HL := (env_lev I K) $$ HE
  ihave Hcr : cred (tallyAt (gc c (zloc j)) () (wamt (zloc j))) $$ [Hs Hc]
  · cases h : isSnd (zloc j)
    · iclear Hs; simp only [Bool.false_eq_true, if_false]; iexact Hc
    · iclear Hc; simp only [if_true]; iexact Hs
  iapply (Rounds.wp_wait_rest_token 𝒱₀ ER (ringRd I) (c : Thread nD τ) none hw (Set.mem_univ (K (c, zi j))) () (O := owedFrom c n) (W := W)
    (R := 0) (m := 0) (T := ∅) (by rw [Nat.zero_add]; exact he)) $$ [HO Hcr Hat]
  · isplitr; · iexact Hi
    isplitl [Hcr]; · iexact Hcr
    isplitl [HO]; · iexact HO
    isplitr; · iapply (mayWait c (zloc j) n hlv); iexact HL
    iexact Hat
  iintro ⟨HO, Hat, -, Hpay⟩
  imod (Rounds.cell_close ER (ringRd I) (Set.mem_univ (K (c, zi j))) (fun h => h) (R := 0 + 1) (duties_later I (gc c (zloc j)))) $$ [Hat] with Hv
  · isplitr; · iexact Hi
    iexact Hat
  iapply Hk $$ [Hpay]
  · iexact Hpay
  isplitl [HO]; · iexists _; iexact HO
  isplitl [HP]; · iexact HP
  iapply (Wts_next c j)
  isplitl [HW]; · iexact HW
  isplitl [Hv]; · iexact Hv
  iexact HZ

/-- The same on a register semaphore (the barrier, a credit, the exit), the payloads given as `P`. -/
theorem op_wait_reg {α : Type} {Φ : α → sProp 𝕄} (n j : ℕ) (s : Sem sig) (P : sProp 𝕄) (hj : j < 52) (hz : zloc j = .reg s)
    (hlv : ∀ i < 30, n ≤ i → lvS (.reg s) < lvS (dloc i)) (he : wamt (.reg s) = (ringRd (F := F) I).expect (gc c (.reg s)) 0)
    (hP : bigSep ((ringRd (F := F) I).duties (gc c (.reg s)) 0 \ ∅) (fun d => (ringRd (F := F) I).payload (gc c (.reg s)) 0 d) ⊢ P)
    {k' : ℕ} (hk : wamt (.reg s) = k') {s' : Sem sig} (hs : s' = s)
    {k : PUnit → Prog (TpuEff nD τ sig (Elt F) Λ₀ .tc) α} :
    Env I K ⊢ iprop(St c n j -∗ (P -∗ St c n (j + 1) -∗ Run c (k ⟨⟩) Φ) -∗ Run c (.op (.semWait s' k') k) Φ) := by
  subst hs
  iintro #HE HS Hk
  iapply (op_wait I K c n j (.reg s') hj hz hlv he hk (fun Q => wpE_semWait_eq 𝒱₀ (c : Thread nD τ) none Set.univ Q)) $$ HE [] HS
  · iempintro
  iintro Hp HS
  iapply Hk $$ [Hp] HS
  iapply hP; iexact Hp

theorem op_wait_recv {α : Type} {Φ : α → sProp 𝕄} (n j r t : ℕ) (hr : r < 2) (ht : t < 12) (hj : j < 52) (hz : zi j = recvI r t)
    (hlv : ∀ i < 30, n ≤ i → lvS (recvL r t) < lvS (dloc i))
    {sp sp' : Space} {s s' : Shape} {e e' : EltTy} {q : DmaSem sig} (hq : q = recvS r t)
    {src : Memref sig .tc sp' s' e'} {dst : Memref sig .tc sp s e} {hsrc : src.view.WordExact} {hdst : dst.view.WordExact} (hN : N = dst.view.dmaCredit)
    {k : PUnit → Prog (TpuEff nD τ sig (Elt F) Λ₀ .tc) α} :
    Env I K ⊢ iprop(St c n j -∗ (recvP I c r t -∗ St c n (j + 1) -∗ Run c (k ⟨⟩) Φ) -∗ Run c (.op (.waitDma2 q src dst hsrc hdst) k) Φ) := by
  subst hq
  iintro #HE HS Hk
  iapply (op_wait I K c n j (recvL r t) hj (by unfold zloc; rw [hz]; exact cloc_recv r t) hlv (expect_one I c _ (dut_recv r t)).symm hN
    (fun Q => wpE_waitDma2_eq 𝒱₀ (c : Thread nD τ) none Set.univ Q)) $$ HE [] HS
  · rw [show isSnd (recvL r t) = false from decide_eq_false (by show ¬ 26 + 12 * (r % 2) + t % 12 < 26; omega)]
    iempintro
  iintro Hp HS
  iapply Hk $$ [Hp] HS
  iapply (Entails.of_eq ((rest_one I c _ (dut_recv r t)).trans (pay_recv I c r t hr ht 0)))
  iexact Hp

/-- What the sender keeps of transfer `t` until it waits for its end. -/
def Sent (c : Dev nD) (r t : ℕ) : sProp 𝕄 := cred (tallyAt (gc c (sendL r t)) () N)

theorem op_wait_send {α : Type} {Φ : α → sProp 𝕄} (n j r t : ℕ) (hr : r < 2) (ht : t < 12) (hj : j < 52) (hz : zi j = sendI r t)
    {sp sp' : Space} {s s' : Shape} {e e' : EltTy} {q : DmaSem sig} (hq : q = sendS r t)
    {src : Memref sig .tc sp' s' e'} {dst : Memref sig .tc sp s e} {hsrc : src.view.WordExact} {hdst : dst.view.WordExact} (hN : N = dst.view.dmaCredit)
    {k : PUnit → Prog (TpuEff nD τ sig (Elt F) Λ₀ .tc) α} :
    Env I K ⊢ iprop(Sent c r t -∗ St c n j -∗ (sendP I c r t -∗ St c n (j + 1) -∗ Run c (k ⟨⟩) Φ) -∗ Run c (.op (.waitDma2 q src dst hsrc hdst) k) Φ) := by
  subst hq
  have hl : lvS (sendL r t) = 0 := if_neg (by show ¬ (26 ≤ 2 + 12 * (r % 2) + t % 12 ∧ _); omega)
  unfold Sent
  iintro #HE Hs HS Hk
  iapply (op_wait I K c n j (sendL r t) hj (by unfold zloc; rw [hz]; exact cloc_send r t) (fun i h1 _ => by rw [hl]; exact lv0 i h1)
    (expect_one I c _ (dut_send r t)).symm hN (fun Q => wpE_waitDma2_eq 𝒱₀ (c : Thread nD τ) none Set.univ Q)) $$ HE [Hs] HS
  · rw [show isSnd (sendL r t) = true from decide_eq_true (by show 2 + 12 * (r % 2) + t % 12 < 26; omega)]
    simp only [if_true]
    iexact Hs
  iintro Hp HS
  iapply Hk $$ [Hp] HS
  iapply (Entails.of_eq ((rest_one I c _ (dut_send r t)).trans (pay_send I c r t hr ht 0)))
  iexact Hp

/-- A window reached through its re-indexings carries the contents over. -/
theorem land_read {κ κ' : Kind} {sp sp' : Space} {s s' : Shape} {e : EltTy} (v : View sig κ sp s e) (v' : View sig κ' sp' s e) (h : s'.numel = s.numel)
    (fs : v.ty.Contents (Elt F)) (fd : v'.ty.Contents (Elt F)) :
    v'.read (Elt F) ((v'.reshape s' h).write (Elt F) fd ((v.reshape s' h).read (Elt F) fs) Finset.univ) = v.read (Elt F) fs := by
  funext x
  obtain ⟨y, rfl⟩ := (Shape.reshapeEquiv h).surjective x
  rw [View.read_write_reshape]
  rfl

theorem op_send {α : Type} {Φ : α → sProp 𝕄} (n j r t : ℕ) (hr : r < 2) (ht : t < 12) (hn : n < 30) (hp : isPut n = true) (hjr : dj n % 2 = r) (hjt : dj n / 2 = t)
    (hto : dto n c = dwn r c) (hl : dloc n = recvL r t) (hdb : db n = 0)
    {src dst : Memref sig .tc .vmem S512x1024 .bf16} (hs : src = sq (srcS r t)) (hd : dst = sq (dstS r t)) {d : Dev nD} (hdev : d = dwn r c)
    {q q' : DmaSem sig} (hq : q = sendS r t) (hq' : q' = recvS r t)
    {hsc : dst.view.ref.isScScratch = false} {hsrc : src.view.WordExact} {hdst : dst.view.WordExact}
    {hsem : DmaTarget.Typed (nD := nD) (τ := τ) (p := .tc) .vmem (.dma q') (.remote (Dev.tc d) dst (.dma q) hsc)}
    {k : PUnit → Prog (TpuEff nD τ sig (Elt F) Λ₀ .tc) α} :
    Env I K ⊢ iprop(ownsTc c (srcS r t) (shr t) (sv I c r t) -∗ anyW (dwn r c) (dstS r t) -∗ St c n j -∗ (Sent c r t -∗ St c (n + 1) j -∗ Run c (k ⟨⟩) Φ)
      -∗ Run c (.op (.enqueueDma src (.remote (Dev.tc d) dst (.dma q) hsc) (.dma q') hsrc hdst hsem) k) Φ) := by
  subst hs; subst hd; subst hdev; subst hq; subst hq'
  have hrt : τ.routes (c : Thread nD τ) (dwn r c : Thread nD τ) = true := by routes
  have hO : owedFrom c n = owedFrom c (n + 1) + tallyAt (gc (dwn r c) (recvL r t)) () N := by rw [owedFrom_peel c n hn, hl, hto]; rfl
  have hd1 : (0 : Fin 2) ∈ (ringRd (F := F) I).duties (gc c (sendL r t)) 0 := by rw [duties_gc, dut_send]; exact Finset.mem_singleton_self _
  have hd2 : (0 : Fin 2) ∈ (ringRd (F := F) I).duties (gc (dwn r c) (recvL r t)) 0 := by rw [duties_gc, dut_recv]; exact Finset.mem_singleton_self _
  unfold St Ow Sent
  rw [Pays_peel c n hn]
  unfold ptok anyW ownsTc owns
  rw [hl, hp, hto, hjr, hjt, hdb]
  iintro #HE ⟨%fs, %hfs, Hs⟩ ⟨%X, %fd, -, Hd⟩ ⟨⟨%W, HO⟩, ⟨⟨Ht, Hts⟩, HP⟩, HW⟩ Hk
  ihave #H := (env_at I K (dwn r c) (recvI r t) (cloc_recv r t)) $$ HE
  icases H with ⟨#Hi, #Hr⟩
  ihave #H := (env_at I K c (sendI r t) (cloc_send r t)) $$ HE
  icases H with ⟨#Hi', #Hr'⟩
  iapply (Rounds.wp_send_pointsTo 𝒱₀ ER (ringRd I) (c : Thread nD τ) none (c' := (dwn r c : Thread nD τ)) (src := sq (srcS r t)) (dst := sq (dstS r t))
    (κ₁ := K (c, sendI r t)) (κ₂ := K (dwn r c, recvI r t)) (r₁ := 0) (r₂ := 0) (d₁ := 0) (d₂ := 0) (q := shr t) (fs := fs) (fd := fd)
    hd1 hd2 () () N (credit_dst r t) rfl rfl (O₀ := owedFrom c n) (owedFrom c (n + 1)) hO (W := W) ?_ ?_ (hr := hrt)) $$ [HO Ht Hts Hs Hd]
  · rw [payload_gc, pay_send I c r t hr ht]
    unfold sendP ownsTc owns
    simp only [Memref.view_squeeze, View.set_reshape]
    iintro H
    iexists fs
    isplitr; · ipureintro; exact hfs
    iexact H
  · rw [payload_gc, pay_recv I _ r t hr ht, ]
    unfold recvP ownsTc owns
    simp only [Memref.view_squeeze, View.set_reshape]
    rw [up_dwn]
    iintro H
    iexists (sq (dstS r t)).view.write (Elt F) fd ((sq (srcS r t)).view.read (Elt F) fs) Finset.univ
    isplitr
    · ipureintro; exact (land_read (srcS r t).view (dstS r t).view _ fs fd).trans hfs
    iexact H
  · isplitr; · iexact Hi'
    isplitr; · iexact Hi
    isplitl [Hs]; · simp only [Memref.view_squeeze, View.set_reshape]; iexact Hs
    isplitl [Hd]; · simp only [Memref.view_squeeze, View.set_reshape]; iexact Hd
    isplitl [HO]; · iexact HO
    isplitl [Hts]; · simp only [if_true]; iexact Hts
    isplitr; · iexact Hr'
    isplitl [Ht]; · iexact Ht
    iexact Hr
  iintro ⟨Hc, HO⟩
  iapply Hk $$ Hc
  isplitl [HO]; · iexists W; iexact HO
  isplitl [HP]; · iexact HP
  iexact HW

end Ops

end Cert.RingProof
-- ==== Proof.Mem.lean ====
/-
# Loads and stores, one rule each

The windows of the half-chunk buffers, the 1032-row windows of `x`, the taps and the projection.
-/
module

public import proofs.«01_k».proof.Proof.Ops

@[expose] public section

set_option maxRecDepth 16384

noncomputable section

namespace Cert.RingProof

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (I : Inp F) (K : Dev nD × Fin 52 → ℕ)

/-! ## Loads and stores of a slice that is owned -/

section Mem
variable (c : Dev nD)

theorem load_owned {α : Type} {Φ : α → sProp 𝕄} {Sb : Shape} {e : EltTy} (M : Memref sig .tc .vmem Sb e) (R : Rect Sb) (hR : ∀ a, R.stride a = 1)
    (q : PosShare TreeShare) (X : R.shape.Idx → Elt F e) {hl : M.view.LoadsAt R} {k : (R.shape.Idx → Elt F e) → Prog (TpuEff nD τ sig (Elt F) Λ₀ .tc) α} :
    ownsTc c (M.slice R hR) q X ⊢ iprop((ownsTc c (M.slice R hR) q X -∗ Run c (k X) Φ) -∗ Run c (.op (.load M R hl) k) Φ) := by
  unfold ownsTc owns
  iintro ⟨%f, %hf, H⟩ Hk
  subst hf
  iapply (wp_load_rect 𝒱₀ (c : Thread nD τ) none Set.univ (m := M) (r := R) (q := q) (f := f) (subset_refl _)) $$ [H]
  · iexact H
  iintro H
  iapply Hk
  iexists f
  isplitr; · ipureintro; rfl
  iexact H

/-- A part of an owned slice, loaded; a part of an owned buffer, loaded. -/
theorem load_within {α : Type} {Φ : α → sProp 𝕄} {Sb : Shape} {e : EltTy} (M : Memref sig .tc .vmem Sb e) (R₀ R : Rect Sb) (hR₀ : ∀ a, R₀.stride a = 1)
    (hsub : R.set ⊆ R₀.set) (q : PosShare TreeShare) (X : R₀.shape.Idx → Elt F e) (Y : R.shape.Idx → Elt F e)
    (hY : ∀ f, (M.slice R₀ hR₀).view.read (Elt F) f = X → (M.access R).read (Elt F) f = Y)
    {hl : M.view.LoadsAt R} {k : (R.shape.Idx → Elt F e) → Prog (TpuEff nD τ sig (Elt F) Λ₀ .tc) α} :
    ownsTc c (M.slice R₀ hR₀) q X ⊢ iprop((ownsTc c (M.slice R₀ hR₀) q X -∗ Run c (k Y) Φ) -∗ Run c (.op (.load M R hl) k) Φ) := by
  have hs : (M.access R).set ⊆ (M.slice R₀ hR₀).view.set := by
    show (M.view.slice R).set ⊆ (M.view.slice R₀).set
    rw [View.set_slice, View.set_slice]; exact Finset.map_subset_map.2 hsub
  unfold ownsTc owns
  iintro ⟨%f, %hf, H⟩ Hk
  iapply (wp_load_rect 𝒱₀ (c : Thread nD τ) none Set.univ (m := M) (r := R) (q := q) (S := (M.slice R₀ hR₀).view.set) (f := f) hs) $$ [H]
  · iexact H
  rw [hY f hf]
  iintro H
  iapply Hk
  iexists f
  isplitr; · ipureintro; exact hf
  iexact H

theorem load_part {α : Type} {Φ : α → sProp 𝕄} {Sb : Shape} {e : EltTy} (M : Memref sig .tc .vmem Sb e) (R : Rect Sb)
    (q : PosShare TreeShare) (X : Sb.Idx → Elt F e) (Y : R.shape.Idx → Elt F e) (hY : ∀ f, M.view.read (Elt F) f = X → (M.access R).read (Elt F) f = Y)
    {hl : M.view.LoadsAt R} {k : (R.shape.Idx → Elt F e) → Prog (TpuEff nD τ sig (Elt F) Λ₀ .tc) α} :
    ownsTc c M q X ⊢ iprop((ownsTc c M q X -∗ Run c (k Y) Φ) -∗ Run c (.op (.load M R hl) k) Φ) := by
  unfold ownsTc owns
  iintro ⟨%f, %hf, H⟩ Hk
  iapply (wp_load_rect 𝒱₀ (c : Thread nD τ) none Set.univ (m := M) (r := R) (q := q) (f := f) (View.set_slice_subset _ _)) $$ [H]
  · iexact H
  rw [hY f hf]
  iintro H
  iapply Hk
  iexists f
  isplitr; · ipureintro; exact hf
  iexact H

theorem store_owned {α : Type} {Φ : α → sProp 𝕄} {Sb : Shape} {e : EltTy} (M : Memref sig .tc .vmem Sb e) (R : Rect Sb) (hR : ∀ a, R.stride a = 1)
    (X w : R.shape.Idx → Elt F e) {hx : (M.access R).Stores Finset.univ} {hm} {k : PUnit → Prog (TpuEff nD τ sig (Elt F) Λ₀ .tc) α} :
    ownsTc c (M.slice R hR) fullShare X
      ⊢ iprop((ownsTc c (M.slice R hR) fullShare w -∗ Run c (k ⟨⟩) Φ) -∗ Run c (.op (.store M R w Finset.univ hx hm) k) Φ) := by
  unfold ownsTc owns
  iintro ⟨%f, %hf, H⟩ Hk
  iapply (wp_store 𝒱₀ (c : Thread nD τ) none Set.univ (m := M) (r := R) (w := w) (f := f) (by rw [View.setOn_univ])) $$ [H]
  · iexact H
  iintro H
  iapply Hk
  iexists ((M.access R).write (Elt F) f w Finset.univ)
  isplitr; · ipureintro; exact View.read_write_univ _ _
  iexact H

/-- A window of the half-chunk buffers, loaded: -/
theorem op_load_c {α : Type} {Φ : α → sProp 𝕄} (W : WinM) (q : PosShare TreeShare) (X : FVec F S1x1x512x1024 .bf16) {M : Memref sig .tc .vmem S2x2x1024x1024 .bf16}
    {o : Fin 4 → ℕ} {inb : ∀ a, o a + S1x1x512x1024.size a ≤ S2x2x1024x1024.size a} (hW : W = M.slice (Rect.unit (s := S2x2x1024x1024) o S1x1x512x1024.size inb) (fun _ => rfl))
    {hl : M.view.LoadsAt (Rect.unit (s := S2x2x1024x1024) o S1x1x512x1024.size inb)} {k : FVec F S1x1x512x1024 .bf16 → Prog (TpuEff nD τ sig (Elt F) Λ₀ .tc) α} :
    ownsTc c W q X ⊢ iprop((ownsTc c W q X -∗ Run c (k X) Φ) -∗ Run c (.op (.load M (Rect.unit (s := S2x2x1024x1024) o S1x1x512x1024.size inb) hl) k) Φ) := by
  subst hW
  exact load_owned c M (Rect.unit (s := S2x2x1024x1024) o S1x1x512x1024.size inb) (fun _ => rfl) q X

/-- loaded at any contents, to no purpose; -/
theorem op_load_any {α : Type} {Φ : α → sProp 𝕄} (W : WinM) {M : Memref sig .tc .vmem S2x2x1024x1024 .bf16}
    {o : Fin 4 → ℕ} {inb : ∀ a, o a + S1x1x512x1024.size a ≤ S2x2x1024x1024.size a} (hW : W = M.slice (Rect.unit (s := S2x2x1024x1024) o S1x1x512x1024.size inb) (fun _ => rfl))
    {hl : M.view.LoadsAt (Rect.unit (s := S2x2x1024x1024) o S1x1x512x1024.size inb)} {k : Prog (TpuEff nD τ sig (Elt F) Λ₀ .tc) α} :
    anyW c W ⊢ iprop((anyW c W -∗ Run c k Φ) -∗ Run c (.op (.load M (Rect.unit (s := S2x2x1024x1024) o S1x1x512x1024.size inb) hl) (fun _ => k)) Φ) := by
  subst hW
  unfold anyW
  iintro ⟨%X, H⟩ Hk
  iapply (load_owned c M _ (fun _ => rfl) fullShare X) $$ H
  iintro H
  iapply Hk
  iexists X; iexact H

/-- stored. -/
theorem op_store_c {α : Type} {Φ : α → sProp 𝕄} (W : WinM) (v : FVec F S1x1x512x1024 .bf16) {M : Memref sig .tc .vmem S2x2x1024x1024 .bf16}
    {o : Fin 4 → ℕ} {inb : ∀ a, o a + S1x1x512x1024.size a ≤ S2x2x1024x1024.size a} (hW : W = M.slice (Rect.unit (s := S2x2x1024x1024) o S1x1x512x1024.size inb) (fun _ => rfl))
    {w : FVec F S1x1x512x1024 .bf16} (hv : w = v)
    {hx : (M.access (Rect.unit (s := S2x2x1024x1024) o S1x1x512x1024.size inb)).Stores Finset.univ} {hm} {k : PUnit → Prog (TpuEff nD τ sig (Elt F) Λ₀ .tc) α} :
    anyW c W ⊢ iprop((ownsTc c W fullShare v -∗ Run c (k ⟨⟩) Φ)
      -∗ Run c (.op (.store M (Rect.unit (s := S2x2x1024x1024) o S1x1x512x1024.size inb) w Finset.univ hx hm) k) Φ) := by
  subst hW; subst hv
  unfold anyW
  iintro ⟨%X, H⟩ Hk
  iapply (store_owned c M _ (fun _ => rfl) X w) $$ H
  iexact Hk

/-! ## The window of `x`, the taps, the projection -/

theorem inb_x (r : ℕ) : ∀ a, ![r % 2, 0, 0] a + S1x1032x1024.size a ≤ S2x1032x1024.size a := by
  intro a; match a with
  | 0 => show r % 2 + 1 ≤ 2; omega
  | 1 => exact Nat.le_refl _
  | 2 => exact Nat.le_refl _
theorem inb_xd (r : ℕ) : ∀ a, ![r % 2, 8, 0] a + S1x1024x1024.size a ≤ S2x1032x1024.size a := by
  intro a; match a with
  | 0 => show r % 2 + 1 ≤ 2; omega
  | 1 => exact Nat.le_refl _
  | 2 => exact Nat.le_refl _
theorem inb_xt (r : ℕ) : ∀ a, ![r % 2, 0, 0] a + S1x8x1024.size a ≤ S2x1032x1024.size a := by
  intro a; match a with
  | 0 => show r % 2 + 1 ≤ 2; omega
  | 1 => show 8 ≤ 1032; omega
  | 2 => exact Nat.le_refl _

/-- Row `r` of the buffer of windows; its rows after the halo; the halo. -/
def xwR (r : ℕ) : Rect S2x1032x1024 := Rect.unit (s := S2x1032x1024) ![r % 2, 0, 0] S1x1032x1024.size (inb_x r)
def xdR (r : ℕ) : Rect S2x1032x1024 := Rect.unit (s := S2x1032x1024) ![r % 2, 8, 0] S1x1024x1024.size (inb_xd r)
def xwS (r : ℕ) : Memref sig .tc .vmem S1x1032x1024 .f32 :=
  (Memref.whole cc0_scratch0).slice (Rect.unit (s := S2x1032x1024) ![r % 2, 0, 0] S1x1032x1024.size (inb_x r)) (fun _ => rfl)
def xwD (r : ℕ) : Memref sig .tc .vmem S1x1024x1024 .f32 :=
  (Memref.whole cc0_scratch0).slice (Rect.unit (s := S2x1032x1024) ![r % 2, 8, 0] S1x1024x1024.size (inb_xd r)) (fun _ => rfl)

theorem op_load_x {α : Type} {Φ : α → sProp 𝕄} (r off : ℕ) (hoff : off + 512 ≤ 1032) (X : Vec F S1x1032x1024 .f32)
    {o : Fin 3 → ℕ} (ho : o = ![r % 2, off, 0]) {inb : ∀ a, o a + S1x512x1024.size a ≤ S2x1032x1024.size a}
    {hl : (Memref.whole cc0_scratch0 : Memref sig .tc .vmem S2x1032x1024 .f32).view.LoadsAt (Rect.unit (s := S2x1032x1024) o S1x512x1024.size inb)}
    {k : Vec F S1x512x1024 .f32 → Prog (TpuEff nD τ sig (Elt F) Λ₀ .tc) α} :
    ownsTc c (xwS r) fullShare X ⊢ iprop((ownsTc c (xwS r) fullShare X -∗ Run c (k (xrow X off)) Φ)
      -∗ Run c (.op (.load (Memref.whole cc0_scratch0) (Rect.unit (s := S2x1032x1024) o S1x512x1024.size inb) hl) k) Φ) := by
  subst ho
  refine load_within c (Memref.whole cc0_scratch0 : Memref sig .tc .vmem S2x1032x1024 .f32) (xwR r) (Rect.unit (s := S2x1032x1024) ![r % 2, off, 0] S1x512x1024.size inb) (fun _ => rfl) ?_ fullShare X (xrow X off) ?_
  · intro i hi
    have hi := Rect.mem_set_unit.1 hi
    refine Rect.mem_set_unit.2 fun a => ?_
    match a with
    | 0 => exact hi 0
    | 1 => exact ⟨Nat.zero_le _, lt_of_lt_of_eq (i 1).isLt (Nat.zero_add _).symm⟩
    | 2 => exact hi 2
  · intro f hf
    subst hf
    have key : ∀ y, y < 512 → off + 1 * y = 0 + 1 * ((off + y) % 1032) := by
      intro y hy; rw [Nat.mod_eq_of_lt (by omega)]; omega
    exact funext fun x => congrArg f (Shape.idx3_ext rfl (key _ (x 1).isLt) rfl)

/-- The taps and the projection are whole in their buffers. -/
theorem op_load_k {α : Type} {Φ : α → sProp 𝕄} (t : ℕ) (ht : t < 4) (q : PosShare TreeShare) (X : Vec F S4x1024 .f32)
    {o : Fin 2 → ℕ} (ho : o = ![t, 0]) {inb : ∀ a, o a + S1x1024.size a ≤ S4x1024.size a}
    {hl : (Memref.whole cc0_stg0_0 : Memref sig .tc .vmem S4x1024 .f32).view.LoadsAt (Rect.unit (s := S4x1024) o S1x1024.size inb)}
    {k : Vec F S1x1024 .f32 → Prog (TpuEff nD τ sig (Elt F) Λ₀ .tc) α} :
    ownsTc c (Memref.whole cc0_stg0_0) q X ⊢ iprop((ownsTc c (Memref.whole cc0_stg0_0) q X -∗ Run c (k (krow X t)) Φ)
      -∗ Run c (.op (.load (Memref.whole cc0_stg0_0) (Rect.unit (s := S4x1024) o S1x1024.size inb) hl) k) Φ) := by
  subst ho
  refine load_part c (Memref.whole cc0_stg0_0 : Memref sig .tc .vmem S4x1024 .f32) (Rect.unit (s := S4x1024) ![t, 0] S1x1024.size inb) q X (krow X t) ?_
  intro f hf
  subst hf
  have key : ∀ y, y < 1 → t + 1 * y = (t + y) % 4 := by
    intro y hy; rw [Nat.mod_eq_of_lt (by omega)]; omega
  refine funext fun x => congrArg f (funext fun a => ?_)
  match a with
  | 0 => exact Fin.ext (key _ (x 0).isLt)
  | 1 => exact Fin.ext (show 0 + 1 * (x 1).val = (x 1).val by omega)

theorem op_load_w {α : Type} {Φ : α → sProp 𝕄} (q : PosShare TreeShare) (X : Vec F S1024x1024 .f32)
    {o : Fin 2 → ℕ} (ho : o = ![0, 0]) {inb : ∀ a, o a + S1024x1024.size a ≤ S1024x1024.size a}
    {hl : (Memref.whole cc0_stg1_0 : Memref sig .tc .vmem S1024x1024 .f32).view.LoadsAt (Rect.unit (s := S1024x1024) o S1024x1024.size inb)}
    {k : Vec F S1024x1024 .f32 → Prog (TpuEff nD τ sig (Elt F) Λ₀ .tc) α} :
    ownsTc c (Memref.whole cc0_stg1_0) q X ⊢ iprop((ownsTc c (Memref.whole cc0_stg1_0) q X -∗ Run c (k X) Φ)
      -∗ Run c (.op (.load (Memref.whole cc0_stg1_0) (Rect.unit (s := S1024x1024) o S1024x1024.size inb) hl) k) Φ) := by
  subst ho
  refine load_part c (Memref.whole cc0_stg1_0 : Memref sig .tc .vmem S1024x1024 .f32) (Rect.unit (s := S1024x1024) ![0, 0] S1024x1024.size inb) q X X ?_
  intro f hf
  subst hf
  refine funext fun x => congrArg f (funext fun a => ?_)
  match a with
  | 0 => exact Fin.ext (show 0 + 1 * (x 0).val = (x 0).val by omega)
  | 1 => exact Fin.ext (show 0 + 1 * (x 1).val = (x 1).val by omega)

end Mem

end Cert.RingProof
-- ==== Proof.Copy.lean ====
/-
# The copies of `x` into the windows

A step copies, for each row, the 1032 rows of its chunk with the halo; at chunk 0 it copies 1024 rows and writes the eight
rows of the halo with zeros while the copy runs. Which of the two happens is decided by the chunk.
-/
module

public import proofs.«01_k».proof.Proof.Mem

@[expose] public section

set_option maxRecDepth 16384

noncomputable section

namespace Cert.RingProof

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (I : Inp F) (K : Dev nD × Fin 52 → ℕ)

/-- The halo of row `r`. -/
def xwT (r : ℕ) : Memref sig .tc .vmem S1x8x1024 .f32 :=
  (Memref.whole cc0_scratch0).slice (Rect.unit (s := S2x1032x1024) ![r % 2, 0, 0] S1x8x1024.size (inb_xt r)) (fun _ => rfl)

theorem set_whole (b : Ref sig .tc) (R : Rect b.ty.shape) (hR : ∀ a, R.stride a = 1) : ((Memref.whole b).slice R hR).view.set = R.set :=
  View.set_slice_whole b R

theorem xw_disj (r : ℕ) : Disjoint (xwD r).view.set (xwT r).view.set := by
  unfold xwD xwT
  rw [set_whole, set_whole]
  exact Rect.unit_disjoint (s := S2x1032x1024) (1 : Fin 3) (Or.inr (Nat.le_refl 8))

theorem xw_cover (r : ℕ) (i : S2x1032x1024.Idx) : i ∈ (xwS r).view.set ↔ i ∈ (xwD r).view.set ∨ i ∈ (xwT r).view.set := by
  unfold xwS xwD xwT
  rw [set_whole, set_whole, set_whole, Rect.mem_set_unit, Rect.mem_set_unit, Rect.mem_set_unit]
  constructor
  · intro h
    by_cases h8 : (i 1).val < 8
    · refine Or.inr fun a => ?_
      match a with
      | 0 => exact h 0
      | 1 => exact ⟨Nat.zero_le _, h8⟩
      | 2 => exact h 2
    · refine Or.inl fun a => ?_
      match a with
      | 0 => exact h 0
      | 1 => exact ⟨Nat.le_of_not_lt h8, (h 1).2⟩
      | 2 => exact h 2
  · rintro (h | h) a
    · match a with
      | 0 => exact h 0
      | 1 => exact ⟨Nat.zero_le _, (h 1).2⟩
      | 2 => exact h 2
    · match a with
      | 0 => exact h 0
      | 1 => exact ⟨Nat.zero_le _, lt_of_lt_of_le (h 1).2 (show 0 + 8 ≤ 0 + 1032 by omega)⟩
      | 2 => exact h 2

/-- Elements held, split in two and joined. -/
theorem pt_split (ℓ : Loc nD τ sig) (S A B : Finset (Idx ℓ)) (q : PosShare TreeShare) (f : Buf (Elt F) ℓ) (hd : Disjoint A B) (hc : ∀ i, i ∈ S ↔ i ∈ A ∨ i ∈ B) :
    (ℓ ↦[S]{q} f : sProp 𝕄) ⊢ iprop((ℓ ↦[A]{q} f) ∗ ℓ ↦[B]{q} f) := by
  have h : S = A ∪ B := Finset.ext fun i => by rw [Finset.mem_union]; exact hc i
  rw [h]
  exact (pointsTo_union hd).1

theorem pt_join (ℓ : Loc nD τ sig) (S A B : Finset (Idx ℓ)) (q : PosShare TreeShare) (f g : Buf (Elt F) ℓ) (hd : Disjoint A B) (hc : ∀ i, i ∈ S ↔ i ∈ A ∨ i ∈ B) :
    iprop((ℓ ↦[A]{q} f) ∗ ℓ ↦[B]{q} g) ⊢ (iprop(∃ h : Buf (Elt F) ℓ, ⌜(∀ i ∈ A, h i = f i) ∧ ∀ i ∈ B, h i = g i⌝ ∗ (ℓ ↦[S]{q} h)) : sProp 𝕄) := by
  have h : S = A ∪ B := Finset.ext fun i => by rw [Finset.mem_union]; exact hc i
  rw [h]
  iintro H
  iexists B.piecewise g f
  isplitr
  · ipureintro
    exact ⟨fun i hi => Finset.piecewise_eq_of_notMem _ _ _ (fun hb => Finset.disjoint_left.1 hd hi hb), fun i hi => Finset.piecewise_eq_of_mem _ _ _ hi⟩
  iapply (pointsTo_join hd); iexact H

section Copy
variable (c : Dev nD)

theorem xw_split (r : ℕ) (X : Vec F S1x1032x1024 .f32) :
    (ownsTc c (xwS r) fullShare X : sProp 𝕄) ⊢ iprop((∃ X, ownsTc c (xwD r) fullShare X) ∗ ∃ X, ownsTc c (xwT r) fullShare X) := by
  unfold ownsTc owns
  iintro ⟨%f, -, H⟩
  icases (pt_split ((xwS r).view.loc (c : Thread nD τ)) (xwS r).view.set (xwD r).view.set (xwT r).view.set fullShare f (xw_disj r) (xw_cover r)) $$ H with ⟨HD, HT⟩
  isplitl [HD]
  · iexists _; iexists f; isplitr
    · ipureintro; rfl
    iexact HD
  · iexists _; iexists f; isplitr
    · ipureintro; rfl
    iexact HT

theorem xw_join (r : ℕ) (X : Vec F S1x1032x1024 .f32) (XD : Vec F S1x1024x1024 .f32) (XT : Vec F S1x8x1024 .f32)
    (hD : ∀ (a : Fin 1) (b : Fin 1024) (d : Fin 1024), XD (ix3 a b d) = X (ix3 a ⟨8 + b.val, by omega⟩ d))
    (hT : ∀ (a : Fin 1) (b : Fin 8) (d : Fin 1024), XT (ix3 a b d) = X (ix3 a ⟨b.val, by omega⟩ d)) :
    iprop(ownsTc c (xwD r) fullShare XD ∗ ownsTc c (xwT r) fullShare XT) ⊢ (ownsTc c (xwS r) fullShare X : sProp 𝕄) := by
  unfold ownsTc owns
  iintro ⟨⟨%f, %hf, HD⟩, %g, %hg, HT⟩
  icases (pt_join ((xwS r).view.loc (c : Thread nD τ)) (xwS r).view.set (xwD r).view.set (xwT r).view.set fullShare f g (xw_disj r) (xw_cover r)) $$ [HD HT] with ⟨%h, %hh, H⟩
  · isplitl [HD]; · iexact HD
    iexact HT
  iexists h
  isplitr
  · ipureintro
    have hXD (a : Fin 1) (b : Fin 1024) (d : Fin 1024) : h ((xwD r).view.emb (ix3 a b d)) = X (ix3 a ⟨8 + b.val, by omega⟩ d) :=
      (hh.1 _ (View.emb_mem_set _ _)).trans ((congrFun hf _).trans (hD a b d))
    have hXT (a : Fin 1) (b : Fin 8) (d : Fin 1024) : h ((xwT r).view.emb (ix3 a b d)) = X (ix3 a ⟨b.val, by omega⟩ d) :=
      (hh.2 _ (View.emb_mem_set _ _)).trans ((congrFun hg _).trans (hT a b d))
    funext i
    obtain ⟨a, b, d, rfl⟩ : ∃ (a : Fin 1) (b : Fin 1032) (d : Fin 1024), i = ix3 a b d := ⟨i 0, i 1, i 2, Shape.idx3_ext rfl rfl rfl⟩
    have hb := b.isLt
    by_cases h8 : b.val < 8
    · have e : (xwS r).view.emb (ix3 a b d) = (xwT r).view.emb (ix3 a ⟨b.val, h8⟩ d) := Shape.idx3_ext rfl rfl rfl
      exact (congrArg h e).trans (hXT a ⟨b.val, h8⟩ d)
    · have hb8 : b.val - 8 < 1024 := by omega
      have e : (xwS r).view.emb (ix3 a b d) = (xwD r).view.emb (ix3 a ⟨b.val - 8, hb8⟩ d) :=
        Shape.idx3_ext rfl (show 0 + 1 * b.val = 8 + 1 * (b.val - 8) by omega) rfl
      refine (congrArg h e).trans ((hXD a ⟨b.val - 8, hb8⟩ d).trans (congrArg X ?_))
      exact Shape.idx3_ext rfl (show 8 + (b.val - 8) = b.val by omega) rfl
  · iexact H

/-! ## The stages of a copy -/

/-- The share of `x` row `r` reads with. -/
def xsh (r : ℕ) : PosShare TreeShare := if r = 0 then fullShare.left else fullShare.right
def XH (c : Dev nD) (r : ℕ) : sProp 𝕄 := ownsTc c (Memref.whole main_arg0) (xsh r) (I.x c)

def NA : ℕ := ((xwS 0).squeeze S1032x1024 squeezes_S1x1032x1024_S1032x1024).view.dmaCredit
def NB : ℕ := ((xwD 0).squeeze S1024x1024 squeezes_S1x1024x1024_S1024x1024).view.dmaCredit

def CpIdle (c : Dev nD) (r : ℕ) : sProp 𝕄 :=
  iprop((∃ X, ownsTc c (xwS r) fullShare X) ∗ XH I c r ∗ semVal (gc c (.dma (copyS r))) 0)
def CpReady (c : Dev nD) (r g : ℕ) : sProp 𝕄 :=
  iprop(ownsTc c (xwS r) fullShare (xch I c r g) ∗ XH I c r ∗ semVal (gc c (.dma (copyS r))) 0)
/-- Under way: what the copy hands over, with what is kept beside it, is the window and the share of `x`. -/
def CpFly (c : Dev nD) (r g n : ℕ) : sProp 𝕄 :=
  iprop(∃ D R : sProp 𝕄, Transfers.Flight EC (c : Thread nD τ) (.dma (copyS r)) () n D ∗ R
    ∗ ⌜iprop(D ∗ R) ⊢ iprop(ownsTc c (xwS r) fullShare (xch I c r g) ∗ XH I c r)⌝)
def CpA (c : Dev nD) (r g : ℕ) : sProp 𝕄 := if g = 0 then CpIdle I c r else CpFly I c r g NA
def CpB (c : Dev nD) (r g : ℕ) : sProp 𝕄 := if g = 0 then CpFly I c r g NB else CpFly I c r g NA
def CpC (c : Dev nD) (r g : ℕ) : sProp 𝕄 := if g = 0 then CpFly I c r g NB else CpReady I c r g

theorem op_startA {α : Type} {Φ : α → sProp 𝕄} (r g : ℕ) (hr : r < 2) (hg : g < 4) {p : Prop} [Decidable p] (hp : p ↔ g ≠ 0)
    {o : Fin 3 → ℕ} (ho : p → o = ![r % 2, 1024 * g - 8, 0]) {inb : p → ∀ a, o a + S1x1032x1024.size a ≤ S2x4096x1024.size a}
    {dst : Memref sig .tc .vmem S1032x1024 .f32} (hd : dst = (xwS r).squeeze S1032x1024 squeezes_S1x1032x1024_S1032x1024)
    {q : DmaSem sig} (hq : q = copyS r) {hsrc : ∀ h : p, _} {hdst : dst.view.WordExact} {hsem}
    {rest : Prog (TpuEff nD τ sig (Elt F) Λ₀ .tc) α} :
    CpIdle I c r ⊢ iprop((CpA I c r g -∗ Run c rest Φ) -∗ Run c (if h : p then
      .op (.enqueueDma (((Memref.whole main_arg0 : Memref sig .tc .hbm S2x4096x1024 .f32).slice (Rect.unit (s := S2x4096x1024) o S1x1032x1024.size (inb h)) (fun _ => rfl)).squeeze
          S1032x1024 squeezes_S1x1032x1024_S1032x1024) (.here dst) (.dma q) (hsrc h) hdst hsem) (fun _ => rest)
      else rest) Φ) := by
  unfold CpA
  by_cases h : p
  · rw [dif_pos h, if_neg (hp.1 h)]
    have ho := ho h
    subst ho; subst hd; subst hq
    unfold CpIdle XH ownsTc owns
    iintro ⟨⟨%X, %f, -, Hw⟩, ⟨%fx, %hfx, Hx⟩, Hv⟩ Hk
    have hsub : (((Memref.whole main_arg0 : Memref sig .tc .hbm S2x4096x1024 .f32).slice (Rect.unit (s := S2x4096x1024) ![r % 2, 1024 * g - 8, 0] S1x1032x1024.size (inb h)) (fun _ => rfl)).squeeze
          S1032x1024 squeezes_S1x1032x1024_S1032x1024).view.set ⊆ (Memref.whole main_arg0 : Memref sig .tc .hbm S2x4096x1024 .f32).view.set := by
      exact (Finset.subset_of_eq (View.set_reshape _ _)).trans (View.set_slice_subset _ _)
    icases (pointsTo_split_subset hsub).1 $$ Hx with ⟨Hx, Hxr⟩
    iapply (Transfers.wp_dmaLocal EC 𝒱₀ (c : Thread nD τ) none (fs := fx) (fd := f) () NA (by rfl) (View.dmaCredit_pos _ (by decide)) (subset_refl _)) $$ [Hx Hw Hv]
    · isplitl [Hx]; · iexact Hx
      isplitl [Hw]; · simp only [Memref.view_squeeze, View.set_reshape]; iexact Hw
      iexact Hv
    iintro HF
    iapply Hk
    unfold CpFly XH
    iexists _; iexists _
    isplitl [HF]; · iexact HF
    isplitl [Hxr]; · iexact Hxr
    ipureintro
    iintro ⟨⟨Hw, Hx⟩, Hxr⟩
    isplitl [Hw]
    · unfold ownsTc owns
      iexists ((xwS r).squeeze S1032x1024 squeezes_S1x1032x1024_S1032x1024).view.write (Elt F) f
        ((((Memref.whole main_arg0 : Memref sig .tc .hbm S2x4096x1024 .f32).slice (Rect.unit (s := S2x4096x1024) ![r % 2, 1024 * g - 8, 0] S1x1032x1024.size (inb h)) (fun _ => rfl)).squeeze
          S1032x1024 squeezes_S1x1032x1024_S1032x1024).view.read (Elt F) fx) Finset.univ
      isplitr
      rotate_left
      · simp only [Memref.view_squeeze, View.set_reshape]; iexact Hw
      · ipureintro
        refine (land_read ((Memref.whole main_arg0 : Memref sig .tc .hbm S2x4096x1024 .f32).slice (Rect.unit (s := S2x4096x1024) ![r % 2, 1024 * g - 8, 0] S1x1032x1024.size (inb h)) (fun _ => rfl)).view (xwS r).view _ fx f).trans ?_
        have hfx : fx = I.x c := hfx
        subst hfx
        have hg0 := hp.1 h
        funext i
        unfold xch
        rw [if_neg (by omega)]
        refine congrArg (I.x c) (Shape.idx3_ext ?_ ?_ ?_)
        · have : (i 0).val < 1 := (i 0).isLt
          show r % 2 + 1 * (i 0).val = r % 2; omega
        · have key : ∀ y, y < 1032 → 1024 * g - 8 + 1 * y = (1024 * g + y - 8) % 4096 := by
            intro y hy; rw [Nat.mod_eq_of_lt (by omega)]; omega
          exact key _ (i 1).isLt
        · show 0 + 1 * (i 2).val = (i 2).val; omega
    · unfold ownsTc owns
      iexists fx
      isplitr; · ipureintro; exact hfx
      iapply (pointsTo_split_subset hsub).2
      isplitl [Hx]; · iexact Hx
      iexact Hxr
  · rw [dif_neg h, if_pos (by by_contra hg; exact h (hp.2 hg))]
    iintro H Hk
    iapply Hk; iexact H

theorem op_startB {α : Type} {Φ : α → sProp 𝕄} (r g : ℕ) (hr : r < 2) (hg : g < 4) {p : Prop} [Decidable p] (hp : p ↔ g = 0)
    {o : Fin 3 → ℕ} (ho : o = ![r % 2, 0, 0]) {inb : ∀ a, o a + S1x1024x1024.size a ≤ S2x4096x1024.size a}
    {dst : Memref sig .tc .vmem S1024x1024 .f32} (hd : dst = (xwD r).squeeze S1024x1024 squeezes_S1x1024x1024_S1024x1024)
    {q : DmaSem sig} (hq : q = copyS r) {hsrc} {hdst : dst.view.WordExact} {hsem}
    {o' : Fin 3 → ℕ} (ho' : o' = ![r % 2, 0, 0]) {inb' : ∀ a, o' a + S1x8x1024.size a ≤ S2x1032x1024.size a}
    {w : FVec F S1x8x1024 .f32} (hw : w = k0_pay1) {hl hx hm}
    {rest : Prog (TpuEff nD τ sig (Elt F) Λ₀ .tc) α} :
    CpA I c r g ⊢ iprop((CpB I c r g -∗ Run c rest Φ) -∗ Run c (if p then
      .op (.enqueueDma (((Memref.whole main_arg0 : Memref sig .tc .hbm S2x4096x1024 .f32).slice (Rect.unit (s := S2x4096x1024) o S1x1024x1024.size inb) (fun _ => rfl)).squeeze
          S1024x1024 squeezes_S1x1024x1024_S1024x1024) (.here dst) (.dma q) hsrc hdst hsem) (fun _ =>
        .op (.load (Memref.whole cc0_scratch0) (Rect.unit (s := S2x1032x1024) o' S1x8x1024.size inb').toLoadRect hl) (fun _ =>
        .op (.store (Memref.whole cc0_scratch0) (Rect.unit (s := S2x1032x1024) o' S1x8x1024.size inb') w Finset.univ hx hm) (fun _ => rest)))
      else rest) Φ) := by
  unfold CpA CpB
  by_cases h : p
  · have hg := hp.1 h
    rw [if_pos h, if_pos hg, if_pos hg]
    subst ho; subst hd; subst hq; subst ho'; subst hw; subst hg
    unfold CpIdle XH
    iintro ⟨⟨%X, Hw⟩, Hx, Hv⟩ Hk
    icases (xw_split c r X) $$ Hw with ⟨⟨%XD, HD⟩, %XT, HT⟩
    ihave Hx' := (show ownsTc c (Memref.whole main_arg0) (xsh r) (I.x c) ⊢ (iprop(∃ f, ⌜f = I.x c⌝ ∗ ((Memref.whole main_arg0 : Memref sig .tc .hbm S2x4096x1024 .f32).view.loc (c : Thread nD τ) ↦[(Memref.whole main_arg0 : Memref sig .tc .hbm S2x4096x1024 .f32).view.set]{xsh r} f)) : sProp 𝕄) from .rfl) $$ Hx
    icases Hx' with ⟨%fx, %hfx, Hx⟩
    ihave HD' := (show ownsTc c (xwD r) fullShare XD ⊢ (iprop(∃ f, ⌜(xwD r).view.read (Elt F) f = XD⌝ ∗ ((xwD r).view.loc (c : Thread nD τ) ↦[(xwD r).view.set]{fullShare} f)) : sProp 𝕄) from .rfl) $$ HD
    icases HD' with ⟨%fd, -, HD⟩
    have hsub : (((Memref.whole main_arg0 : Memref sig .tc .hbm S2x4096x1024 .f32).slice (Rect.unit (s := S2x4096x1024) ![r % 2, 0, 0] S1x1024x1024.size inb) (fun _ => rfl)).squeeze
          S1024x1024 squeezes_S1x1024x1024_S1024x1024).view.set ⊆ (Memref.whole main_arg0 : Memref sig .tc .hbm S2x4096x1024 .f32).view.set := by
      exact (Finset.subset_of_eq (View.set_reshape _ _)).trans (View.set_slice_subset _ _)
    icases (pointsTo_split_subset hsub).1 $$ Hx with ⟨Hx, Hxr⟩
    iapply (Transfers.wp_dmaLocal EC 𝒱₀ (c : Thread nD τ) none (fs := fx) (fd := fd) () NB (by rfl) (View.dmaCredit_pos _ (by decide)) (subset_refl _)) $$ [Hx HD Hv]
    · isplitl [Hx]; · iexact Hx
      isplitl [HD]; · simp only [Memref.view_squeeze, View.set_reshape]; iexact HD
      iexact Hv
    iintro HF
    iapply (load_owned c (Memref.whole cc0_scratch0 : Memref sig .tc .vmem S2x1032x1024 .f32) (Rect.unit (s := S2x1032x1024) ![r % 2, 0, 0] S1x8x1024.size inb') (fun _ => rfl) fullShare XT) $$ [HT]
    · iexact HT
    iintro HT
    iapply (store_owned c (Memref.whole cc0_scratch0 : Memref sig .tc .vmem S2x1032x1024 .f32) (Rect.unit (s := S2x1032x1024) ![r % 2, 0, 0] S1x8x1024.size inb') (fun _ => rfl) XT (k0_pay1 (F := F))) $$ [HT]
    · iexact HT
    iintro HT
    iapply Hk
    unfold CpFly XH
    iexists _
    iexists iprop(ownsTc c (xwT r) fullShare (k0_pay1 (F := F)) ∗ _)
    isplitl [HF]; · iexact HF
    isplitl [HT Hxr]
    · isplitl [HT]; · iexact HT
      iexact Hxr
    ipureintro
    iintro ⟨⟨HD, Hx⟩, HT, Hxr⟩
    have hfx : fx = I.x c := hfx
    subst hfx
    isplitl [HD HT]
    · iapply (xw_join c r (xch I c r 0) (fun i => I.x c (ix3 ⟨r % 2, Nat.mod_lt _ (by decide)⟩ ⟨(i 1).val % 4096, Nat.mod_lt _ (by decide)⟩ (i 2))) (k0_pay1 (F := F)) ?_ ?_)
      · intro a b d
        unfold xch
        rw [if_neg (by show ¬ (1024 * 0 + (8 + b.val) < 8); omega)]
        refine congrArg (I.x c) (Shape.idx3_ext rfl ?_ rfl)
        show b.val % 4096 = (1024 * 0 + (8 + b.val) - 8) % 4096
        congr 1; omega
      · intro a b d
        unfold xch
        rw [if_pos (by show 1024 * 0 + b.val < 8; omega)]
        rfl
      isplitl [HD]
      · unfold ownsTc owns
        iexists ((xwD r).squeeze S1024x1024 squeezes_S1x1024x1024_S1024x1024).view.write (Elt F) fd
          ((((Memref.whole main_arg0 : Memref sig .tc .hbm S2x4096x1024 .f32).slice (Rect.unit (s := S2x4096x1024) ![r % 2, 0, 0] S1x1024x1024.size inb) (fun _ => rfl)).squeeze
            S1024x1024 squeezes_S1x1024x1024_S1024x1024).view.read (Elt F) (I.x c)) Finset.univ
        isplitr
        rotate_left
        · simp only [Memref.view_squeeze, View.set_reshape]; iexact HD
        · ipureintro
          refine (land_read ((Memref.whole main_arg0 : Memref sig .tc .hbm S2x4096x1024 .f32).slice (Rect.unit (s := S2x4096x1024) ![r % 2, 0, 0] S1x1024x1024.size inb) (fun _ => rfl)).view (xwD r).view _ (I.x c) fd).trans ?_
          funext i
          refine congrArg (I.x c) (Shape.idx3_ext ?_ ?_ ?_)
          · have : (i 0).val < 1 := (i 0).isLt
            show r % 2 + 1 * (i 0).val = r % 2; omega
          · have key : ∀ y, y < 1024 → 0 + 1 * y = y % 4096 := by
              intro y hy; rw [Nat.mod_eq_of_lt (by omega)]; omega
            exact key _ (i 1).isLt
          · show 0 + 1 * (i 2).val = (i 2).val; omega
      iexact HT
    · unfold ownsTc owns
      iexists I.x c
      isplitr; · ipureintro; rfl
      iapply (pointsTo_split_subset hsub).2
      isplitl [Hx]; · iexact Hx
      iexact Hxr
  · have hg : g ≠ 0 := fun hg => h (hp.2 hg)
    rw [if_neg h, if_neg hg, if_neg hg]
    iintro H Hk
    iapply Hk; iexact H

/-- The end of a copy, waited for. -/
theorem wait_copy {α : Type} {Φ : α → sProp 𝕄} (n j r g m : ℕ) {sp' : Space} {s s' : Shape} {e e' : EltTy} {sp : Space}
    {src : Memref sig .tc sp' s' e'} {dst : Memref sig .tc sp s e} {hsrc : src.view.WordExact} {hdst : dst.view.WordExact} (hN : dst.view.dmaCredit = m)
    {k : PUnit → Prog (TpuEff nD τ sig (Elt F) Λ₀ .tc) α} :
    Env I K ⊢ iprop(CpFly I c r g m -∗ St c n j -∗ (CpReady I c r g -∗ St c n j -∗ Run c (k ⟨⟩) Φ)
      -∗ Run c (.op (.waitDma2 (copyS r) src dst hsrc hdst) k) Φ) := by
  unfold CpFly St Ow
  iintro #HE ⟨%D, %R, HF, HR, %hDR⟩ ⟨⟨%W, HO⟩, HP, HW⟩ Hk
  iapply (Transfers.wp_waitLocalO EC 𝒱₀ (c : Thread nD τ) none () hN) $$ [HF HO]
  · isplitl [HF]; · iexact HF
    isplitl [HO]; · iexact HO
    iapply (mayWait c (.dma (copyS r)) n (fun i h1 _ => by
      rw [show lvS (SemLoc.dma (copyS r)) = 0 from if_neg (by show ¬ (26 ≤ 50 + r % 2 ∧ 50 + r % 2 < 50); omega)]; exact lv0 i h1))
    iapply (env_lev I K); iexact HE
  iintro ⟨HD, Hv, HO⟩
  iapply Hk $$ [HD HR Hv] [HO HP HW]
  · unfold CpReady
    icases hDR $$ [HD HR] with ⟨H1, H2⟩
    · isplitl [HD]; · iexact HD
      iexact HR
    isplitl [H1]; · iexact H1
    isplitl [H2]; · iexact H2
    iexact Hv
  · isplitl [HO]; · iexists _; iexact HO
    isplitl [HP]; · iexact HP
    iexact HW

theorem op_waitA {α : Type} {Φ : α → sProp 𝕄} (n j r g : ℕ) {p : Prop} [Decidable p] (hp : p ↔ g ≠ 0)
    {src : p → Memref sig .tc .hbm S1032x1024 .f32} {hsrc : ∀ h : p, (src h).view.WordExact}
    {dst : Memref sig .tc .vmem S1032x1024 .f32} (hd : dst = (xwS r).squeeze S1032x1024 squeezes_S1x1032x1024_S1032x1024)
    {q : DmaSem sig} (hq : q = copyS r) {hdst : dst.view.WordExact}
    {rest : Prog (TpuEff nD τ sig (Elt F) Λ₀ .tc) α} :
    Env I K ⊢ iprop(CpB I c r g -∗ St c n j -∗ (CpC I c r g -∗ St c n j -∗ Run c rest Φ)
      -∗ Run c (if h : p then .op (.waitDma2 q (src h) dst (hsrc h) hdst) (fun _ => rest) else rest) Φ) := by
  unfold CpB CpC
  by_cases h : p
  · subst hd; subst hq
    rw [dif_pos h, if_neg (hp.1 h), if_neg (hp.1 h)]
    exact wait_copy I K c n j r g NA (dst := (xwS r).squeeze S1032x1024 squeezes_S1x1032x1024_S1032x1024) (by rfl) (k := fun _ => rest)
  · have hg : g = 0 := by by_contra hg; exact h (hp.2 hg)
    rw [dif_neg h, if_pos hg, if_pos hg]
    iintro #HE H HS Hk
    iapply Hk $$ H HS

theorem op_waitB {α : Type} {Φ : α → sProp 𝕄} (n j r g : ℕ) {p : Prop} [Decidable p] (hp : p ↔ g = 0)
    {src : Memref sig .tc .hbm S1024x1024 .f32} {hsrc : src.view.WordExact}
    {dst : Memref sig .tc .vmem S1024x1024 .f32} (hd : dst = (xwD r).squeeze S1024x1024 squeezes_S1x1024x1024_S1024x1024)
    {q : DmaSem sig} (hq : q = copyS r) {hdst : dst.view.WordExact}
    {rest : Prog (TpuEff nD τ sig (Elt F) Λ₀ .tc) α} :
    Env I K ⊢ iprop(CpC I c r g -∗ St c n j -∗ (CpReady I c r g -∗ St c n j -∗ Run c rest Φ)
      -∗ Run c (if p then .op (.waitDma2 q src dst hsrc hdst) (fun _ => rest) else rest) Φ) := by
  unfold CpC
  by_cases h : p
  · subst hd; subst hq
    rw [if_pos h, if_pos (hp.1 h)]
    exact wait_copy I K c n j r g NB (dst := (xwD r).squeeze S1024x1024 squeezes_S1x1024x1024_S1024x1024) (by rfl) (k := fun _ => rest)
  · rw [if_neg h, if_neg (fun hg => h (hp.2 hg))]
    iintro #HE H HS Hk
    iapply Hk $$ H HS

end Copy

end Cert.RingProof
-- ==== Proof.Stage.lean ====
/-
# The finished chunks on their way out

A finished chunk is read as a whole from its two halves, widened, put into the staging slot of its row and copied into the
result.
-/
module

public import proofs.«01_k».proof.Proof.Copy

@[expose] public section

set_option maxRecDepth 16384

noncomputable section

namespace Cert.RingProof

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (I : Inp F) (K : Dev nD × Fin 52 → ℕ)

theorem inb_o (r g : ℕ) : ∀ a, ![r % 2, 1024 * (g % 4), 0] a + S1x1024x1024.size a ≤ S2x4096x1024.size a := by
  intro a; match a with
  | 0 => show r % 2 + 1 ≤ 2; omega
  | 1 => show 1024 * (g % 4) + 1024 ≤ 4096; omega
  | 2 => exact Nat.le_refl _
theorem inb_s (r : ℕ) : ∀ a, ![r % 2, 0, 0] a + S1x1024x1024.size a ≤ S2x1024x1024.size a := by
  intro a; match a with
  | 0 => show r % 2 + 1 ≤ 2; omega
  | 1 => exact Nat.le_refl _
  | 2 => exact Nat.le_refl _

/-- Chunk `g` of row `r` of the result; row `r`'s staging slot. -/
def outS (r g : ℕ) : Memref sig .tc .hbm S1x1024x1024 .f32 :=
  (Memref.whole main_v1).slice (Rect.unit (s := S2x4096x1024) ![r % 2, 1024 * (g % 4), 0] S1x1024x1024.size (inb_o r g)) (fun _ => rfl)
def stS (r : ℕ) : Memref sig .tc .vmem S1x1024x1024 .f32 :=
  (Memref.whole cc0_scratch4).slice (Rect.unit (s := S2x1024x1024) ![r % 2, 0, 0] S1x1024x1024.size (inb_s r)) (fun _ => rfl)

/-- A chunk from its halves. -/
def joinH (X0 X1 : FVec F S1x1x512x1024 .bf16) : Vec F S1x1x1024x1024 .bf16 := fun i =>
  if h : (i 2).val < 512 then X0 (ix4 0 0 ⟨(i 2).val, h⟩ (i 3)) else X1 (ix4 0 0 ⟨(i 2).val - 512, by have : (i 2).val < 1024 := (i 2).isLt; omega⟩ (i 3))

def NO : ℕ := ((outS 0 0).squeeze S1024x1024 squeezes_S1x1024x1024_S1024x1024).view.dmaCredit

section Stage
variable (c : Dev nD)

def StIdle (c : Dev nD) (r : ℕ) : sProp 𝕄 := iprop((∃ Y, ownsTc c (stS r) fullShare Y) ∗ semVal (gc c (.dma (stageS r))) 0)
def OutFl (c : Dev nD) (r g : ℕ) (Y : FVec F S1x1024x1024 .f32) : sProp 𝕄 :=
  iprop(∃ D : sProp 𝕄, Transfers.Flight EC (c : Thread nD τ) (.dma (stageS r)) () NO D
    ∗ ⌜D ⊢ iprop(ownsTc c (outS r g) fullShare Y ∗ ownsTc c (stS r) fullShare Y)⌝)

/-- Two owned slices, loaded as one. -/
theorem load_two {α : Type} {Φ : α → sProp 𝕄} {Sb : Shape} {e : EltTy} (M : Memref sig .tc .vmem Sb e) (R0 R1 R : Rect Sb)
    (h0 : ∀ a, R0.stride a = 1) (h1 : ∀ a, R1.stride a = 1) (hd : Disjoint R0.set R1.set) (hc : ∀ i, i ∈ R.set ↔ i ∈ R0.set ∨ i ∈ R1.set)
    (q : PosShare TreeShare) (X0 : R0.shape.Idx → Elt F e) (X1 : R1.shape.Idx → Elt F e) (Y : R.shape.Idx → Elt F e)
    (hY : ∀ f, (M.slice R0 h0).view.read (Elt F) f = X0 → (M.slice R1 h1).view.read (Elt F) f = X1 → (M.access R).read (Elt F) f = Y)
    {hl : M.view.LoadsAt R} {k : (R.shape.Idx → Elt F e) → Prog (TpuEff nD τ sig (Elt F) Λ₀ .tc) α} :
    iprop(ownsTc c (M.slice R0 h0) q X0 ∗ ownsTc c (M.slice R1 h1) q X1)
      ⊢ iprop((ownsTc c (M.slice R0 h0) q X0 -∗ ownsTc c (M.slice R1 h1) q X1 -∗ Run c (k Y) Φ) -∗ Run c (.op (.load M R hl) k) Φ) := by
  have hs (A : Rect Sb) (i) : i ∈ (M.view.slice A).set ↔ ∃ j ∈ A.set, M.view.emb j = i := by
    rw [View.set_slice, Finset.mem_map]
  have hdv : Disjoint (M.view.slice R0).set (M.view.slice R1).set := by
    rw [View.set_slice, View.set_slice]; exact (Finset.disjoint_map _).mpr hd
  have hcv : ∀ i, i ∈ (M.view.slice R).set ↔ i ∈ (M.view.slice R0).set ∨ i ∈ (M.view.slice R1).set := by
    intro i
    rw [hs, hs, hs]
    constructor
    · rintro ⟨j, hj, e⟩
      rcases (hc j).1 hj with h | h
      · exact Or.inl ⟨j, h, e⟩
      · exact Or.inr ⟨j, h, e⟩
    · rintro (⟨j, hj, e⟩ | ⟨j, hj, e⟩)
      · exact ⟨j, (hc j).2 (Or.inl hj), e⟩
      · exact ⟨j, (hc j).2 (Or.inr hj), e⟩
  unfold ownsTc owns
  iintro ⟨⟨%f, %hf, H0⟩, %g, %hg, H1⟩ Hk
  icases (pt_join (M.view.loc (c : Thread nD τ)) (M.view.slice R).set (M.view.slice R0).set (M.view.slice R1).set q f g hdv hcv) $$ [H0 H1] with ⟨%h, %hh, H⟩
  · isplitl [H0]; · iexact H0
    iexact H1
  have e0 : (M.slice R0 h0).view.read (Elt F) h = X0 := by
    rw [← hf]; exact View.read_congr (v := (M.slice R0 h0).view) hh.1
  have e1 : (M.slice R1 h1).view.read (Elt F) h = X1 := by
    rw [← hg]; exact View.read_congr (v := (M.slice R1 h1).view) hh.2
  iapply (wp_load_rect 𝒱₀ (c : Thread nD τ) none Set.univ (m := M) (r := R) (q := q) (S := (M.view.slice R).set) (f := h) (subset_refl _)) $$ [H]
  · iexact H
  rw [hY h e0 e1]
  iintro H
  icases (pt_split (M.view.loc (c : Thread nD τ)) (M.view.slice R).set (M.view.slice R0).set (M.view.slice R1).set q h hdv hcv) $$ H with ⟨H0, H1⟩
  iapply Hk $$ [H0] [H1]
  · iexists h
    isplitr; · ipureintro; exact e0
    iexact H0
  · iexists h
    isplitr; · ipureintro; exact e1
    iexact H1

/-- Row `r`'s finished chunk, loaded from slot 1 of the outgoing buffer; -/
theorem op_load_fin_c {α : Type} {Φ : α → sProp 𝕄} (r p : ℕ) (q : PosShare TreeShare) (X0 X1 : FVec F S1x1x512x1024 .bf16)
    {o : Fin 4 → ℕ} (ho : o = ![r % 2, p % 2, 0, 0]) {inb : ∀ a, o a + S1x1x1024x1024.size a ≤ S2x2x1024x1024.size a}
    {hl : (Memref.whole cc0_scratch1 : Memref sig .tc .vmem S2x2x1024x1024 .bf16).view.LoadsAt (Rect.unit (s := S2x2x1024x1024) o S1x1x1024x1024.size inb)}
    {k : Vec F S1x1x1024x1024 .bf16 → Prog (TpuEff nD τ sig (Elt F) Λ₀ .tc) α} :
    iprop(ownsTc c (cbS r p 0) q X0 ∗ ownsTc c (cbS r p 1) q X1)
      ⊢ iprop((ownsTc c (cbS r p 0) q X0 -∗ ownsTc c (cbS r p 1) q X1 -∗ Run c (k (joinH X0 X1)) Φ)
        -∗ Run c (.op (.load (Memref.whole cc0_scratch1) (Rect.unit (s := S2x2x1024x1024) o S1x1x1024x1024.size inb) hl) k) Φ) := by
  subst ho
  refine load_two c (Memref.whole cc0_scratch1 : Memref sig .tc .vmem S2x2x1024x1024 .bf16)
    (Rect.unit (s := S2x2x1024x1024) ![r % 2, p % 2, 512 * (0 % 2), 0] S1x1x512x1024.size (inb_c r p 0))
    (Rect.unit (s := S2x2x1024x1024) ![r % 2, p % 2, 512 * (1 % 2), 0] S1x1x512x1024.size (inb_c r p 1))
    (Rect.unit (s := S2x2x1024x1024) ![r % 2, p % 2, 0, 0] S1x1x1024x1024.size inb) (fun _ => rfl) (fun _ => rfl)
    (Rect.unit_disjoint (s := S2x2x1024x1024) (2 : Fin 4) (Or.inl (Nat.le_refl 512))) ?_ q X0 X1 (joinH X0 X1) ?_
  · intro i
    rw [Rect.mem_set_unit, Rect.mem_set_unit, Rect.mem_set_unit]
    constructor
    · intro h
      by_cases h8 : (i 2).val < 512
      · refine Or.inl fun a => ?_
        match a with
        | 0 => exact h 0
        | 1 => exact h 1
        | 2 => exact ⟨Nat.zero_le _, h8⟩
        | 3 => exact h 3
      · refine Or.inr fun a => ?_
        match a with
        | 0 => exact h 0
        | 1 => exact h 1
        | 2 => exact ⟨Nat.le_of_not_lt h8, (h 2).2⟩
        | 3 => exact h 3
    · rintro (h | h) a
      · match a with
        | 0 => exact h 0
        | 1 => exact h 1
        | 2 => exact ⟨Nat.zero_le _, lt_of_lt_of_le (h 2).2 (show 0 + 512 ≤ 0 + 1024 by omega)⟩
        | 3 => exact h 3
      · match a with
        | 0 => exact h 0
        | 1 => exact h 1
        | 2 => exact ⟨Nat.zero_le _, (h 2).2⟩
        | 3 => exact h 3
  · intro f h0 h1
    subst h0; subst h1
    funext i
    have i0 : (i 0).val < 1 := (i 0).isLt
    have i1 : (i 1).val < 1 := (i 1).isLt
    unfold joinH
    by_cases h8 : (i 2).val < 512
    · rw [dif_pos h8]
      refine congrArg f (funext fun a => ?_)
      match a with
      | 0 => exact Fin.ext (show r % 2 + 1 * (i 0).val = r % 2 + 1 * 0 by omega)
      | 1 => exact Fin.ext (show p % 2 + 1 * (i 1).val = p % 2 + 1 * 0 by omega)
      | 2 => exact Fin.ext (show 0 + 1 * (i 2).val = 0 + 1 * (i 2).val from rfl)
      | 3 => rfl
    · rw [dif_neg h8]
      refine congrArg f (funext fun a => ?_)
      match a with
      | 0 => exact Fin.ext (show r % 2 + 1 * (i 0).val = r % 2 + 1 * 0 by omega)
      | 1 => exact Fin.ext (show p % 2 + 1 * (i 1).val = p % 2 + 1 * 0 by omega)
      | 2 => exact Fin.ext (show 0 + 1 * (i 2).val = 512 + 1 * ((i 2).val - 512) by omega)
      | 3 => rfl

/-- from slot `h` of the all-gather buffer. -/
theorem op_load_fin_a {α : Type} {Φ : α → sProp 𝕄} (r p : ℕ) (q : PosShare TreeShare) (X0 X1 : FVec F S1x1x512x1024 .bf16)
    {o : Fin 4 → ℕ} (ho : o = ![r % 2, p % 3, 0, 0]) {inb : ∀ a, o a + S1x1x1024x1024.size a ≤ S2x3x1024x1024.size a}
    {hl : (Memref.whole cc0_scratch3 : Memref sig .tc .vmem S2x3x1024x1024 .bf16).view.LoadsAt (Rect.unit (s := S2x3x1024x1024) o S1x1x1024x1024.size inb)}
    {k : Vec F S1x1x1024x1024 .bf16 → Prog (TpuEff nD τ sig (Elt F) Λ₀ .tc) α} :
    iprop(ownsTc c (abS r p 0) q X0 ∗ ownsTc c (abS r p 1) q X1)
      ⊢ iprop((ownsTc c (abS r p 0) q X0 -∗ ownsTc c (abS r p 1) q X1 -∗ Run c (k (joinH X0 X1)) Φ)
        -∗ Run c (.op (.load (Memref.whole cc0_scratch3) (Rect.unit (s := S2x3x1024x1024) o S1x1x1024x1024.size inb) hl) k) Φ) := by
  subst ho
  refine load_two c (Memref.whole cc0_scratch3 : Memref sig .tc .vmem S2x3x1024x1024 .bf16)
    (Rect.unit (s := S2x3x1024x1024) ![r % 2, p % 3, 512 * (0 % 2), 0] S1x1x512x1024.size (inb_a r p 0))
    (Rect.unit (s := S2x3x1024x1024) ![r % 2, p % 3, 512 * (1 % 2), 0] S1x1x512x1024.size (inb_a r p 1))
    (Rect.unit (s := S2x3x1024x1024) ![r % 2, p % 3, 0, 0] S1x1x1024x1024.size inb) (fun _ => rfl) (fun _ => rfl)
    (Rect.unit_disjoint (s := S2x3x1024x1024) (2 : Fin 4) (Or.inl (Nat.le_refl 512))) ?_ q X0 X1 (joinH X0 X1) ?_
  · intro i
    rw [Rect.mem_set_unit, Rect.mem_set_unit, Rect.mem_set_unit]
    constructor
    · intro h
      by_cases h8 : (i 2).val < 512
      · refine Or.inl fun a => ?_
        match a with
        | 0 => exact h 0
        | 1 => exact h 1
        | 2 => exact ⟨Nat.zero_le _, h8⟩
        | 3 => exact h 3
      · refine Or.inr fun a => ?_
        match a with
        | 0 => exact h 0
        | 1 => exact h 1
        | 2 => exact ⟨Nat.le_of_not_lt h8, (h 2).2⟩
        | 3 => exact h 3
    · rintro (h | h) a
      · match a with
        | 0 => exact h 0
        | 1 => exact h 1
        | 2 => exact ⟨Nat.zero_le _, lt_of_lt_of_le (h 2).2 (show 0 + 512 ≤ 0 + 1024 by omega)⟩
        | 3 => exact h 3
      · match a with
        | 0 => exact h 0
        | 1 => exact h 1
        | 2 => exact ⟨Nat.zero_le _, (h 2).2⟩
        | 3 => exact h 3
  · intro f h0 h1
    subst h0; subst h1
    funext i
    have i0 : (i 0).val < 1 := (i 0).isLt
    have i1 : (i 1).val < 1 := (i 1).isLt
    unfold joinH
    by_cases h8 : (i 2).val < 512
    · rw [dif_pos h8]
      refine congrArg f (funext fun a => ?_)
      match a with
      | 0 => exact Fin.ext (show r % 2 + 1 * (i 0).val = r % 2 + 1 * 0 by omega)
      | 1 => exact Fin.ext (show p % 3 + 1 * (i 1).val = p % 3 + 1 * 0 by omega)
      | 2 => exact Fin.ext (show 0 + 1 * (i 2).val = 0 + 1 * (i 2).val from rfl)
      | 3 => rfl
    · rw [dif_neg h8]
      refine congrArg f (funext fun a => ?_)
      match a with
      | 0 => exact Fin.ext (show r % 2 + 1 * (i 0).val = r % 2 + 1 * 0 by omega)
      | 1 => exact Fin.ext (show p % 3 + 1 * (i 1).val = p % 3 + 1 * 0 by omega)
      | 2 => exact Fin.ext (show 0 + 1 * (i 2).val = 512 + 1 * ((i 2).val - 512) by omega)
      | 3 => rfl

/-- The staging slot read to no purpose and written. -/
theorem op_stage {α : Type} {Φ : α → sProp 𝕄} (r : ℕ) (v : FVec F S1x1024x1024 .f32)
    {o : Fin 3 → ℕ} (ho : o = ![r % 2, 0, 0]) {inb : ∀ a, o a + S1x1024x1024.size a ≤ S2x1024x1024.size a}
    {w : FVec F S1x1024x1024 .f32} (hw : w = v) {hl hx hm}
    {k : PUnit → Prog (TpuEff nD τ sig (Elt F) Λ₀ .tc) α} :
    StIdle c r ⊢ iprop((ownsTc c (stS r) fullShare v -∗ semVal (gc c (.dma (stageS r))) 0 -∗ Run c (k ⟨⟩) Φ)
      -∗ Run c (.op (.load (Memref.whole cc0_scratch4) (Rect.unit (s := S2x1024x1024) o S1x1024x1024.size inb).toLoadRect hl) (fun _ =>
        .op (.store (Memref.whole cc0_scratch4) (Rect.unit (s := S2x1024x1024) o S1x1024x1024.size inb) w Finset.univ hx hm) k)) Φ) := by
  subst ho; subst hw
  unfold StIdle
  iintro ⟨⟨%Y, H⟩, Hv⟩ Hk
  iapply (load_owned c (Memref.whole cc0_scratch4 : Memref sig .tc .vmem S2x1024x1024 .f32) (Rect.unit (s := S2x1024x1024) ![r % 2, 0, 0] S1x1024x1024.size inb) (fun _ => rfl) fullShare Y) $$ [H]
  · iexact H
  iintro H
  iapply (store_owned c (Memref.whole cc0_scratch4 : Memref sig .tc .vmem S2x1024x1024 .f32) (Rect.unit (s := S2x1024x1024) ![r % 2, 0, 0] S1x1024x1024.size inb) (fun _ => rfl) Y w) $$ [H]
  · iexact H
  iintro H
  iapply Hk $$ [H] Hv
  iexact H

theorem op_out {α : Type} {Φ : α → sProp 𝕄} (r g : ℕ) (Y : FVec F S1x1024x1024 .f32)
    {src : Memref sig .tc .vmem S1024x1024 .f32} (hs : src = (stS r).squeeze S1024x1024 squeezes_S1x1024x1024_S1024x1024)
    {o : Fin 3 → ℕ} (ho : o = ![r % 2, 1024 * (g % 4), 0]) {inb : ∀ a, o a + S1x1024x1024.size a ≤ S2x4096x1024.size a}
    {q : DmaSem sig} (hq : q = stageS r) {hsrc : src.view.WordExact} {hdst hsem}
    {k : PUnit → Prog (TpuEff nD τ sig (Elt F) Λ₀ .tc) α} :
    iprop(ownsTc c (stS r) fullShare Y ∗ (∃ Z, ownsTc c (outS r g) fullShare Z) ∗ semVal (gc c (.dma (stageS r))) 0)
      ⊢ iprop((OutFl c r g Y -∗ Run c (k ⟨⟩) Φ)
      -∗ Run c (.op (.enqueueDma src (.here (((Memref.whole main_v1 : Memref sig .tc .hbm S2x4096x1024 .f32).slice (Rect.unit (s := S2x4096x1024) o S1x1024x1024.size inb) (fun _ => rfl)).squeeze
          S1024x1024 squeezes_S1x1024x1024_S1024x1024)) (.dma q) hsrc hdst hsem) k) Φ) := by
  subst hs; subst ho; subst hq
  unfold ownsTc owns
  iintro ⟨⟨%f, %hf, Hs⟩, ⟨%Z, %fd, -, Hd⟩, Hv⟩ Hk
  iapply (Transfers.wp_dmaLocal EC 𝒱₀ (c : Thread nD τ) none (fs := f) (fd := fd) () NO (by rfl) (View.dmaCredit_pos _ (by decide)) (subset_refl _)) $$ [Hs Hd Hv]
  · isplitl [Hs]; · simp only [Memref.view_squeeze, View.set_reshape]; iexact Hs
    isplitl [Hd]; · simp only [Memref.view_squeeze, View.set_reshape]; iexact Hd
    iexact Hv
  iintro HF
  iapply Hk
  unfold OutFl
  iexists _
  isplitl [HF]; · iexact HF
  ipureintro
  iintro ⟨Hd, Hs⟩
  isplitl [Hd]
  · unfold ownsTc owns
    iexists ((outS r g).squeeze S1024x1024 squeezes_S1x1024x1024_S1024x1024).view.write (Elt F) fd
      (((stS r).squeeze S1024x1024 squeezes_S1x1024x1024_S1024x1024).view.read (Elt F) f) Finset.univ
    isplitr
    · ipureintro; exact (land_read (stS r).view (outS r g).view _ f fd).trans hf
    simp only [Memref.view_squeeze, View.set_reshape]
    iexact Hd
  · unfold ownsTc owns
    iexists f
    isplitr; · ipureintro; exact hf
    simp only [Memref.view_squeeze, View.set_reshape]
    iexact Hs

theorem op_out_wait {α : Type} {Φ : α → sProp 𝕄} (n j r g : ℕ) (Y : FVec F S1x1024x1024 .f32)
    {q : DmaSem sig} (hq : q = stageS r) {sp' : Space} {s s' : Shape} {e e' : EltTy} {sp : Space}
    {src : Memref sig .tc sp' s' e'} {dst : Memref sig .tc sp s e} {hsrc : src.view.WordExact} {hdst : dst.view.WordExact} (hN : dst.view.dmaCredit = NO)
    {k : PUnit → Prog (TpuEff nD τ sig (Elt F) Λ₀ .tc) α} :
    Env I K ⊢ iprop(OutFl c r g Y -∗ St c n j -∗ (ownsTc c (outS r g) fullShare Y -∗ StIdle c r -∗ St c n j -∗ Run c (k ⟨⟩) Φ)
      -∗ Run c (.op (.waitDma2 q src dst hsrc hdst) k) Φ) := by
  subst hq
  unfold OutFl St Ow StIdle
  iintro #HE ⟨%D, HF, %hD⟩ ⟨⟨%W, HO⟩, HP, HW⟩ Hk
  iapply (Transfers.wp_waitLocalO EC 𝒱₀ (c : Thread nD τ) none () hN) $$ [HF HO]
  · isplitl [HF]; · iexact HF
    isplitl [HO]; · iexact HO
    iapply (mayWait c (.dma (stageS r)) n (fun i h1 _ => by
      rw [show lvS (SemLoc.dma (stageS r)) = 0 from if_neg (by show ¬ (26 ≤ 52 + r % 2 ∧ 52 + r % 2 < 50); omega)]; exact lv0 i h1))
    iapply (env_lev I K); iexact HE
  iintro ⟨HD, Hv, HO⟩
  icases hD $$ HD with ⟨H1, H2⟩
  iapply Hk $$ [H1] [H2 Hv] [HO HP HW]
  · iexact H1
  · isplitl [H2]; · iexists Y; iexact H2
    iexact Hv
  · isplitl [HO]; · iexists _; iexact HO
    isplitl [HP]; · iexact HP
    iexact HW

/-! ## Half shares of a window -/

theorem half_split {sp : Space} {sh : Shape} {e : EltTy} (W : Memref sig .tc sp sh e) (X : sh.Idx → Elt F e) :
    (ownsTc c W fullShare X : sProp 𝕄) ⊢ iprop(ownsTc c W fullShare.left X ∗ ownsTc c W fullShare.right X) := by
  unfold ownsTc owns
  iintro ⟨%f, %hf, H⟩
  icases (pointsTo_share (PosShare.mem_left_op_right fullShare)).1 $$ H with ⟨H1, H2⟩
  isplitl [H1]
  · iexists f; isplitr; · ipureintro; exact hf
    iexact H1
  · iexists f; isplitr; · ipureintro; exact hf
    iexact H2

theorem half_join {sp : Space} {sh : Shape} {e : EltTy} (W : Memref sig .tc sp sh e) (X Y : sh.Idx → Elt F e) :
    iprop(ownsTc c W fullShare.left X ∗ ownsTc c W fullShare.right Y) ⊢ (ownsTc c W fullShare X : sProp 𝕄) := by
  unfold ownsTc owns
  iintro ⟨⟨%f, %hf, H1⟩, %g, -, H2⟩
  iapply (pure_elim _ pointsTo_agree (R := iprop(∃ f, ⌜W.view.read (Elt F) f = X⌝ ∗ (W.view.loc (c : Thread nD τ) ↦[W.view.set]{fullShare} f))) fun h => ?_)
  rotate_left
  · isplitl [H1]; · iexact H1
    iexact H2
  iintro ⟨H1, H2⟩
  iexists f
  isplitr; · ipureintro; exact hf
  iapply (pointsTo_share (PosShare.mem_left_op_right fullShare)).2
  isplitl [H1]; · iexact H1
  iapply (Entails.of_eq (pointsTo_congr (fun i hi => ((h i (Finset.mem_inter.2 ⟨hi, hi⟩)).1).symm)))
  iexact H2

end Stage

end Cert.RingProof
-- ==== Proof.Steps.lean ====
/-
# The steps of the ring, several operations at a time

The loads of one gated convolution together; the wait for a half chunk from upstream, its addition to the device's own part
and the store of the sum; and the transfers again, with the windows named by their place.
-/
module

public import proofs.«01_k».proof.Proof.Stage

@[expose] public section

set_option maxRecDepth 16384

noncomputable section

namespace Cert.RingProof

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (I : Inp F) (K : Dev nD × Fin 52 → ℕ)

/-- The taps and the projection's rows. -/
def KW (c : Dev nD) : sProp 𝕄 :=
  iprop(ownsTc c (Memref.whole cc0_stg0_0) fullShare (I.k c) ∗ ownsTc c (Memref.whole cc0_stg1_0) fullShare (I.w c))

/-- Which payment transfer `t` of ring `r` is. -/
def sn (r t : ℕ) : ℕ := if t < 3 then 2 + 2 * t + r else if t = 3 then 9 + 2 * r else 4 + 2 * t + r

theorem sn_facts : ∀ r < 2, ∀ t < 12, sn r t < 30 ∧ isPut (sn r t) = true ∧ dj (sn r t) % 2 = r ∧ dj (sn r t) / 2 = t
    ∧ dloc (sn r t) = recvL r t ∧ db (sn r t) = 0 := by decide
theorem sn_to : ∀ r < 2, ∀ t < 12, ∀ c, dto (sn r t) c = dwn r c := by decide

theorem any_of_owns (c : Dev nD) (W : WinM) (X : FVec F S1x1x512x1024 .bf16) : ownsTc c W fullShare X ⊢ (anyW c W : sProp 𝕄) := by
  unfold anyW; iintro H; iexists X; iexact H

theorem idle_of_ready (c : Dev nD) (r g : ℕ) : CpReady I c r g ⊢ CpIdle I c r := by
  unfold CpReady CpIdle; iintro ⟨H, HX, HV⟩
  isplitl [H]; · iexists _; iexact H
  isplitl [HX]; · iexact HX
  iexact HV

section Steps
variable (c : Dev nD)

/-- The nine loads of one convolution. -/
theorem op_conv {α : Type} {Φ : α → sProp 𝕄} (r u g : ℕ) (hu : u < 2)
    {o1 o3 o5 o7 : Fin 3 → ℕ} {o2 o4 o6 o8 o9 : Fin 2 → ℕ}
    (h1 : o1 = ![r % 2, 8 + 512 * u, 0]) (h3 : o3 = ![r % 2, 5 + 512 * u, 0]) (h5 : o5 = ![r % 2, 6 + 512 * u, 0]) (h7 : o7 = ![r % 2, 7 + 512 * u, 0])
    (h2 : o2 = ![3, 0]) (h4 : o4 = ![0, 0]) (h6 : o6 = ![1, 0]) (h8 : o8 = ![2, 0]) (h9 : o9 = ![0, 0])
    {i1 : ∀ a, o1 a + S1x512x1024.size a ≤ S2x1032x1024.size a} {i3 : ∀ a, o3 a + S1x512x1024.size a ≤ S2x1032x1024.size a}
    {i5 : ∀ a, o5 a + S1x512x1024.size a ≤ S2x1032x1024.size a} {i7 : ∀ a, o7 a + S1x512x1024.size a ≤ S2x1032x1024.size a}
    {i2 : ∀ a, o2 a + S1x1024.size a ≤ S4x1024.size a} {i4 : ∀ a, o4 a + S1x1024.size a ≤ S4x1024.size a}
    {i6 : ∀ a, o6 a + S1x1024.size a ≤ S4x1024.size a} {i8 : ∀ a, o8 a + S1x1024.size a ≤ S4x1024.size a}
    {i9 : ∀ a, o9 a + S1024x1024.size a ≤ S1024x1024.size a} {l1 l2 l3 l4 l5 l6 l7 l8 l9}
    {k : Vec F S1x512x1024 .f32 → Vec F S1x1024 .f32 → Vec F S1x512x1024 .f32 → Vec F S1x1024 .f32 → Vec F S1x512x1024 .f32 → Vec F S1x1024 .f32
      → Vec F S1x512x1024 .f32 → Vec F S1x1024 .f32 → Vec F S1024x1024 .f32 → Prog (TpuEff nD τ sig (Elt F) Λ₀ .tc) α} :
    CpReady I c r g ⊢ iprop(KW I c -∗ (CpReady I c r g -∗ KW I c
        -∗ Run c (k (xrow (xch I c r g) (8 + 512 * u)) (krow (I.k c) 3) (xrow (xch I c r g) (5 + 512 * u)) (krow (I.k c) 0)
          (xrow (xch I c r g) (6 + 512 * u)) (krow (I.k c) 1) (xrow (xch I c r g) (7 + 512 * u)) (krow (I.k c) 2) (I.w c)) Φ)
      -∗ Run c (
        .op (.load (Memref.whole cc0_scratch0) (Rect.unit (s := S2x1032x1024) o1 S1x512x1024.size i1) l1) fun v1 =>
        .op (.load (Memref.whole cc0_stg0_0) (Rect.unit (s := S4x1024) o2 S1x1024.size i2) l2) fun v2 =>
        .op (.load (Memref.whole cc0_scratch0) (Rect.unit (s := S2x1032x1024) o3 S1x512x1024.size i3) l3) fun v3 =>
        .op (.load (Memref.whole cc0_stg0_0) (Rect.unit (s := S4x1024) o4 S1x1024.size i4) l4) fun v4 =>
        .op (.load (Memref.whole cc0_scratch0) (Rect.unit (s := S2x1032x1024) o5 S1x512x1024.size i5) l5) fun v5 =>
        .op (.load (Memref.whole cc0_stg0_0) (Rect.unit (s := S4x1024) o6 S1x1024.size i6) l6) fun v6 =>
        .op (.load (Memref.whole cc0_scratch0) (Rect.unit (s := S2x1032x1024) o7 S1x512x1024.size i7) l7) fun v7 =>
        .op (.load (Memref.whole cc0_stg0_0) (Rect.unit (s := S4x1024) o8 S1x1024.size i8) l8) fun v8 =>
        .op (.load (Memref.whole cc0_stg1_0) (Rect.unit (s := S1024x1024) o9 S1024x1024.size i9) l9) fun v9 =>
        k v1 v2 v3 v4 v5 v6 v7 v8 v9) Φ) := by
  unfold CpReady KW
  iintro ⟨HX, Hr⟩ ⟨HK, HW⟩ Hk
  iapply (op_load_x c r (8 + 512 * u) (by omega) _ h1) $$ HX; iintro HX
  iapply (op_load_k c 3 (by decide) _ _ h2) $$ HK; iintro HK
  iapply (op_load_x c r (5 + 512 * u) (by omega) _ h3) $$ HX; iintro HX
  iapply (op_load_k c 0 (by decide) _ _ h4) $$ HK; iintro HK
  iapply (op_load_x c r (6 + 512 * u) (by omega) _ h5) $$ HX; iintro HX
  iapply (op_load_k c 1 (by decide) _ _ h6) $$ HK; iintro HK
  iapply (op_load_x c r (7 + 512 * u) (by omega) _ h7) $$ HX; iintro HX
  iapply (op_load_k c 2 (by decide) _ _ h8) $$ HK; iintro HK
  iapply (op_load_w c _ _ h9) $$ HW; iintro HW
  iapply Hk $$ [HX Hr] [HK HW]
  · isplitl [HX]; · iexact HX
    iexact Hr
  isplitl [HK]; · iexact HK
  iexact HW

/-- A sum put in its window, which the kernel reads first to no purpose. -/
theorem op_put {α : Type} {Φ : α → sProp 𝕄} (W : WinM) (Y : FVec F S1x1x512x1024 .bf16) {M : Memref sig .tc .vmem S2x2x1024x1024 .bf16}
    {o : Fin 4 → ℕ} {inb : ∀ a, o a + S1x1x512x1024.size a ≤ S2x2x1024x1024.size a} (hW : W = M.slice (Rect.unit (s := S2x2x1024x1024) o S1x1x512x1024.size inb) (fun _ => rfl))
    {w : FVec F S1x1x512x1024 .bf16} (hY : w = Y) {hl hx hm} {k : PUnit → Prog (TpuEff nD τ sig (Elt F) Λ₀ .tc) α} :
    anyW c W ⊢ iprop((ownsTc c W fullShare Y -∗ Run c (k ⟨⟩) Φ)
      -∗ Run c (.op (.load M (Rect.unit (s := S2x2x1024x1024) o S1x1x512x1024.size inb) hl) fun _ =>
        .op (.store M (Rect.unit (s := S2x2x1024x1024) o S1x1x512x1024.size inb) w Finset.univ hx hm) k) Φ) := by
  iintro HA Hk
  iapply (op_load_any c W hW) $$ HA; iintro HA
  iapply (op_store_c c W Y hW hY) $$ HA; iintro HA
  iapply Hk $$ HA

/-- The wait for a half chunk from upstream, and what is stored once it is here. -/
theorem op_accum {α : Type} {Φ : α → sProp 𝕄} (n j r t : ℕ) (hr : r < 2) (ht : t < 12) (hj : j < 52) (hz : zi j = recvI r t)
    (hlv : ∀ i < 30, n ≤ i → lvS (recvL r t) < lvS (dloc i)) (W1 W2 : WinM) (X Y : FVec F S1x1x512x1024 .bf16)
    (hW : dstS r t = W1) (hX : sv I (up r c) r t = X)
    {sp sp' : Space} {s s' : Shape} {e e' : EltTy} {q : DmaSem sig} (hq : q = recvS r t)
    {src : Memref sig .tc sp' s' e'} {dst : Memref sig .tc sp s e} {hsrc : src.view.WordExact} {hdst : dst.view.WordExact} (hN : N = dst.view.dmaCredit)
    {M1 M2 : Memref sig .tc .vmem S2x2x1024x1024 .bf16} {o1 o2 : Fin 4 → ℕ}
    {inb1 : ∀ a, o1 a + S1x1x512x1024.size a ≤ S2x2x1024x1024.size a} (hW1 : W1 = M1.slice (Rect.unit (s := S2x2x1024x1024) o1 S1x1x512x1024.size inb1) (fun _ => rfl))
    {inb2 : ∀ a, o2 a + S1x1x512x1024.size a ≤ S2x2x1024x1024.size a} (hW2 : W2 = M2.slice (Rect.unit (s := S2x2x1024x1024) o2 S1x1x512x1024.size inb2) (fun _ => rfl))
    {w : FVec F S1x1x512x1024 .bf16 → FVec F S1x1x512x1024 .bf16} (hY : w X = Y) {hl1 hl2 hx hm}
    {k : PUnit → Prog (TpuEff nD τ sig (Elt F) Λ₀ .tc) α} :
    Env I K ⊢ iprop(St c n j -∗ anyW c W2 -∗ (ownsTc c W1 fullShare X -∗ ownsTc c W2 fullShare Y -∗ St c n (j + 1) -∗ Run c (k ⟨⟩) Φ)
      -∗ Run c (.op (.waitDma2 q src dst hsrc hdst) fun _ =>
        .op (.load M1 (Rect.unit (s := S2x2x1024x1024) o1 S1x1x512x1024.size inb1) hl1) fun v =>
        .op (.load M2 (Rect.unit (s := S2x2x1024x1024) o2 S1x1x512x1024.size inb2) hl2) fun _ =>
        .op (.store M2 (Rect.unit (s := S2x2x1024x1024) o2 S1x1x512x1024.size inb2) (w v) Finset.univ hx hm) k) Φ) := by
  subst hW; subst hX
  iintro #HE HS HA Hk
  iapply (op_wait_recv I K c n j r t hr ht hj hz hlv hq hN) $$ HE HS
  unfold recvP
  iintro HR HS
  iapply (op_load_c c _ _ _ hW1) $$ HR; iintro HR
  iapply (op_put c W2 Y hW2 hY) $$ HA; iintro HA
  iapply Hk $$ HR HA HS

/-- The wait for a half chunk that only passes through. -/
theorem op_recv {α : Type} {Φ : α → sProp 𝕄} (n j r t : ℕ) (hr : r < 2) (ht : t < 12) (hj : j < 52) (hz : zi j = recvI r t)
    (hlv : ∀ i < 30, n ≤ i → lvS (recvL r t) < lvS (dloc i)) (W : WinM) (X : FVec F S1x1x512x1024 .bf16)
    (hW : dstS r t = W) (hX : sv I (up r c) r t = X)
    {sp sp' : Space} {s s' : Shape} {e e' : EltTy} {q : DmaSem sig} (hq : q = recvS r t)
    {src : Memref sig .tc sp' s' e'} {dst : Memref sig .tc sp s e} {hsrc : src.view.WordExact} {hdst : dst.view.WordExact} (hN : N = dst.view.dmaCredit)
    {k : PUnit → Prog (TpuEff nD τ sig (Elt F) Λ₀ .tc) α} :
    Env I K ⊢ iprop(St c n j -∗ (ownsTc c W fullShare.left X -∗ ownsTc c W fullShare.right X -∗ St c n (j + 1) -∗ Run c (k ⟨⟩) Φ)
      -∗ Run c (.op (.waitDma2 q src dst hsrc hdst) k) Φ) := by
  subst hW; subst hX
  iintro #HE HS Hk
  iapply (op_wait_recv I K c n j r t hr ht hj hz hlv hq hN) $$ HE HS
  unfold recvP
  iintro HR HS
  icases (half_split c (dstS r t) (sv I (up r c) r t)) $$ HR with ⟨HL, HR⟩
  iapply Hk $$ HL HR HS

/-- The end of a transfer at its sender. -/
theorem op_back {α : Type} {Φ : α → sProp 𝕄} (n j r t : ℕ) (hr : r < 2) (ht : t < 12) (hj : j < 52) (hz : zi j = sendI r t)
    (W : WinM) (p : PosShare TreeShare) (X : FVec F S1x1x512x1024 .bf16) (hW : srcS r t = W) (hp : shr t = p) (hX : sv I c r t = X)
    {sp sp' : Space} {s s' : Shape} {e e' : EltTy} {q : DmaSem sig} (hq : q = sendS r t)
    {src : Memref sig .tc sp' s' e'} {dst : Memref sig .tc sp s e} {hsrc : src.view.WordExact} {hdst : dst.view.WordExact} (hN : N = dst.view.dmaCredit)
    {k : PUnit → Prog (TpuEff nD τ sig (Elt F) Λ₀ .tc) α} :
    Env I K ⊢ iprop(Sent c r t -∗ St c n j -∗ (ownsTc c W p X -∗ St c n (j + 1) -∗ Run c (k ⟨⟩) Φ) -∗ Run c (.op (.waitDma2 q src dst hsrc hdst) k) Φ) := by
  subst hW; subst hp; subst hX
  iintro #HE Hs HS Hk
  iapply (op_wait_send I K c n j r t hr ht hj hz hq hN) $$ HE Hs HS
  unfold sendP
  iexact Hk

theorem op_go {α : Type} {Φ : α → sProp 𝕄} (n j r t : ℕ) (hr : r < 2) (ht : t < 12) (hn : n = sn r t)
    (W : WinM) (p : PosShare TreeShare) (X : FVec F S1x1x512x1024 .bf16) (hW : srcS r t = W) (hp : shr t = p) (hX : sv I c r t = X)
    {src dst : Memref sig .tc .vmem S512x1024 .bf16} (hs : src = sq W) (hd : dst = sq (dstS r t)) {d : Dev nD} (hdev : d = dwn r c)
    {q q' : DmaSem sig} (hq : q = sendS r t) (hq' : q' = recvS r t)
    {hsc : dst.view.ref.isScScratch = false} {hsrc : src.view.WordExact} {hdst : dst.view.WordExact}
    {hsem : DmaTarget.Typed (nD := nD) (τ := τ) (p := .tc) .vmem (.dma q') (.remote (Dev.tc d) dst (.dma q) hsc)}
    {k : PUnit → Prog (TpuEff nD τ sig (Elt F) Λ₀ .tc) α} :
    Env I K ⊢ iprop(ownsTc c W p X -∗ anyW (dwn r c) (dstS r t) -∗ St c n j -∗ (Sent c r t -∗ St c (n + 1) j -∗ Run c (k ⟨⟩) Φ)
      -∗ Run c (.op (.enqueueDma src (.remote (Dev.tc d) dst (.dma q) hsc) (.dma q') hsrc hdst hsem) k) Φ) := by
  subst hW; subst hp; subst hX; subst hn
  have h := sn_facts r hr t ht
  exact op_send I K c (sn r t) j r t hr ht h.1 h.2.1 h.2.2.1 h.2.2.2.1 (sn_to r hr t ht c) h.2.2.2.2.1 h.2.2.2.2.2 hs hd hdev hq hq'

end Steps

end Cert.RingProof
-- ==== Proof.From.lean ====
/-
# The body, from five places on

The kernel's body is a sequence of parts. The whole of its first sixty, and what remains of them from the second, third and
fourth step of the reduce-scatter and from the all-gather on, are named here, so that each stretch is proved by itself.
-/
module

public import proofs.«01_k».proof.Proof.Steps

@[expose] public section

set_option maxRecDepth 16384

noncomputable section

namespace Cert.RingProof

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

def from46 (d0 : Dev nD) (v2 v13 v24 : BitVec 32) :
    Prog (TpuEff nD τ sig (Elt F) Λ₀ .tc) (Σ' (d0 : Dev nD) (v13 : BitVec 32) (v24 : BitVec 32) (v1780 : BitVec 32) (v1783 : BitVec 32), BitVec 32) := do
  let ⟨v1420, v1421⟩ : Σ' (v1420 : BitVec 32), BitVec 32 ← k0_part46 (Memref.whole main_arg0) (Memref.isWhole_whole _) (Memref.whole cc0_stg0_0) (Memref.isWhole_whole _) (Memref.whole cc0_stg1_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scoped0 v2
  let ⟨v1428, v1439⟩ : Σ' (v1428 : BitVec 32), BitVec 32 ← k0_part47 (Memref.whole main_arg0) (Memref.isWhole_whole _) (Memref.whole cc0_stg0_0) (Memref.isWhole_whole _) (Memref.whole cc0_stg1_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scoped0 d0 v2 v24 v1420 v1421
  k0_part48 (Memref.whole main_arg0) (Memref.isWhole_whole _) (Memref.whole cc0_stg0_0) (Memref.isWhole_whole _) (Memref.whole cc0_stg1_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scoped0 d0 v13 v24
  k0_part49 (Memref.whole main_arg0) (Memref.isWhole_whole _) (Memref.whole cc0_stg0_0) (Memref.isWhole_whole _) (Memref.whole cc0_stg1_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scoped0 d0 v1428 v1439
  let ⟨v1516, v1527⟩ : Σ' (v1516 : BitVec 32), BitVec 32 ← k0_part50 (Memref.whole main_arg0) (Memref.isWhole_whole _) (Memref.whole cc0_stg0_0) (Memref.isWhole_whole _) (Memref.whole cc0_stg1_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scoped0 d0 v2 v24
  k0_part51 (Memref.whole main_arg0) (Memref.isWhole_whole _) (Memref.whole cc0_stg0_0) (Memref.isWhole_whole _) (Memref.whole cc0_stg1_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scoped0 d0 v13 v24
  k0_part52 (Memref.whole main_arg0) (Memref.isWhole_whole _) (Memref.whole cc0_stg0_0) (Memref.isWhole_whole _) (Memref.whole cc0_stg1_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scoped0 d0 v13 v24
  k0_part53 (Memref.whole main_arg0) (Memref.isWhole_whole _) (Memref.whole cc0_stg0_0) (Memref.isWhole_whole _) (Memref.whole cc0_stg1_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scoped0 d0 v13 v24
  let v1627 : FVec F S1024x1024 .f32 ← k0_part54 (Memref.whole main_arg0) (Memref.isWhole_whole _) (Memref.whole cc0_stg0_0) (Memref.isWhole_whole _) (Memref.whole cc0_stg1_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scoped0 d0 v1516
  let ⟨v1648, v1659⟩ : Σ' (v1648 : BitVec 32), BitVec 32 ← k0_part55 (Memref.whole main_arg0) (Memref.isWhole_whole _) (Memref.whole cc0_stg0_0) (Memref.isWhole_whole _) (Memref.whole cc0_stg1_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scoped0 d0 v2 v1527 v1627
  k0_part56 (Memref.whole main_arg0) (Memref.isWhole_whole _) (Memref.whole cc0_stg0_0) (Memref.isWhole_whole _) (Memref.whole cc0_stg1_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scoped0 v13 v24
  k0_part57 (Memref.whole main_arg0) (Memref.isWhole_whole _) (Memref.whole cc0_stg0_0) (Memref.isWhole_whole _) (Memref.whole cc0_stg1_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scoped0 d0 v13 v24
  k0_part58 (Memref.whole main_arg0) (Memref.isWhole_whole _) (Memref.whole cc0_stg0_0) (Memref.isWhole_whole _) (Memref.whole cc0_stg1_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scoped0 d0 v13 v24
  k0_part59 (Memref.whole main_arg0) (Memref.isWhole_whole _) (Memref.whole cc0_stg0_0) (Memref.isWhole_whole _) (Memref.whole cc0_stg1_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scoped0 d0 v1648
  let ⟨v1780, v1783, v1784⟩ : Σ' (v1780 : BitVec 32) (v1783 : BitVec 32), BitVec 32 ← k0_part60 (Memref.whole main_arg0) (Memref.isWhole_whole _) (Memref.whole cc0_stg0_0) (Memref.isWhole_whole _) (Memref.whole cc0_stg1_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scoped0 d0 v2 v1659
  pure ⟨d0, v13, v24, v1780, v1783, v1784⟩

def from33 (d0 : Dev nD) (v2 v13 v24 : BitVec 32) (v991 : FVec F S512x1024 .f32) (v1014 : BitVec 32) :
    Prog (TpuEff nD τ sig (Elt F) Λ₀ .tc) (Σ' (d0 : Dev nD) (v13 : BitVec 32) (v24 : BitVec 32) (v1780 : BitVec 32) (v1783 : BitVec 32), BitVec 32) := do
  k0_part33 (Memref.whole main_arg0) (Memref.isWhole_whole _) (Memref.whole cc0_stg0_0) (Memref.isWhole_whole _) (Memref.whole cc0_stg1_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scoped0 d0 v13 v1014
  let v1067 : BitVec 32 ← k0_part34 (Memref.whole main_arg0) (Memref.isWhole_whole _) (Memref.whole cc0_stg0_0) (Memref.isWhole_whole _) (Memref.whole cc0_stg1_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scoped0 d0 v2 v13 v991
  let ⟨v1096, v1097, v1098, v1099⟩ : Σ' (v1096 : BitVec 32) (v1097 : BitVec 32) (v1098 : BitVec 1), BitVec 1 ← k0_part35 (Memref.whole main_arg0) (Memref.isWhole_whole _) (Memref.whole cc0_stg0_0) (Memref.isWhole_whole _) (Memref.whole cc0_stg1_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scoped0 d0 v2 v1067
  let ⟨v1131, v1132⟩ : Σ' (v1131 : FVec F S512x1024 .f32), Vec F S1x1024 .f32 ← k0_part36 (Memref.whole main_arg0) (Memref.isWhole_whole _) (Memref.whole cc0_stg0_0) (Memref.isWhole_whole _) (Memref.whole cc0_stg1_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scoped0 d0 v2 v1096 v1097 v1098 v1099
  let ⟨v1169, v1172⟩ : Σ' (v1169 : FVec F S512x1024 .bf16), FVec F S1024x1024 .bf16 ← k0_part37 (Memref.whole main_arg0) (Memref.isWhole_whole _) (Memref.whole cc0_stg0_0) (Memref.isWhole_whole _) (Memref.whole cc0_stg1_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scoped0 v1131 v1132
  let ⟨v1173, v1204, v1209⟩ : Σ' (v1173 : FVec F S512x1024 .f32) (v1204 : FVec F S512x1024 .f32), FVec F S512x1024 .f32 ← k0_part38 (Memref.whole main_arg0) (Memref.isWhole_whole _) (Memref.whole cc0_stg0_0) (Memref.isWhole_whole _) (Memref.whole cc0_stg1_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scoped0 v1169 v1172
  let ⟨v1217, v1232⟩ : Σ' (v1217 : FVec F S512x1024 .f32), Vec F S1x1x512x1024 .bf16 ← k0_part39 (Memref.whole main_arg0) (Memref.isWhole_whole _) (Memref.whole cc0_stg0_0) (Memref.isWhole_whole _) (Memref.whole cc0_stg1_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scoped0 v24 v1204 v1209
  let v1254 : Vec F S1x1x512x1024 .bf16 ← k0_part40 (Memref.whole main_arg0) (Memref.isWhole_whole _) (Memref.whole cc0_stg0_0) (Memref.isWhole_whole _) (Memref.whole cc0_stg1_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scoped0 v13 v1173 v1232
  let ⟨v1284, v1286, v1289⟩ : Σ' (v1284 : FVec F S512x1024 .f32) (v1286 : FVec F S512x1024 .f32), FVec F S1x1024 .f32 ← k0_part41 (Memref.whole main_arg0) (Memref.isWhole_whole _) (Memref.whole cc0_stg0_0) (Memref.isWhole_whole _) (Memref.whole cc0_stg1_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scoped0 v1217 v1254
  let ⟨v1305, v1328⟩ : Σ' (v1305 : FVec F S512x1024 .f32), FVec F S512x1024 .f32 ← k0_part42 (Memref.whole main_arg0) (Memref.isWhole_whole _) (Memref.whole cc0_stg0_0) (Memref.isWhole_whole _) (Memref.whole cc0_stg1_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scoped0 v1284 v1286 v1289
  let v1349 : FVec F S512x1024 .f32 ← k0_part43 (Memref.whole main_arg0) (Memref.isWhole_whole _) (Memref.whole cc0_stg0_0) (Memref.isWhole_whole _) (Memref.whole cc0_stg1_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scoped0 v1328
  k0_part44 (Memref.whole main_arg0) (Memref.isWhole_whole _) (Memref.whole cc0_stg0_0) (Memref.isWhole_whole _) (Memref.whole cc0_stg1_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scoped0 v24 v1305
  k0_part45 (Memref.whole main_arg0) (Memref.isWhole_whole _) (Memref.whole cc0_stg0_0) (Memref.isWhole_whole _) (Memref.whole cc0_stg1_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scoped0 v13 v1349
  from46 d0 v2 v13 v24

def from21 (d0 : Dev nD) (v2 v13 v24 : BitVec 32) (v613 : FVec F S512x1024 .f32) :
    Prog (TpuEff nD τ sig (Elt F) Λ₀ .tc) (Σ' (d0 : Dev nD) (v13 : BitVec 32) (v24 : BitVec 32) (v1780 : BitVec 32) (v1783 : BitVec 32), BitVec 32) := do
  let v675 : BitVec 32 ← k0_part21 (Memref.whole main_arg0) (Memref.isWhole_whole _) (Memref.whole cc0_stg0_0) (Memref.isWhole_whole _) (Memref.whole cc0_stg1_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scoped0 d0 v2 v13 v24 v613
  let v709 : BitVec 1 ← k0_part22 (Memref.whole main_arg0) (Memref.isWhole_whole _) (Memref.whole cc0_stg0_0) (Memref.isWhole_whole _) (Memref.whole cc0_stg1_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scoped0 d0 v2 v675
  let ⟨v733, v741, v743, c0_i32_565⟩ : Σ' (v733 : BitVec 32) (v741 : BitVec 32) (v743 : BitVec 32), BitVec 32 ← k0_part23 (Memref.whole main_arg0) (Memref.isWhole_whole _) (Memref.whole cc0_stg0_0) (Memref.isWhole_whole _) (Memref.whole cc0_stg1_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scoped0 d0 v2 v709
  let ⟨v778, cst_588⟩ : Σ' (v778 : FVec F S512x1024 .f32), F .f32 ← k0_part24 (Memref.whole main_arg0) (Memref.isWhole_whole _) (Memref.whole cc0_stg0_0) (Memref.isWhole_whole _) (Memref.whole cc0_stg1_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scoped0 d0 v733 v741 v743 c0_i32_565
  let ⟨v791, v814, v815⟩ : Σ' (v791 : FVec F S512x1024 .f32) (v814 : FVec F S512x1024 .f32), Vec F S1x512x1024 .f32 ← k0_part25 (Memref.whole main_arg0) (Memref.isWhole_whole _) (Memref.whole cc0_stg0_0) (Memref.isWhole_whole _) (Memref.whole cc0_stg1_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scoped0 v778 cst_588
  let v835 : FVec F S512x1024 .f32 ← k0_part26 (Memref.whole main_arg0) (Memref.isWhole_whole _) (Memref.whole cc0_stg0_0) (Memref.isWhole_whole _) (Memref.whole cc0_stg1_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scoped0 v24 v814 v815
  k0_part27 (Memref.whole main_arg0) (Memref.isWhole_whole _) (Memref.whole cc0_stg0_0) (Memref.isWhole_whole _) (Memref.whole cc0_stg1_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scoped0 d0 v24 v791
  k0_part28 (Memref.whole main_arg0) (Memref.isWhole_whole _) (Memref.whole cc0_stg0_0) (Memref.isWhole_whole _) (Memref.whole cc0_stg1_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scoped0 v13 v835
  let ⟨v918, v920⟩ : Σ' (v918 : FVec F S512x1024 .f32), FVec F S512x1024 .f32 ← k0_part29 (Memref.whole main_arg0) (Memref.isWhole_whole _) (Memref.whole cc0_stg0_0) (Memref.isWhole_whole _) (Memref.whole cc0_stg1_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scoped0 d0 v13
  let ⟨v947, v954, v956, v957⟩ : Σ' (v947 : FVec F S512x1024 .f32) (v954 : FVec F S512x1024 .f32) (v956 : FVec F S512x1024 .f32), Vec F S1x1024 .f32 ← k0_part30 (Memref.whole main_arg0) (Memref.isWhole_whole _) (Memref.whole cc0_stg0_0) (Memref.isWhole_whole _) (Memref.whole cc0_stg1_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scoped0 v918 v920
  let v991 : FVec F S512x1024 .f32 ← k0_part31 (Memref.whole main_arg0) (Memref.isWhole_whole _) (Memref.whole cc0_stg0_0) (Memref.isWhole_whole _) (Memref.whole cc0_stg1_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scoped0 v954 v956 v957
  let v1014 : BitVec 32 ← k0_part32 (Memref.whole main_arg0) (Memref.isWhole_whole _) (Memref.whole cc0_stg0_0) (Memref.isWhole_whole _) (Memref.whole cc0_stg1_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scoped0 v24 v947
  from33 d0 v2 v13 v24 v991 v1014

def from10 (d0 : Dev nD) (v2 v13 v24 : BitVec 32) (v301 : FVec F S1x1x512x1024 .bf16) :
    Prog (TpuEff nD τ sig (Elt F) Λ₀ .tc) (Σ' (d0 : Dev nD) (v13 : BitVec 32) (v24 : BitVec 32) (v1780 : BitVec 32) (v1783 : BitVec 32), BitVec 32) := do
  let ⟨v323, v327, v328, v329, v330⟩ : Σ' (v323 : BitVec 32) (v327 : BitVec 32) (v328 : BitVec 32) (v329 : BitVec 1), BitVec 1 ← k0_part10 (Memref.whole main_arg0) (Memref.isWhole_whole _) (Memref.whole cc0_stg0_0) (Memref.isWhole_whole _) (Memref.whole cc0_stg1_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scoped0 d0 v2 v13 v301
  let ⟨v360, v363, v364⟩ : Σ' (v360 : BitVec 32) (v363 : BitVec 32), BitVec 32 ← k0_part11 (Memref.whole main_arg0) (Memref.isWhole_whole _) (Memref.whole cc0_stg0_0) (Memref.isWhole_whole _) (Memref.whole cc0_stg1_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scoped0 d0 v2 v323 v327 v328 v329 v330
  let ⟨v392, v394, v397⟩ : Σ' (v392 : FVec F S512x1024 .f32) (v394 : FVec F S512x1024 .f32), FVec F S1x1024 .f32 ← k0_part12 (Memref.whole main_arg0) (Memref.isWhole_whole _) (Memref.whole cc0_stg0_0) (Memref.isWhole_whole _) (Memref.whole cc0_stg1_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scoped0 d0 v360 v363 v364
  let ⟨v429, v436⟩ : Σ' (v429 : FVec F S512x1024 .f32), FVec F S512x1024 .f32 ← k0_part13 (Memref.whole main_arg0) (Memref.isWhole_whole _) (Memref.whole cc0_stg0_0) (Memref.isWhole_whole _) (Memref.whole cc0_stg1_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scoped0 v392 v394 v397
  let v473 : FVec F S512x1024 .f32 ← k0_part14 (Memref.whole main_arg0) (Memref.isWhole_whole _) (Memref.whole cc0_stg0_0) (Memref.isWhole_whole _) (Memref.whole cc0_stg1_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scoped0 v436
  k0_part15 (Memref.whole main_arg0) (Memref.isWhole_whole _) (Memref.whole cc0_stg0_0) (Memref.isWhole_whole _) (Memref.whole cc0_stg1_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scoped0 v24 v429
  k0_part16 (Memref.whole main_arg0) (Memref.isWhole_whole _) (Memref.whole cc0_stg0_0) (Memref.isWhole_whole _) (Memref.whole cc0_stg1_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scoped0 d0 v13 v473
  let ⟨v556, cst_407⟩ : Σ' (v556 : FVec F S512x1024 .f32), F .f32 ← k0_part17 (Memref.whole main_arg0) (Memref.isWhole_whole _) (Memref.whole cc0_stg0_0) (Memref.isWhole_whole _) (Memref.whole cc0_stg1_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scoped0 d0
  let ⟨v569, v592, v593⟩ : Σ' (v569 : FVec F S512x1024 .f32) (v592 : FVec F S512x1024 .f32), Vec F S1x512x1024 .f32 ← k0_part18 (Memref.whole main_arg0) (Memref.isWhole_whole _) (Memref.whole cc0_stg0_0) (Memref.isWhole_whole _) (Memref.whole cc0_stg1_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scoped0 v556 cst_407
  let ⟨v613, v626⟩ : Σ' (v613 : FVec F S512x1024 .f32), FVec F S512x1024 .bf16 ← k0_part19 (Memref.whole main_arg0) (Memref.isWhole_whole _) (Memref.whole cc0_stg0_0) (Memref.isWhole_whole _) (Memref.whole cc0_stg1_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scoped0 v24 v569 v592 v593
  k0_part20 (Memref.whole main_arg0) (Memref.isWhole_whole _) (Memref.whole cc0_stg0_0) (Memref.isWhole_whole _) (Memref.whole cc0_stg1_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scoped0 d0 v13 v24 v626
  from21 d0 v2 v13 v24 v613

def from1 :
    Prog (TpuEff nD τ sig (Elt F) Λ₀ .tc) (Σ' (d0 : Dev nD) (v13 : BitVec 32) (v24 : BitVec 32) (v1780 : BitVec 32) (v1783 : BitVec 32), BitVec 32) := do
  let ⟨d0, v2, v13, v24, v30⟩ : Σ' (d0 : Dev nD) (v2 : BitVec 32) (v13 : BitVec 32) (v24 : BitVec 32), BitVec 32 ← k0_part1 (Memref.whole main_arg0) (Memref.isWhole_whole _) (Memref.whole cc0_stg0_0) (Memref.isWhole_whole _) (Memref.whole cc0_stg1_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scoped0
  let ⟨v40, v51, v64, c0_i32_41⟩ : Σ' (v40 : BitVec 32) (v51 : BitVec 32) (v64 : BitVec 32), BitVec 32 ← k0_part2 (Memref.whole main_arg0) (Memref.isWhole_whole _) (Memref.whole cc0_stg0_0) (Memref.isWhole_whole _) (Memref.whole cc0_stg1_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scoped0 d0 v2 v30
  let ⟨v94, v96⟩ : Σ' (v94 : FVec F S512x1024 .f32), FVec F S512x1024 .f32 ← k0_part3 (Memref.whole main_arg0) (Memref.isWhole_whole _) (Memref.whole cc0_stg0_0) (Memref.isWhole_whole _) (Memref.whole cc0_stg1_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scoped0 d0 v40 v51 v64 c0_i32_41
  let ⟨v123, v130, v132, v133⟩ : Σ' (v123 : FVec F S512x1024 .f32) (v130 : FVec F S512x1024 .f32) (v132 : FVec F S512x1024 .f32), Vec F S1x1024 .f32 ← k0_part4 (Memref.whole main_arg0) (Memref.isWhole_whole _) (Memref.whole cc0_stg0_0) (Memref.isWhole_whole _) (Memref.whole cc0_stg1_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scoped0 v94 v96
  let v167 : FVec F S512x1024 .f32 ← k0_part5 (Memref.whole main_arg0) (Memref.isWhole_whole _) (Memref.whole cc0_stg0_0) (Memref.isWhole_whole _) (Memref.whole cc0_stg1_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scoped0 v123 v130 v132 v133
  k0_part6 (Memref.whole main_arg0) (Memref.isWhole_whole _) (Memref.whole cc0_stg0_0) (Memref.isWhole_whole _) (Memref.whole cc0_stg1_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scoped0 d0 v13 v24 v167
  let v234 : FVec F S512x1024 .f32 ← k0_part7 (Memref.whole main_arg0) (Memref.isWhole_whole _) (Memref.whole cc0_stg0_0) (Memref.isWhole_whole _) (Memref.whole cc0_stg1_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scoped0
  let ⟨v239, v270, cst_173⟩ : Σ' (v239 : FVec F S512x1024 .f32) (v270 : FVec F S512x1024 .f32), F .f32 ← k0_part8 (Memref.whole main_arg0) (Memref.isWhole_whole _) (Memref.whole cc0_stg0_0) (Memref.isWhole_whole _) (Memref.whole cc0_stg1_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scoped0 v234
  let v301 : FVec F S1x1x512x1024 .bf16 ← k0_part9 (Memref.whole main_arg0) (Memref.isWhole_whole _) (Memref.whole cc0_stg0_0) (Memref.isWhole_whole _) (Memref.whole cc0_stg1_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scoped0 d0 v24 v239 v270 cst_173
  from10 d0 v2 v13 v24 v301

theorem part68_eq : k0_part68 (F := F) (Memref.whole main_arg0) (Memref.isWhole_whole _) (Memref.whole cc0_stg0_0) (Memref.isWhole_whole _) (Memref.whole cc0_stg1_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scoped0 = from1 := rfl

local notation "𝕄" => MT nD τ sig Unit (Elt F) ℕ UU ℕ

variable (I : Inp F) (c : Dev nD)

theorem run_bind {α β : Type} (p : Prog (TpuEff nD τ sig (Elt F) Λ₀ .tc) α) (k : α → Prog (TpuEff nD τ sig (Elt F) Λ₀ .tc) β) (Φ : β → sProp 𝕄) :
    Run c p (fun a => Run c (k a) Φ) ⊢ Run c (p >>= k) Φ := Entails.of_eq (wp_bind _ _ _ p k Φ).symm
theorem run_join {α β : Type} (p : Prog (TpuEff nD τ sig (Elt F) Λ₀ .tc) α) (k : α → Prog (TpuEff nD τ sig (Elt F) Λ₀ .tc) β) (Φ : β → sProp 𝕄) :
    Run c (p >>= k) Φ ⊢ Run c p (fun a => Run c (k a) Φ) := Entails.of_eq (wp_bind _ _ _ p k Φ)
theorem run_ret {α : Type} (a : α) (Φ : α → sProp 𝕄) : Φ a ⊢ Run c (.ret a) Φ := by
  iintro H; simp only [Run, wp_ret]; imodintro; iexact H

theorem chunk_lt (r : ℕ) (c : Dev nD) (s : ℕ) : chunk r c s < 4 := by
  unfold chunk; split <;> exact Nat.mod_lt _ (by decide)

/-- The device's number along the mesh axis, as the program computes it. -/
def meW : BitVec 32 := Scalar.remsi (Scalar.divsi (Dev.word c) 1#32) 4#32

/-! ## What the all-gather needs, carried unused through the reduce-scatter -/

def OutAny (r g : ℕ) : sProp 𝕄 := iprop(∃ Z, ownsTc c (outS r g) fullShare Z)
def Outs (r : ℕ) : sProp 𝕄 := iprop(OutAny c r (gid r 0 c) ∗ OutAny c r (gid r 1 c) ∗ OutAny c r (gid r 2 c) ∗ OutAny c r (gid r 3 c))
def L6 (d : Dev nD) (r : ℕ) : sProp 𝕄 :=
  iprop(anyW d (dstS r 6) ∗ anyW d (dstS r 7) ∗ anyW d (dstS r 8) ∗ anyW d (dstS r 9) ∗ anyW d (dstS r 10) ∗ anyW d (dstS r 11))
def AG : sProp 𝕄 := iprop(StIdle c 0 ∗ StIdle c 1 ∗ Outs c 0 ∗ Outs c 1)

/-! ## What the barrier and the credits carry -/

theorem bar_pay : bigSep ((ringRd (F := F) I).duties (gc c barL) 0 \ ∅) (fun d => (ringRd (F := F) I).payload (gc c barL) 0 d)
    ⊢ iprop(landAll (dwn 0 c) 0 ∗ landAll (dwn 1 c) 1) := by
  rw [rest_two I c barL dut_bar, pay_bar, pay_bar]; exact .rfl
theorem bar_give0 : landAll c 0 ⊢ payOf I (dto 0 c) barL (db 0) := by
  rw [pay_bar]; show _ ⊢ landAll (dwn 0 (up 0 c)) 0; rw [dwn_up]
theorem bar_give1 : landAll c 1 ⊢ payOf I (dto 1 c) barL (db 1) := by
  rw [pay_bar]; show _ ⊢ landAll (dwn 1 (up 1 c)) 1; rw [dwn_up]
theorem cred_pay (r : ℕ) (hr : r < 2) : bigSep ((ringRd (F := F) I).duties (gc c (credL r)) 0 \ ∅) (fun d => (ringRd (F := F) I).payload (gc c (credL r)) 0 d)
    ⊢ iprop(anyW (dwn r c) (dstS r 4) ∗ anyW (dwn r c) (dstS r 5)) := by
  rw [rest_one I c (credL r) (dut_cred r), pay_cred I c r hr]; exact .rfl
theorem cred_give0 (X Y : FVec F S1x1x512x1024 .bf16) : iprop(ownsTc c (rbS 0 0 0) fullShare X ∗ ownsTc c (rbS 0 0 1) fullShare Y) ⊢ payOf I (dto 8 c) (credL 0) (db 8) := by
  rw [pay_cred I _ 0 (by decide)]; show _ ⊢ landCred (dwn 0 (up 0 c)) 0; rw [dwn_up]
  iintro ⟨H, H'⟩; unfold landCred
  isplitl [H]; · iapply (any_of_owns c (rbS 0 0 0) X); iexact H
  iapply (any_of_owns c (rbS 0 0 1) Y); iexact H'
theorem cred_give1 (X Y : FVec F S1x1x512x1024 .bf16) : iprop(ownsTc c (rbS 1 0 0) fullShare X ∗ ownsTc c (rbS 1 0 1) fullShare Y) ⊢ payOf I (dto 10 c) (credL 1) (db 10) := by
  rw [pay_cred I _ 1 (by decide)]; show _ ⊢ landCred (dwn 1 (up 1 c)) 1; rw [dwn_up]
  iintro ⟨H, H'⟩; unfold landCred
  isplitl [H]; · iapply (any_of_owns c (rbS 1 0 0) X); iexact H
  iapply (any_of_owns c (rbS 1 0 1) Y); iexact H'

end Cert.RingProof
-- ==== Proof.Walk4.lean ====
/-
# The all-gather

Operation by operation, each by its lemma.
-/
module

public import proofs.«01_k».proof.Proof.From

@[expose] public section

set_option maxRecDepth 16384

noncomputable section

namespace Cert.RingProof

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (I : Inp F) (K : Dev nD × Fin 52 → ℕ) (c : Dev nD)

/-- A finished chunk, in the shape of the result. -/
def stg (r h : ℕ) (d : Dev nD) : FVec F S1x1024x1024 .f32 := k0_pay68 (joinH (fin I r 0 h d) (fin I r 1 h d))

/-- What the device holds after the sixtieth part. -/
def Tail : sProp 𝕄 :=
  iprop(St c 28 35
    ∗ CpReady I c 0 (chunk 0 c 3)
    ∗ CpReady I c 1 (chunk 1 c 3)
    ∗ KW I c
    ∗ anyW c (cbS 0 0 0)
    ∗ anyW c (cbS 0 0 1)
    ∗ anyW c (cbS 1 0 0)
    ∗ anyW c (cbS 1 0 1)
    ∗ ownsTc c (rbS 0 0 0) fullShare (accB I 0 0 2 (up 0 c))
    ∗ ownsTc c (rbS 0 0 1) fullShare (accB I 0 1 2 (up 0 c))
    ∗ ownsTc c (rbS 0 1 0) fullShare (accB I 0 0 1 (up 0 c))
    ∗ ownsTc c (rbS 0 1 1) fullShare (accB I 0 1 1 (up 0 c))
    ∗ ownsTc c (rbS 1 0 0) fullShare (accB I 1 0 2 (up 1 c))
    ∗ ownsTc c (rbS 1 0 1) fullShare (accB I 1 1 2 (up 1 c))
    ∗ ownsTc c (rbS 1 1 0) fullShare (accB I 1 0 1 (up 1 c))
    ∗ ownsTc c (rbS 1 1 1) fullShare (accB I 1 1 1 (up 1 c))
    ∗ Sent c 0 6
    ∗ Sent c 0 7
    ∗ Sent c 0 8
    ∗ Sent c 0 9
    ∗ Sent c 0 10
    ∗ Sent c 0 11
    ∗ Sent c 1 6
    ∗ Sent c 1 7
    ∗ Sent c 1 8
    ∗ Sent c 1 9
    ∗ Sent c 1 10
    ∗ Sent c 1 11
    ∗ ownsTc c (cbS 0 1 0) fullShare.right (fin I 0 0 0 c)
    ∗ ownsTc c (cbS 0 1 1) fullShare.right (fin I 0 1 0 c)
    ∗ ownsTc c (cbS 1 1 0) fullShare.right (fin I 1 0 0 c)
    ∗ ownsTc c (cbS 1 1 1) fullShare.right (fin I 1 1 0 c)
    ∗ ownsTc c (abS 0 0 0) fullShare.right (fin I 0 0 1 c)
    ∗ ownsTc c (abS 0 0 1) fullShare.right (fin I 0 1 1 c)
    ∗ ownsTc c (abS 0 1 0) fullShare.right (fin I 0 0 2 c)
    ∗ ownsTc c (abS 0 1 1) fullShare.right (fin I 0 1 2 c)
    ∗ ownsTc c (abS 1 0 0) fullShare.right (fin I 1 0 1 c)
    ∗ ownsTc c (abS 1 0 1) fullShare.right (fin I 1 1 1 c)
    ∗ ownsTc c (abS 1 1 0) fullShare.right (fin I 1 0 2 c)
    ∗ ownsTc c (abS 1 1 1) fullShare.right (fin I 1 1 2 c)
    ∗ OutFl c 0 (gid 0 2 c) (stg I 0 2 c)
    ∗ OutFl c 1 (gid 1 2 c) (stg I 1 2 c)
    ∗ ownsTc c (outS 0 (gid 0 0 c)) fullShare (stg I 0 0 c)
    ∗ ownsTc c (outS 0 (gid 0 1 c)) fullShare (stg I 0 1 c)
    ∗ ownsTc c (outS 1 (gid 1 0 c)) fullShare (stg I 1 0 c)
    ∗ ownsTc c (outS 1 (gid 1 1 c)) fullShare (stg I 1 1 c)
    ∗ OutAny c 0 (gid 0 3 c)
    ∗ OutAny c 1 (gid 1 3 c))

/-- The all-gather, up to the last hop's arrivals. -/
theorem run_from46 {Φ} {Ψ : sProp 𝕄} (hΦ : ∀ a b x y z, Ψ ⊢ Φ ⟨c, a, b, x, y, z⟩) (v2 v13 v24 : BitVec 32) :
    Env I K ⊢ iprop(St c 16 24
      -∗ CpReady I c 0 (chunk 0 c 3)
      -∗ CpReady I c 1 (chunk 1 c 3)
      -∗ anyW c (cbS 0 0 0)
      -∗ Sent c 0 5
      -∗ Sent c 1 4
      -∗ Sent c 1 5
      -∗ ownsTc c (cbS 0 1 0) fullShare (fin I 0 0 0 c)
      -∗ ownsTc c (cbS 0 1 1) fullShare (fin I 0 1 0 c)
      -∗ ownsTc c (cbS 1 1 0) fullShare (fin I 1 0 0 c)
      -∗ ownsTc c (cbS 1 1 1) fullShare (fin I 1 1 0 c)
      -∗ ownsTc c (rbS 0 0 0) fullShare (accB I 0 0 2 (up 0 c))
      -∗ ownsTc c (rbS 0 0 1) fullShare (accB I 0 1 2 (up 0 c))
      -∗ ownsTc c (rbS 0 1 0) fullShare (accB I 0 0 1 (up 0 c))
      -∗ ownsTc c (rbS 0 1 1) fullShare (accB I 0 1 1 (up 0 c))
      -∗ ownsTc c (rbS 1 0 0) fullShare (accB I 1 0 2 (up 1 c))
      -∗ ownsTc c (rbS 1 0 1) fullShare (accB I 1 1 2 (up 1 c))
      -∗ ownsTc c (rbS 1 1 0) fullShare (accB I 1 0 1 (up 1 c))
      -∗ ownsTc c (rbS 1 1 1) fullShare (accB I 1 1 1 (up 1 c))
      -∗ KW I c
      -∗ StIdle c 0
      -∗ StIdle c 1
      -∗ Outs c 0
      -∗ Outs c 1
      -∗ L6 (dwn 0 c) 0
      -∗ L6 (dwn 1 c) 1
      -∗ (Tail I c -∗ Ψ) -∗ Run c (from46 c v2 v13 v24) Φ) := by
  iintro #HE HS HC0 HC1 B000 S05 S14 S15 B010 B011 B110 B111 R000 R001 R010 R011 R100 R101 R110 R111 HKW T0 T1 OO0 OO1 LL0 LL1 Hk
  unfold from46
  unfold Outs L6 OutAny
  icases OO0 with ⟨O00, O01, O02, O03⟩
  icases LL0 with ⟨D06, D07, D08, D09, D010, D011⟩
  icases OO1 with ⟨O10, O11, O12, O13⟩
  icases LL1 with ⟨D16, D17, D18, D19, D110, D111⟩
  simp only [k0_part46_eq_skeleton, k0_part46_skel, k0_part47_eq_skeleton, k0_part47_skel, semSignalWord, semWaitWord, Prog.lift, Prog.bind_op, Prog.bind_ret, Prog.pure_eq_ret]
  iapply (op_back I K c 16 24 0 5 (by decide) (by decide) (by decide) (by rfl) (cbS 0 0 1) fullShare (accB I 0 1 2 c) (by rfl) (by rfl) (by rfl) (by rfl) (by rfl)) $$ HE S05 HS
  iintro B001 HS
  ihave B001 : anyW c (cbS 0 0 1) $$ [B001]
  · iapply (any_of_owns c (cbS 0 0 1) (accB I 0 1 2 c)); iexact B001
  iapply (op_back I K c 16 25 1 4 (by decide) (by decide) (by decide) (by rfl) (cbS 1 0 0) fullShare (accB I 1 0 2 c) (by rfl) (by rfl) (by rfl) (by rfl) (by rfl)) $$ HE S14 HS
  iintro B100 HS
  ihave B100 : anyW c (cbS 1 0 0) $$ [B100]
  · iapply (any_of_owns c (cbS 1 0 0) (accB I 1 0 2 c)); iexact B100
  iapply (op_back I K c 16 26 1 5 (by decide) (by decide) (by decide) (by rfl) (cbS 1 0 1) fullShare (accB I 1 1 2 c) (by rfl) (by rfl) (by rfl) (by rfl) (by rfl)) $$ HE S15 HS
  iintro B101 HS
  ihave B101 : anyW c (cbS 1 0 1) $$ [B101]
  · iapply (any_of_owns c (cbS 1 0 1) (accB I 1 1 2 c)); iexact B101
  icases (half_split c (cbS 0 1 0) (fin I 0 0 0 c)) $$ B010 with ⟨B010L, B010R⟩
  icases (half_split c (cbS 0 1 1) (fin I 0 1 0 c)) $$ B011 with ⟨B011L, B011R⟩
  icases (half_split c (cbS 1 1 0) (fin I 1 0 0 c)) $$ B110 with ⟨B110L, B110R⟩
  icases (half_split c (cbS 1 1 1) (fin I 1 1 0 c)) $$ B111 with ⟨B111L, B111R⟩
  iapply (op_go I K c 16 27 0 6 (by decide) (by decide) (by rfl) (cbS 0 1 0) fullShare.left (fin I 0 0 0 c) (by rfl) (by rfl) (by rfl) (by rfl) (by rfl) ?_ (by rfl) (by rfl)) $$ HE B010L D06 HS
  · clear hΦ; revert c; decide
  iintro S06 HS
  simp only [k0_part48_eq_skeleton, k0_part48_skel, k0_part49_eq_skeleton, k0_part49_skel, semSignalWord, semWaitWord, Prog.lift, Prog.bind_op, Prog.bind_ret, Prog.pure_eq_ret]
  iapply (op_go I K c 17 27 1 6 (by decide) (by decide) (by rfl) (cbS 1 1 0) fullShare.left (fin I 1 0 0 c) (by rfl) (by rfl) (by rfl) (by rfl) (by rfl) ?_ (by rfl) (by rfl)) $$ HE B110L D16 HS
  · clear hΦ; revert c; decide
  iintro S16 HS
  iapply (op_go I K c 18 27 0 7 (by decide) (by decide) (by rfl) (cbS 0 1 1) fullShare.left (fin I 0 1 0 c) (by rfl) (by rfl) (by rfl) (by rfl) (by rfl) ?_ (by rfl) (by rfl)) $$ HE B011L D07 HS
  · clear hΦ; revert c; decide
  iintro S07 HS
  iapply (op_go I K c 19 27 1 7 (by decide) (by decide) (by rfl) (cbS 1 1 1) fullShare.left (fin I 1 1 0 c) (by rfl) (by rfl) (by rfl) (by rfl) (by rfl) ?_ (by rfl) (by rfl)) $$ HE B111L D17 HS
  · clear hΦ; revert c; decide
  iintro S17 HS
  iapply (op_load_fin_c c 0 1 fullShare.right (fin I 0 0 0 c) (fin I 0 1 0 c) (by rfl)) $$ [B010R B011R]
  · isplitl [B010R]; · iexact B010R
    iexact B011R
  iintro B010R B011R
  iapply (op_stage c 0 (stg I 0 0 c) (by rfl) (by rfl)) $$ T0
  iintro T0 V0
  iapply (op_out c 0 (gid 0 0 c) (stg I 0 0 c) (by rfl) ?_ (by rfl)) $$ [T0 O00 V0]
  · clear hΦ; revert c; decide
  · isplitl [T0]; · iexact T0
    isplitl [O00]; · iexact O00
    iexact V0
  iintro T0
  simp only [k0_part50_eq_skeleton, k0_part50_skel, semSignalWord, semWaitWord, Prog.lift, Prog.bind_op, Prog.bind_ret, Prog.pure_eq_ret]
  iapply (op_load_fin_c c 1 1 fullShare.right (fin I 1 0 0 c) (fin I 1 1 0 c) (by rfl)) $$ [B110R B111R]
  · isplitl [B110R]; · iexact B110R
    iexact B111R
  iintro B110R B111R
  iapply (op_stage c 1 (stg I 1 0 c) (by rfl) (by rfl)) $$ T1
  iintro T1 V1
  iapply (op_out c 1 (gid 1 0 c) (stg I 1 0 c) (by rfl) ?_ (by rfl)) $$ [T1 O10 V1]
  · clear hΦ; revert c; decide
  · isplitl [T1]; · iexact T1
    isplitl [O10]; · iexact O10
    iexact V1
  iintro T1
  simp only [k0_part51_eq_skeleton, k0_part51_skel, semSignalWord, semWaitWord, Prog.lift, Prog.bind_op, Prog.bind_ret, Prog.pure_eq_ret]
  iapply (op_recv I K c 20 27 0 6 (by decide) (by decide) (by decide) (by rfl) (by decide) (abS 0 0 0) (fin I 0 0 1 c) (by rfl) (by rfl) (by rfl) (by rfl)) $$ HE HS
  iintro A000L A000R HS
  iapply (op_recv I K c 20 28 1 6 (by decide) (by decide) (by decide) (by rfl) (by decide) (abS 1 0 0) (fin I 1 0 1 c) (by rfl) (by rfl) (by rfl) (by rfl)) $$ HE HS
  iintro A100L A100R HS
  iapply (op_go I K c 20 29 0 8 (by decide) (by decide) (by rfl) (abS 0 0 0) fullShare.left (fin I 0 0 1 c) (by rfl) (by rfl) (by rfl) (by rfl) (by rfl) ?_ (by rfl) (by rfl)) $$ HE A000L D08 HS
  · clear hΦ; revert c; decide
  iintro S08 HS
  simp only [k0_part52_eq_skeleton, k0_part52_skel, semSignalWord, semWaitWord, Prog.lift, Prog.bind_op, Prog.bind_ret, Prog.pure_eq_ret]
  iapply (op_go I K c 21 29 1 8 (by decide) (by decide) (by rfl) (abS 1 0 0) fullShare.left (fin I 1 0 1 c) (by rfl) (by rfl) (by rfl) (by rfl) (by rfl) ?_ (by rfl) (by rfl)) $$ HE A100L D18 HS
  · clear hΦ; revert c; decide
  iintro S18 HS
  iapply (op_recv I K c 22 29 0 7 (by decide) (by decide) (by decide) (by rfl) (by decide) (abS 0 0 1) (fin I 0 1 1 c) (by rfl) (by rfl) (by rfl) (by rfl)) $$ HE HS
  iintro A001L A001R HS
  simp only [k0_part53_eq_skeleton, k0_part53_skel, semSignalWord, semWaitWord, Prog.lift, Prog.bind_op, Prog.bind_ret, Prog.pure_eq_ret]
  iapply (op_recv I K c 22 30 1 7 (by decide) (by decide) (by decide) (by rfl) (by decide) (abS 1 0 1) (fin I 1 1 1 c) (by rfl) (by rfl) (by rfl) (by rfl)) $$ HE HS
  iintro A101L A101R HS
  iapply (op_go I K c 22 31 0 9 (by decide) (by decide) (by rfl) (abS 0 0 1) fullShare.left (fin I 0 1 1 c) (by rfl) (by rfl) (by rfl) (by rfl) (by rfl) ?_ (by rfl) (by rfl)) $$ HE A001L D09 HS
  · clear hΦ; revert c; decide
  iintro S09 HS
  iapply (op_go I K c 23 31 1 9 (by decide) (by decide) (by rfl) (abS 1 0 1) fullShare.left (fin I 1 1 1 c) (by rfl) (by rfl) (by rfl) (by rfl) (by rfl) ?_ (by rfl) (by rfl)) $$ HE A101L D19 HS
  · clear hΦ; revert c; decide
  iintro S19 HS
  simp only [k0_part54_eq_skeleton, k0_part54_skel, k0_part55_eq_skeleton, k0_part55_skel, semSignalWord, semWaitWord, Prog.lift, Prog.bind_op, Prog.bind_ret, Prog.pure_eq_ret]
  iapply (op_out_wait I K c 24 31 0 (gid 0 0 c) (stg I 0 0 c) (by rfl) (by rfl)) $$ HE T0 HS
  iintro O00 T0 HS
  iapply (op_load_fin_a c 0 0 fullShare.right (fin I 0 0 1 c) (fin I 0 1 1 c) (by rfl)) $$ [A000R A001R]
  · isplitl [A000R]; · iexact A000R
    iexact A001R
  iintro A000R A001R
  iapply (op_stage c 0 (stg I 0 1 c) (by rfl) (by rfl)) $$ T0
  iintro T0 V0
  iapply (op_out c 0 (gid 0 1 c) (stg I 0 1 c) (by rfl) ?_ (by rfl)) $$ [T0 O01 V0]
  · clear hΦ; revert c; decide
  · isplitl [T0]; · iexact T0
    isplitl [O01]; · iexact O01
    iexact V0
  iintro T0
  iapply (op_out_wait I K c 24 31 1 (gid 1 0 c) (stg I 1 0 c) (by rfl) (by rfl)) $$ HE T1 HS
  iintro O10 T1 HS
  iapply (op_load_fin_a c 1 0 fullShare.right (fin I 1 0 1 c) (fin I 1 1 1 c) (by rfl)) $$ [A100R A101R]
  · isplitl [A100R]; · iexact A100R
    iexact A101R
  iintro A100R A101R
  iapply (op_stage c 1 (stg I 1 1 c) (by rfl) (by rfl)) $$ T1
  iintro T1 V1
  iapply (op_out c 1 (gid 1 1 c) (stg I 1 1 c) (by rfl) ?_ (by rfl)) $$ [T1 O11 V1]
  · clear hΦ; revert c; decide
  · isplitl [T1]; · iexact T1
    isplitl [O11]; · iexact O11
    iexact V1
  iintro T1
  simp only [k0_part56_eq_skeleton, k0_part56_skel, semSignalWord, semWaitWord, Prog.lift, Prog.bind_op, Prog.bind_ret, Prog.pure_eq_ret]
  iapply (op_recv I K c 24 31 0 8 (by decide) (by decide) (by decide) (by rfl) (by decide) (abS 0 1 0) (fin I 0 0 2 c) (by rfl) (by rfl) (by rfl) (by rfl)) $$ HE HS
  iintro A010L A010R HS
  iapply (op_recv I K c 24 32 1 8 (by decide) (by decide) (by decide) (by rfl) (by decide) (abS 1 1 0) (fin I 1 0 2 c) (by rfl) (by rfl) (by rfl) (by rfl)) $$ HE HS
  iintro A110L A110R HS
  simp only [k0_part57_eq_skeleton, k0_part57_skel, semSignalWord, semWaitWord, Prog.lift, Prog.bind_op, Prog.bind_ret, Prog.pure_eq_ret]
  iapply (op_go I K c 24 33 0 10 (by decide) (by decide) (by rfl) (abS 0 1 0) fullShare.left (fin I 0 0 2 c) (by rfl) (by rfl) (by rfl) (by rfl) (by rfl) ?_ (by rfl) (by rfl)) $$ HE A010L D010 HS
  · clear hΦ; revert c; decide
  iintro S010 HS
  iapply (op_go I K c 25 33 1 10 (by decide) (by decide) (by rfl) (abS 1 1 0) fullShare.left (fin I 1 0 2 c) (by rfl) (by rfl) (by rfl) (by rfl) (by rfl) ?_ (by rfl) (by rfl)) $$ HE A110L D110 HS
  · clear hΦ; revert c; decide
  iintro S110 HS
  iapply (op_recv I K c 26 33 0 9 (by decide) (by decide) (by decide) (by rfl) (by decide) (abS 0 1 1) (fin I 0 1 2 c) (by rfl) (by rfl) (by rfl) (by rfl)) $$ HE HS
  iintro A011L A011R HS
  simp only [k0_part58_eq_skeleton, k0_part58_skel, semSignalWord, semWaitWord, Prog.lift, Prog.bind_op, Prog.bind_ret, Prog.pure_eq_ret]
  iapply (op_recv I K c 26 34 1 9 (by decide) (by decide) (by decide) (by rfl) (by decide) (abS 1 1 1) (fin I 1 1 2 c) (by rfl) (by rfl) (by rfl) (by rfl)) $$ HE HS
  iintro A111L A111R HS
  iapply (op_go I K c 26 35 0 11 (by decide) (by decide) (by rfl) (abS 0 1 1) fullShare.left (fin I 0 1 2 c) (by rfl) (by rfl) (by rfl) (by rfl) (by rfl) ?_ (by rfl) (by rfl)) $$ HE A011L D011 HS
  · clear hΦ; revert c; decide
  iintro S011 HS
  simp only [k0_part59_eq_skeleton, k0_part59_skel, semSignalWord, semWaitWord, Prog.lift, Prog.bind_op, Prog.bind_ret, Prog.pure_eq_ret]
  iapply (op_go I K c 27 35 1 11 (by decide) (by decide) (by rfl) (abS 1 1 1) fullShare.left (fin I 1 1 2 c) (by rfl) (by rfl) (by rfl) (by rfl) (by rfl) ?_ (by rfl) (by rfl)) $$ HE A111L D111 HS
  · clear hΦ; revert c; decide
  iintro S111 HS
  iapply (op_out_wait I K c 28 35 0 (gid 0 1 c) (stg I 0 1 c) (by rfl) (by rfl)) $$ HE T0 HS
  iintro O01 T0 HS
  iapply (op_load_fin_a c 0 1 fullShare.right (fin I 0 0 2 c) (fin I 0 1 2 c) (by rfl)) $$ [A010R A011R]
  · isplitl [A010R]; · iexact A010R
    iexact A011R
  iintro A010R A011R
  iapply (op_stage c 0 (stg I 0 2 c) (by rfl) (by rfl)) $$ T0
  iintro T0 V0
  iapply (op_out c 0 (gid 0 2 c) (stg I 0 2 c) (by rfl) ?_ (by rfl)) $$ [T0 O02 V0]
  · clear hΦ; revert c; decide
  · isplitl [T0]; · iexact T0
    isplitl [O02]; · iexact O02
    iexact V0
  iintro T0
  simp only [k0_part60_eq_skeleton, k0_part60_skel, semSignalWord, semWaitWord, Prog.lift, Prog.bind_op, Prog.bind_ret, Prog.pure_eq_ret]
  iapply (op_out_wait I K c 28 35 1 (gid 1 1 c) (stg I 1 1 c) (by rfl) (by rfl)) $$ HE T1 HS
  iintro O11 T1 HS
  iapply (op_load_fin_a c 1 1 fullShare.right (fin I 1 0 2 c) (fin I 1 1 2 c) (by rfl)) $$ [A110R A111R]
  · isplitl [A110R]; · iexact A110R
    iexact A111R
  iintro A110R A111R
  iapply (op_stage c 1 (stg I 1 2 c) (by rfl) (by rfl)) $$ T1
  iintro T1 V1
  iapply (op_out c 1 (gid 1 2 c) (stg I 1 2 c) (by rfl) ?_ (by rfl)) $$ [T1 O12 V1]
  · clear hΦ; revert c; decide
  · isplitl [T1]; · iexact T1
    isplitl [O12]; · iexact O12
    iexact V1
  iintro T1
  iapply (run_ret c)
  iapply (hΦ _ _ _ _ _)
  iapply Hk
  unfold Tail OutAny
  isplitl [HS]; · iexact HS
  isplitl [HC0]; · iexact HC0
  isplitl [HC1]; · iexact HC1
  isplitl [HKW]; · iexact HKW
  isplitl [B000]; · iexact B000
  isplitl [B001]; · iexact B001
  isplitl [B100]; · iexact B100
  isplitl [B101]; · iexact B101
  isplitl [R000]; · iexact R000
  isplitl [R001]; · iexact R001
  isplitl [R010]; · iexact R010
  isplitl [R011]; · iexact R011
  isplitl [R100]; · iexact R100
  isplitl [R101]; · iexact R101
  isplitl [R110]; · iexact R110
  isplitl [R111]; · iexact R111
  isplitl [S06]; · iexact S06
  isplitl [S07]; · iexact S07
  isplitl [S08]; · iexact S08
  isplitl [S09]; · iexact S09
  isplitl [S010]; · iexact S010
  isplitl [S011]; · iexact S011
  isplitl [S16]; · iexact S16
  isplitl [S17]; · iexact S17
  isplitl [S18]; · iexact S18
  isplitl [S19]; · iexact S19
  isplitl [S110]; · iexact S110
  isplitl [S111]; · iexact S111
  isplitl [B010R]; · iexact B010R
  isplitl [B011R]; · iexact B011R
  isplitl [B110R]; · iexact B110R
  isplitl [B111R]; · iexact B111R
  isplitl [A000R]; · iexact A000R
  isplitl [A001R]; · iexact A001R
  isplitl [A010R]; · iexact A010R
  isplitl [A011R]; · iexact A011R
  isplitl [A100R]; · iexact A100R
  isplitl [A101R]; · iexact A101R
  isplitl [A110R]; · iexact A110R
  isplitl [A111R]; · iexact A111R
  isplitl [T0]; · iexact T0
  isplitl [T1]; · iexact T1
  isplitl [O00]; · iexact O00
  isplitl [O01]; · iexact O01
  isplitl [O10]; · iexact O10
  isplitl [O11]; · iexact O11
  isplitl [O03]; · iexact O03
  iexact O13

end Cert.RingProof
-- ==== Proof.Walk3.lean ====
/-
# The fourth step of the reduce-scatter

Operation by operation, each by its lemma.
-/
module

public import proofs.«01_k».proof.Proof.Walk4

@[expose] public section

set_option maxRecDepth 16384

noncomputable section

namespace Cert.RingProof

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (I : Inp F) (K : Dev nD × Fin 52 → ℕ) (c : Dev nD)

/-- The last transfers of the third step, and the fourth step. -/
theorem run_from33 {Φ} {Ψ : sProp 𝕄} (hΦ : ∀ a b x y z, Ψ ⊢ Φ ⟨c, a, b, x, y, z⟩) (v2 v13 v24 : BitVec 32) (hv2 : v2 = meW c) (v991 : FVec F S512x1024 .f32) (v1014 : BitVec 32) (hv : v991 = part I c 1 (chunk 1 c 2) 1) :
    Env I K ⊢ iprop(St c 14 13
      -∗ CpReady I c 0 (chunk 0 c 2)
      -∗ CpReady I c 1 (chunk 1 c 2)
      -∗ ownsTc c (cbS 0 0 1) fullShare (accB I 0 1 2 c)
      -∗ Sent c 1 1
      -∗ Sent c 0 2
      -∗ Sent c 1 2
      -∗ Sent c 0 3
      -∗ Sent c 1 3
      -∗ Sent c 0 4
      -∗ Sent c 1 4
      -∗ ownsTc c (rbS 0 1 0) fullShare (accB I 0 0 1 (up 0 c))
      -∗ ownsTc c (rbS 0 1 1) fullShare (accB I 0 1 1 (up 0 c))
      -∗ ownsTc c (rbS 1 1 0) fullShare (accB I 1 0 1 (up 1 c))
      -∗ anyW (dwn 0 c) (dstS 0 5)
      -∗ anyW (dwn 1 c) (dstS 1 5)
      -∗ KW I c
      -∗ StIdle c 0
      -∗ StIdle c 1
      -∗ Outs c 0
      -∗ Outs c 1
      -∗ L6 (dwn 0 c) 0
      -∗ L6 (dwn 1 c) 1
      -∗ (Tail I c -∗ Ψ) -∗ Run c (from33 c v2 v13 v24 v991 v1014) Φ) := by
  subst hv2; subst hv
  iintro #HE HS HC0 HC1 B001 S11 S02 S12 S03 S13 S04 S14 R010 R011 R110 D05 D15 HKW T0 T1 OO0 OO1 LL0 LL1 Hk
  unfold from33
  simp only [k0_part33_eq_skeleton, k0_part33_skel, k0_part34_eq_skeleton, k0_part34_skel, semSignalWord, semWaitWord, Prog.lift, Prog.bind_op, Prog.bind_ret, Prog.pure_eq_ret]
  iapply (op_go I K c 14 13 0 5 (by decide) (by decide) (by rfl) (cbS 0 0 1) fullShare (accB I 0 1 2 c) (by rfl) (by rfl) (by rfl) (by rfl) (by rfl) ?_ (by rfl) (by rfl)) $$ HE B001 D05 HS
  · clear hΦ; revert c; decide
  iintro S05 HS
  iapply (op_back I K c 15 13 1 1 (by decide) (by decide) (by decide) (by rfl) (cbS 1 0 1) fullShare (accB I 1 1 0 c) (by rfl) (by rfl) (by rfl) (by rfl) (by rfl)) $$ HE S11 HS
  iintro B101 HS
  ihave B101 : anyW c (cbS 1 0 1) $$ [B101]
  · iapply (any_of_owns c (cbS 1 0 1) (accB I 1 1 0 c)); iexact B101
  iapply (op_accum I K c 15 14 1 3 (by decide) (by decide) (by decide) (by rfl) (by decide) (rbS 1 1 1) (cbS 1 0 1) (accB I 1 1 1 (up 1 c)) (accB I 1 1 2 c) (by rfl) (by rfl) (by rfl) (by rfl) (by rfl) (by rfl) (by rfl)) $$ HE HS B101
  iintro R111 B101 HS
  iapply (op_go I K c 15 15 1 5 (by decide) (by decide) (by rfl) (cbS 1 0 1) fullShare (accB I 1 1 2 c) (by rfl) (by rfl) (by rfl) (by rfl) (by rfl) ?_ (by rfl) (by rfl)) $$ HE B101 D15 HS
  · clear hΦ; revert c; decide
  iintro S15 HS
  ihave HC0 : CpIdle I c 0 $$ [HC0]
  · iapply (idle_of_ready I c 0 (chunk 0 c 2)); iexact HC0
  ihave HC1 : CpIdle I c 1 $$ [HC1]
  · iapply (idle_of_ready I c 1 (chunk 1 c 2)); iexact HC1
  iapply (run_bind c)
  simp only [k0_part35_eq_skeleton, k0_part35_skel, semSignalWord, semWaitWord, Prog.lift, Prog.bind_op, Prog.bind_ret, Prog.pure_eq_ret]
  iapply (op_startA I c 0 (chunk 0 c 3) (by decide) (chunk_lt 0 c 3) ?_ ?_ (by rfl) (by rfl)) $$ HC0
  · clear hΦ; revert c; decide
  · clear hΦ; revert c; decide
  iintro HC0
  iapply (op_startB I c 0 (chunk 0 c 3) (by decide) (chunk_lt 0 c 3) ?_ (by rfl) (by rfl) (by rfl) (by rfl) (by rfl)) $$ HC0
  · clear hΦ; revert c; decide
  iintro HC0
  iapply (op_startA I c 1 (chunk 1 c 3) (by decide) (chunk_lt 1 c 3) ?_ ?_ (by rfl) (by rfl)) $$ HC1
  · clear hΦ; revert c; decide
  · clear hΦ; revert c; decide
  iintro HC1
  iapply (op_startB I c 1 (chunk 1 c 3) (by decide) (chunk_lt 1 c 3) ?_ (by rfl) (by rfl) (by rfl) (by rfl) (by rfl)) $$ HC1
  · clear hΦ; revert c; decide
  iintro HC1
  iapply (run_ret c)
  iapply (run_bind c)
  simp only [k0_part36_eq_skeleton, k0_part36_skel, semSignalWord, semWaitWord, Prog.lift, Prog.bind_op, Prog.bind_ret, Prog.pure_eq_ret]
  iapply (op_waitA I K c 16 15 0 (chunk 0 c 3) ?_ (by rfl) (by rfl)) $$ HE HC0 HS
  · clear hΦ; revert c; decide
  iintro HC0 HS
  iapply (op_waitB I K c 16 15 0 (chunk 0 c 3) ?_ (by rfl) (by rfl)) $$ HE HC0 HS
  · clear hΦ; revert c; decide
  iintro HC0 HS
  iapply (op_waitA I K c 16 15 1 (chunk 1 c 3) ?_ (by rfl) (by rfl)) $$ HE HC1 HS
  · clear hΦ; revert c; decide
  iintro HC1 HS
  iapply (op_waitB I K c 16 15 1 (chunk 1 c 3) ?_ (by rfl) (by rfl)) $$ HE HC1 HS
  · clear hΦ; revert c; decide
  iintro HC1 HS
  iapply (run_join c)
  simp only [k0_part37_eq_skeleton, k0_part37_skel, k0_part38_eq_skeleton, k0_part38_skel, k0_part39_eq_skeleton, k0_part39_skel, k0_part40_eq_skeleton, k0_part40_skel, k0_part41_eq_skeleton, k0_part41_skel, semSignalWord, semWaitWord, Prog.lift, Prog.bind_op, Prog.bind_ret, Prog.pure_eq_ret]
  iapply (op_conv I c 0 0 (chunk 0 c 3) (by decide) rfl rfl rfl rfl rfl rfl rfl rfl rfl) $$ HC0 HKW
  iintro HC0 HKW
  iapply (op_conv I c 1 0 (chunk 1 c 3) (by decide) rfl rfl rfl rfl rfl rfl rfl rfl rfl) $$ HC1 HKW
  iintro HC1 HKW
  iapply (op_back I K c 16 15 0 2 (by decide) (by decide) (by decide) (by rfl) (cbS 0 1 0) fullShare (accB I 0 0 1 c) (by rfl) (by rfl) (by rfl) (by rfl) (by rfl)) $$ HE S02 HS
  iintro B010 HS
  ihave B010 : anyW c (cbS 0 1 0) $$ [B010]
  · iapply (any_of_owns c (cbS 0 1 0) (accB I 0 0 1 c)); iexact B010
  iapply (op_accum I K c 16 16 0 4 (by decide) (by decide) (by decide) (by rfl) (by decide) (rbS 0 0 0) (cbS 0 1 0) (accB I 0 0 2 (up 0 c)) (fin I 0 0 0 c) (by rfl) (by rfl) (by rfl) (by rfl) (by rfl) (by rfl) (by rfl)) $$ HE HS B010
  iintro R000 B010 HS
  iapply (op_back I K c 16 17 1 2 (by decide) (by decide) (by decide) (by rfl) (cbS 1 1 0) fullShare (accB I 1 0 1 c) (by rfl) (by rfl) (by rfl) (by rfl) (by rfl)) $$ HE S12 HS
  iintro B110 HS
  ihave B110 : anyW c (cbS 1 1 0) $$ [B110]
  · iapply (any_of_owns c (cbS 1 1 0) (accB I 1 0 1 c)); iexact B110
  iapply (op_accum I K c 16 18 1 4 (by decide) (by decide) (by decide) (by rfl) (by decide) (rbS 1 0 0) (cbS 1 1 0) (accB I 1 0 2 (up 1 c)) (fin I 1 0 0 c) (by rfl) (by rfl) (by rfl) (by rfl) (by rfl) (by rfl) (by rfl)) $$ HE HS B110
  iintro R100 B110 HS
  simp only [k0_part42_eq_skeleton, k0_part42_skel, k0_part43_eq_skeleton, k0_part43_skel, semSignalWord, semWaitWord, Prog.lift, Prog.bind_op, Prog.bind_ret, Prog.pure_eq_ret]
  iapply (op_conv I c 0 1 (chunk 0 c 3) (by decide) rfl rfl rfl rfl rfl rfl rfl rfl rfl) $$ HC0 HKW
  iintro HC0 HKW
  iapply (op_conv I c 1 1 (chunk 1 c 3) (by decide) rfl rfl rfl rfl rfl rfl rfl rfl rfl) $$ HC1 HKW
  iintro HC1 HKW
  iapply (op_back I K c 16 19 0 3 (by decide) (by decide) (by decide) (by rfl) (cbS 0 1 1) fullShare (accB I 0 1 1 c) (by rfl) (by rfl) (by rfl) (by rfl) (by rfl)) $$ HE S03 HS
  iintro B011 HS
  ihave B011 : anyW c (cbS 0 1 1) $$ [B011]
  · iapply (any_of_owns c (cbS 0 1 1) (accB I 0 1 1 c)); iexact B011
  simp only [k0_part44_eq_skeleton, k0_part44_skel, k0_part45_eq_skeleton, k0_part45_skel, semSignalWord, semWaitWord, Prog.lift, Prog.bind_op, Prog.bind_ret, Prog.pure_eq_ret]
  iapply (op_accum I K c 16 20 0 5 (by decide) (by decide) (by decide) (by rfl) (by decide) (rbS 0 0 1) (cbS 0 1 1) (accB I 0 1 2 (up 0 c)) (fin I 0 1 0 c) (by rfl) (by rfl) (by rfl) (by rfl) (by rfl) (by rfl) (by rfl)) $$ HE HS B011
  iintro R001 B011 HS
  iapply (op_back I K c 16 21 1 3 (by decide) (by decide) (by decide) (by rfl) (cbS 1 1 1) fullShare (accB I 1 1 1 c) (by rfl) (by rfl) (by rfl) (by rfl) (by rfl)) $$ HE S13 HS
  iintro B111 HS
  ihave B111 : anyW c (cbS 1 1 1) $$ [B111]
  · iapply (any_of_owns c (cbS 1 1 1) (accB I 1 1 1 c)); iexact B111
  iapply (op_accum I K c 16 22 1 5 (by decide) (by decide) (by decide) (by rfl) (by decide) (rbS 1 0 1) (cbS 1 1 1) (accB I 1 1 2 (up 1 c)) (fin I 1 1 0 c) (by rfl) (by rfl) (by rfl) (by rfl) (by rfl) (by rfl) (by rfl)) $$ HE HS B111
  iintro R101 B111 HS
  iapply (op_back I K c 16 23 0 4 (by decide) (by decide) (by decide) (by rfl) (cbS 0 0 0) fullShare (accB I 0 0 2 c) (by rfl) (by rfl) (by rfl) (by rfl) (by rfl)) $$ HE S04 HS
  iintro B000 HS
  ihave B000 : anyW c (cbS 0 0 0) $$ [B000]
  · iapply (any_of_owns c (cbS 0 0 0) (accB I 0 0 2 c)); iexact B000
  iapply (run_from46 I K c hΦ _ _ _) $$ HE HS HC0 HC1 B000 S05 S14 S15 B010 B011 B110 B111 R000 R001 R010 R011 R100 R101 R110 R111 HKW T0 T1 OO0 OO1 LL0 LL1 Hk

end Cert.RingProof
-- ==== Proof.Walk2.lean ====
/-
# The third step of the reduce-scatter

Operation by operation, each by its lemma.
-/
module

public import proofs.«01_k».proof.Proof.Walk3

@[expose] public section

set_option maxRecDepth 16384

noncomputable section

namespace Cert.RingProof

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (I : Inp F) (K : Dev nD × Fin 52 → ℕ) (c : Dev nD)

/-- The rest of the second step, and the third. -/
theorem run_from21 {Φ} {Ψ : sProp 𝕄} (hΦ : ∀ a b x y z, Ψ ⊢ Φ ⟨c, a, b, x, y, z⟩) (v2 v13 v24 : BitVec 32) (hv2 : v2 = meW c) (v613 : FVec F S512x1024 .f32) (hv : v613 = part I c 1 (chunk 1 c 1) 1) :
    Env I K ⊢ iprop(St c 10 4
      -∗ CpReady I c 0 (chunk 0 c 1)
      -∗ CpReady I c 1 (chunk 1 c 1)
      -∗ anyW c (cbS 1 1 1)
      -∗ Sent c 0 0
      -∗ Sent c 1 0
      -∗ Sent c 0 1
      -∗ Sent c 1 1
      -∗ Sent c 0 2
      -∗ Sent c 1 2
      -∗ Sent c 0 3
      -∗ ownsTc c (rbS 1 0 0) fullShare (accB I 1 0 0 (up 1 c))
      -∗ anyW (dwn 1 c) (dstS 1 3)
      -∗ KW I c
      -∗ StIdle c 0
      -∗ StIdle c 1
      -∗ Outs c 0
      -∗ Outs c 1
      -∗ L6 (dwn 0 c) 0
      -∗ L6 (dwn 1 c) 1
      -∗ (Tail I c -∗ Ψ) -∗ Run c (from21 c v2 v13 v24 v613) Φ) := by
  subst hv2; subst hv
  iintro #HE HS HC0 HC1 B111 S00 S10 S01 S11 S02 S12 S03 R100 D13 HKW T0 T1 OO0 OO1 LL0 LL1 Hk
  unfold from21
  simp only [k0_part21_eq_skeleton, k0_part21_skel, semSignalWord, semWaitWord, Prog.lift, Prog.bind_op, Prog.bind_ret, Prog.pure_eq_ret]
  iapply (op_accum I K c 10 4 1 1 (by decide) (by decide) (by decide) (by rfl) (by decide) (rbS 1 0 1) (cbS 1 1 1) (accB I 1 1 0 (up 1 c)) (accB I 1 1 1 c) (by rfl) (by rfl) (by rfl) (by rfl) (by rfl) (by rfl) (by rfl)) $$ HE HS B111
  iintro R101 B111 HS
  iapply (op_signal I K c 10 5 1 (credS 1) (by decide) (by decide) rfl rfl rfl _ ?_ rfl rfl) $$ HE [R100 R101] HS
  · clear hΦ; revert c; decide
  · iapply (cred_give1 I c (accB I 1 0 0 (up 1 c)) (accB I 1 1 0 (up 1 c)))
    isplitl [R100]; · iexact R100
    iexact R101
  iintro HS
  iapply (op_go I K c 11 5 1 3 (by decide) (by decide) (by rfl) (cbS 1 1 1) fullShare (accB I 1 1 1 c) (by rfl) (by rfl) (by rfl) (by rfl) (by rfl) ?_ (by rfl) (by rfl)) $$ HE B111 D13 HS
  · clear hΦ; revert c; decide
  iintro S13 HS
  ihave HC0 : CpIdle I c 0 $$ [HC0]
  · iapply (idle_of_ready I c 0 (chunk 0 c 1)); iexact HC0
  ihave HC1 : CpIdle I c 1 $$ [HC1]
  · iapply (idle_of_ready I c 1 (chunk 1 c 1)); iexact HC1
  iapply (run_bind c)
  simp only [k0_part22_eq_skeleton, k0_part22_skel, semSignalWord, semWaitWord, Prog.lift, Prog.bind_op, Prog.bind_ret, Prog.pure_eq_ret]
  iapply (op_startA I c 0 (chunk 0 c 2) (by decide) (chunk_lt 0 c 2) ?_ ?_ (by rfl) (by rfl)) $$ HC0
  · clear hΦ; revert c; decide
  · clear hΦ; revert c; decide
  iintro HC0
  iapply (op_startB I c 0 (chunk 0 c 2) (by decide) (chunk_lt 0 c 2) ?_ (by rfl) (by rfl) (by rfl) (by rfl) (by rfl)) $$ HC0
  · clear hΦ; revert c; decide
  iintro HC0
  iapply (op_startA I c 1 (chunk 1 c 2) (by decide) (chunk_lt 1 c 2) ?_ ?_ (by rfl) (by rfl)) $$ HC1
  · clear hΦ; revert c; decide
  · clear hΦ; revert c; decide
  iintro HC1
  iapply (run_ret c)
  iapply (run_bind c)
  simp only [k0_part23_eq_skeleton, k0_part23_skel, semSignalWord, semWaitWord, Prog.lift, Prog.bind_op, Prog.bind_ret, Prog.pure_eq_ret]
  iapply (op_startB I c 1 (chunk 1 c 2) (by decide) (chunk_lt 1 c 2) ?_ (by rfl) (by rfl) (by rfl) (by rfl) (by rfl)) $$ HC1
  · clear hΦ; revert c; decide
  iintro HC1
  iapply (op_waitA I K c 12 5 0 (chunk 0 c 2) ?_ (by rfl) (by rfl)) $$ HE HC0 HS
  · clear hΦ; revert c; decide
  iintro HC0 HS
  iapply (op_waitB I K c 12 5 0 (chunk 0 c 2) ?_ (by rfl) (by rfl)) $$ HE HC0 HS
  · clear hΦ; revert c; decide
  iintro HC0 HS
  iapply (run_ret c)
  iapply (run_bind c)
  simp only [k0_part24_eq_skeleton, k0_part24_skel, semSignalWord, semWaitWord, Prog.lift, Prog.bind_op, Prog.bind_ret, Prog.pure_eq_ret]
  iapply (op_waitA I K c 12 5 1 (chunk 1 c 2) ?_ (by rfl) (by rfl)) $$ HE HC1 HS
  · clear hΦ; revert c; decide
  iintro HC1 HS
  iapply (op_waitB I K c 12 5 1 (chunk 1 c 2) ?_ (by rfl) (by rfl)) $$ HE HC1 HS
  · clear hΦ; revert c; decide
  iintro HC1 HS
  iapply (run_join c)
  simp only [k0_part25_eq_skeleton, k0_part25_skel, k0_part26_eq_skeleton, k0_part26_skel, semSignalWord, semWaitWord, Prog.lift, Prog.bind_op, Prog.bind_ret, Prog.pure_eq_ret]
  iapply (op_conv I c 0 0 (chunk 0 c 2) (by decide) rfl rfl rfl rfl rfl rfl rfl rfl rfl) $$ HC0 HKW
  iintro HC0 HKW
  iapply (op_conv I c 1 0 (chunk 1 c 2) (by decide) rfl rfl rfl rfl rfl rfl rfl rfl rfl) $$ HC1 HKW
  iintro HC1 HKW
  iapply (op_back I K c 12 5 0 0 (by decide) (by decide) (by decide) (by rfl) (cbS 0 0 0) fullShare (accB I 0 0 0 c) (by rfl) (by rfl) (by rfl) (by rfl) (by rfl)) $$ HE S00 HS
  iintro B000 HS
  ihave B000 : anyW c (cbS 0 0 0) $$ [B000]
  · iapply (any_of_owns c (cbS 0 0 0) (accB I 0 0 0 c)); iexact B000
  simp only [k0_part27_eq_skeleton, k0_part27_skel, semSignalWord, semWaitWord, Prog.lift, Prog.bind_op, Prog.bind_ret, Prog.pure_eq_ret]
  iapply (op_accum I K c 12 6 0 2 (by decide) (by decide) (by decide) (by rfl) (by decide) (rbS 0 1 0) (cbS 0 0 0) (accB I 0 0 1 (up 0 c)) (accB I 0 0 2 c) (by rfl) (by rfl) (by rfl) (by rfl) (by rfl) (by rfl) (by rfl)) $$ HE HS B000
  iintro R010 B000 HS
  iapply (op_wait_reg I K c 12 7 (credS 0) _ (by decide) (by rfl) (by decide) (by rfl) (cred_pay I c 0 (by decide)) (by rfl) (by rfl)) $$ HE HS
  iintro ⟨D04, D05⟩ HS
  iapply (op_go I K c 12 8 0 4 (by decide) (by decide) (by rfl) (cbS 0 0 0) fullShare (accB I 0 0 2 c) (by rfl) (by rfl) (by rfl) (by rfl) (by rfl) ?_ (by rfl) (by rfl)) $$ HE B000 D04 HS
  · clear hΦ; revert c; decide
  iintro S04 HS
  simp only [k0_part28_eq_skeleton, k0_part28_skel, semSignalWord, semWaitWord, Prog.lift, Prog.bind_op, Prog.bind_ret, Prog.pure_eq_ret]
  iapply (op_back I K c 13 8 1 0 (by decide) (by decide) (by decide) (by rfl) (cbS 1 0 0) fullShare (accB I 1 0 0 c) (by rfl) (by rfl) (by rfl) (by rfl) (by rfl)) $$ HE S10 HS
  iintro B100 HS
  ihave B100 : anyW c (cbS 1 0 0) $$ [B100]
  · iapply (any_of_owns c (cbS 1 0 0) (accB I 1 0 0 c)); iexact B100
  iapply (op_accum I K c 13 9 1 2 (by decide) (by decide) (by decide) (by rfl) (by decide) (rbS 1 1 0) (cbS 1 0 0) (accB I 1 0 1 (up 1 c)) (accB I 1 0 2 c) (by rfl) (by rfl) (by rfl) (by rfl) (by rfl) (by rfl) (by rfl)) $$ HE HS B100
  iintro R110 B100 HS
  simp only [k0_part29_eq_skeleton, k0_part29_skel, k0_part30_eq_skeleton, k0_part30_skel, k0_part31_eq_skeleton, k0_part31_skel, semSignalWord, semWaitWord, Prog.lift, Prog.bind_op, Prog.bind_ret, Prog.pure_eq_ret]
  iapply (op_wait_reg I K c 13 10 (credS 1) _ (by decide) (by rfl) (by decide) (by rfl) (cred_pay I c 1 (by decide)) (by rfl) (by rfl)) $$ HE HS
  iintro ⟨D14, D15⟩ HS
  iapply (op_go I K c 13 11 1 4 (by decide) (by decide) (by rfl) (cbS 1 0 0) fullShare (accB I 1 0 2 c) (by rfl) (by rfl) (by rfl) (by rfl) (by rfl) ?_ (by rfl) (by rfl)) $$ HE B100 D14 HS
  · clear hΦ; revert c; decide
  iintro S14 HS
  iapply (op_conv I c 0 1 (chunk 0 c 2) (by decide) rfl rfl rfl rfl rfl rfl rfl rfl rfl) $$ HC0 HKW
  iintro HC0 HKW
  iapply (op_conv I c 1 1 (chunk 1 c 2) (by decide) rfl rfl rfl rfl rfl rfl rfl rfl rfl) $$ HC1 HKW
  iintro HC1 HKW
  simp only [k0_part32_eq_skeleton, k0_part32_skel, semSignalWord, semWaitWord, Prog.lift, Prog.bind_op, Prog.bind_ret, Prog.pure_eq_ret]
  iapply (op_back I K c 14 11 0 1 (by decide) (by decide) (by decide) (by rfl) (cbS 0 0 1) fullShare (accB I 0 1 0 c) (by rfl) (by rfl) (by rfl) (by rfl) (by rfl)) $$ HE S01 HS
  iintro B001 HS
  ihave B001 : anyW c (cbS 0 0 1) $$ [B001]
  · iapply (any_of_owns c (cbS 0 0 1) (accB I 0 1 0 c)); iexact B001
  iapply (op_accum I K c 14 12 0 3 (by decide) (by decide) (by decide) (by rfl) (by decide) (rbS 0 1 1) (cbS 0 0 1) (accB I 0 1 1 (up 0 c)) (accB I 0 1 2 c) (by rfl) (by rfl) (by rfl) (by rfl) (by rfl) (by rfl) (by rfl)) $$ HE HS B001
  iintro R011 B001 HS
  iapply (run_from33 I K c hΦ _ _ _ rfl _ _ rfl) $$ HE HS HC0 HC1 B001 S11 S02 S12 S03 S13 S04 S14 R010 R011 R110 D05 D15 HKW T0 T1 OO0 OO1 LL0 LL1 Hk

end Cert.RingProof
-- ==== Proof.Walk1.lean ====
/-
# The second step of the reduce-scatter

Operation by operation, each by its lemma.
-/
module

public import proofs.«01_k».proof.Proof.Walk2

@[expose] public section

set_option maxRecDepth 16384

noncomputable section

namespace Cert.RingProof

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (I : Inp F) (K : Dev nD × Fin 52 → ℕ) (c : Dev nD)

/-- The last transfer of the first step, and the second step. -/
theorem run_from10 {Φ} {Ψ : sProp 𝕄} (hΦ : ∀ a b x y z, Ψ ⊢ Φ ⟨c, a, b, x, y, z⟩) (v2 v13 v24 : BitVec 32) (hv2 : v2 = meW c) (v301 : FVec F S1x1x512x1024 .bf16) (hv : v301 = accB I 1 1 0 c) :
    Env I K ⊢ iprop(St c 5 1
      -∗ CpReady I c 0 (chunk 0 c 0)
      -∗ CpReady I c 1 (chunk 1 c 0)
      -∗ anyW c (cbS 1 0 1)
      -∗ anyW c (cbS 0 1 0)
      -∗ anyW c (cbS 0 1 1)
      -∗ anyW c (cbS 1 1 0)
      -∗ anyW c (cbS 1 1 1)
      -∗ Sent c 0 0
      -∗ Sent c 1 0
      -∗ Sent c 0 1
      -∗ anyW (dwn 1 c) (dstS 1 1)
      -∗ anyW (dwn 0 c) (dstS 0 2)
      -∗ anyW (dwn 1 c) (dstS 1 2)
      -∗ anyW (dwn 0 c) (dstS 0 3)
      -∗ anyW (dwn 1 c) (dstS 1 3)
      -∗ KW I c
      -∗ StIdle c 0
      -∗ StIdle c 1
      -∗ Outs c 0
      -∗ Outs c 1
      -∗ L6 (dwn 0 c) 0
      -∗ L6 (dwn 1 c) 1
      -∗ (Tail I c -∗ Ψ) -∗ Run c (from10 c v2 v13 v24 v301) Φ) := by
  subst hv2; subst hv
  iintro #HE HS HC0 HC1 B101 B010 B011 B110 B111 S00 S10 S01 D11 D02 D12 D03 D13 HKW T0 T1 OO0 OO1 LL0 LL1 Hk
  unfold from10
  simp only [k0_part10_eq_skeleton, k0_part10_skel, semSignalWord, semWaitWord, Prog.lift, Prog.bind_op, Prog.bind_ret, Prog.pure_eq_ret]
  iapply (op_store_c c (cbS 1 0 1) (accB I 1 1 0 c) (by rfl) (by rfl)) $$ B101
  iintro B101
  iapply (op_go I K c 5 1 1 1 (by decide) (by decide) (by rfl) (cbS 1 0 1) fullShare (accB I 1 1 0 c) (by rfl) (by rfl) (by rfl) (by rfl) (by rfl) ?_ (by rfl) (by rfl)) $$ HE B101 D11 HS
  · clear hΦ; revert c; decide
  iintro S11 HS
  ihave HC0 : CpIdle I c 0 $$ [HC0]
  · iapply (idle_of_ready I c 0 (chunk 0 c 0)); iexact HC0
  ihave HC1 : CpIdle I c 1 $$ [HC1]
  · iapply (idle_of_ready I c 1 (chunk 1 c 0)); iexact HC1
  iapply (run_bind c)
  simp only [k0_part11_eq_skeleton, k0_part11_skel, semSignalWord, semWaitWord, Prog.lift, Prog.bind_op, Prog.bind_ret, Prog.pure_eq_ret]
  iapply (op_startA I c 0 (chunk 0 c 1) (by decide) (chunk_lt 0 c 1) ?_ ?_ (by rfl) (by rfl)) $$ HC0
  · clear hΦ; revert c; decide
  · clear hΦ; revert c; decide
  iintro HC0
  iapply (op_startB I c 0 (chunk 0 c 1) (by decide) (chunk_lt 0 c 1) ?_ (by rfl) (by rfl) (by rfl) (by rfl) (by rfl)) $$ HC0
  · clear hΦ; revert c; decide
  iintro HC0
  iapply (op_startA I c 1 (chunk 1 c 1) (by decide) (chunk_lt 1 c 1) ?_ ?_ (by rfl) (by rfl)) $$ HC1
  · clear hΦ; revert c; decide
  · clear hΦ; revert c; decide
  iintro HC1
  iapply (op_startB I c 1 (chunk 1 c 1) (by decide) (chunk_lt 1 c 1) ?_ (by rfl) (by rfl) (by rfl) (by rfl) (by rfl)) $$ HC1
  · clear hΦ; revert c; decide
  iintro HC1
  iapply (run_ret c)
  iapply (run_bind c)
  simp only [k0_part12_eq_skeleton, k0_part12_skel, semSignalWord, semWaitWord, Prog.lift, Prog.bind_op, Prog.bind_ret, Prog.pure_eq_ret]
  iapply (op_waitA I K c 6 1 0 (chunk 0 c 1) ?_ (by rfl) (by rfl)) $$ HE HC0 HS
  · clear hΦ; revert c; decide
  iintro HC0 HS
  iapply (op_waitB I K c 6 1 0 (chunk 0 c 1) ?_ (by rfl) (by rfl)) $$ HE HC0 HS
  · clear hΦ; revert c; decide
  iintro HC0 HS
  iapply (op_waitA I K c 6 1 1 (chunk 1 c 1) ?_ (by rfl) (by rfl)) $$ HE HC1 HS
  · clear hΦ; revert c; decide
  iintro HC1 HS
  iapply (op_waitB I K c 6 1 1 (chunk 1 c 1) ?_ (by rfl) (by rfl)) $$ HE HC1 HS
  · clear hΦ; revert c; decide
  iintro HC1 HS
  iapply (run_join c)
  simp only [k0_part13_eq_skeleton, k0_part13_skel, k0_part14_eq_skeleton, k0_part14_skel, k0_part15_eq_skeleton, k0_part15_skel, semSignalWord, semWaitWord, Prog.lift, Prog.bind_op, Prog.bind_ret, Prog.pure_eq_ret]
  iapply (op_conv I c 0 0 (chunk 0 c 1) (by decide) rfl rfl rfl rfl rfl rfl rfl rfl rfl) $$ HC0 HKW
  iintro HC0 HKW
  iapply (op_conv I c 1 0 (chunk 1 c 1) (by decide) rfl rfl rfl rfl rfl rfl rfl rfl rfl) $$ HC1 HKW
  iintro HC1 HKW
  iapply (op_accum I K c 6 1 0 0 (by decide) (by decide) (by decide) (by rfl) (by decide) (rbS 0 0 0) (cbS 0 1 0) (accB I 0 0 0 (up 0 c)) (accB I 0 0 1 c) (by rfl) (by rfl) (by rfl) (by rfl) (by rfl) (by rfl) (by rfl)) $$ HE HS B010
  iintro R000 B010 HS
  simp only [k0_part16_eq_skeleton, k0_part16_skel, semSignalWord, semWaitWord, Prog.lift, Prog.bind_op, Prog.bind_ret, Prog.pure_eq_ret]
  iapply (op_go I K c 6 2 0 2 (by decide) (by decide) (by rfl) (cbS 0 1 0) fullShare (accB I 0 0 1 c) (by rfl) (by rfl) (by rfl) (by rfl) (by rfl) ?_ (by rfl) (by rfl)) $$ HE B010 D02 HS
  · clear hΦ; revert c; decide
  iintro S02 HS
  iapply (op_accum I K c 7 2 1 0 (by decide) (by decide) (by decide) (by rfl) (by decide) (rbS 1 0 0) (cbS 1 1 0) (accB I 1 0 0 (up 1 c)) (accB I 1 0 1 c) (by rfl) (by rfl) (by rfl) (by rfl) (by rfl) (by rfl) (by rfl)) $$ HE HS B110
  iintro R100 B110 HS
  simp only [k0_part17_eq_skeleton, k0_part17_skel, k0_part18_eq_skeleton, k0_part18_skel, k0_part19_eq_skeleton, k0_part19_skel, k0_part20_eq_skeleton, k0_part20_skel, semSignalWord, semWaitWord, Prog.lift, Prog.bind_op, Prog.bind_ret, Prog.pure_eq_ret]
  iapply (op_go I K c 7 3 1 2 (by decide) (by decide) (by rfl) (cbS 1 1 0) fullShare (accB I 1 0 1 c) (by rfl) (by rfl) (by rfl) (by rfl) (by rfl) ?_ (by rfl) (by rfl)) $$ HE B110 D12 HS
  · clear hΦ; revert c; decide
  iintro S12 HS
  iapply (op_conv I c 0 1 (chunk 0 c 1) (by decide) rfl rfl rfl rfl rfl rfl rfl rfl rfl) $$ HC0 HKW
  iintro HC0 HKW
  iapply (op_conv I c 1 1 (chunk 1 c 1) (by decide) rfl rfl rfl rfl rfl rfl rfl rfl rfl) $$ HC1 HKW
  iintro HC1 HKW
  iapply (op_accum I K c 8 3 0 1 (by decide) (by decide) (by decide) (by rfl) (by decide) (rbS 0 0 1) (cbS 0 1 1) (accB I 0 1 0 (up 0 c)) (accB I 0 1 1 c) (by rfl) (by rfl) (by rfl) (by rfl) (by rfl) (by rfl) (by rfl)) $$ HE HS B011
  iintro R001 B011 HS
  iapply (op_signal I K c 8 4 0 (credS 0) (by decide) (by decide) rfl rfl rfl _ ?_ rfl rfl) $$ HE [R000 R001] HS
  · clear hΦ; revert c; decide
  · iapply (cred_give0 I c (accB I 0 0 0 (up 0 c)) (accB I 0 1 0 (up 0 c)))
    isplitl [R000]; · iexact R000
    iexact R001
  iintro HS
  iapply (op_go I K c 9 4 0 3 (by decide) (by decide) (by rfl) (cbS 0 1 1) fullShare (accB I 0 1 1 c) (by rfl) (by rfl) (by rfl) (by rfl) (by rfl) ?_ (by rfl) (by rfl)) $$ HE B011 D03 HS
  · clear hΦ; revert c; decide
  iintro S03 HS
  iapply (run_from21 I K c hΦ _ _ _ rfl _ rfl) $$ HE HS HC0 HC1 B111 S00 S10 S01 S11 S02 S12 S03 R100 D13 HKW T0 T1 OO0 OO1 LL0 LL1 Hk

end Cert.RingProof
-- ==== Proof.Walk0.lean ====
/-
# The barrier and the first step

Operation by operation, each by its lemma.
-/
module

public import proofs.«01_k».proof.Proof.Walk1

@[expose] public section

set_option maxRecDepth 16384

noncomputable section

namespace Cert.RingProof

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (I : Inp F) (K : Dev nD × Fin 52 → ℕ) (c : Dev nD)

/-- The barrier and the first step. -/
theorem run_from1 {Φ} {Ψ : sProp 𝕄} (hΦ : ∀ a b x y z, Ψ ⊢ Φ ⟨c, a, b, x, y, z⟩) :
    Env I K ⊢ iprop(St c 0 0
      -∗ landAll c 0
      -∗ landAll c 1
      -∗ CpIdle I c 0
      -∗ CpIdle I c 1
      -∗ anyW c (cbS 0 0 0)
      -∗ anyW c (cbS 0 0 1)
      -∗ anyW c (cbS 0 1 0)
      -∗ anyW c (cbS 0 1 1)
      -∗ anyW c (cbS 1 0 0)
      -∗ anyW c (cbS 1 0 1)
      -∗ anyW c (cbS 1 1 0)
      -∗ anyW c (cbS 1 1 1)
      -∗ KW I c
      -∗ StIdle c 0
      -∗ StIdle c 1
      -∗ Outs c 0
      -∗ Outs c 1
      -∗ (Tail I c -∗ Ψ) -∗ Run c from1 Φ) := by
  iintro #HE HS HL0 HL1 HC0 HC1 B000 B001 B010 B011 B100 B101 B110 B111 HKW T0 T1 OO0 OO1 Hk
  unfold from1
  simp only [k0_part1_eq_skeleton, k0_part1_skel, semSignalWord, semWaitWord, Prog.lift, Prog.bind_op, Prog.bind_ret, Prog.pure_eq_ret, wp_deviceId]
  iapply (op_signal I K c 0 0 2 barS (by decide) (by decide) rfl rfl rfl _ ?_ rfl rfl) $$ HE [HL0] HS
  · clear hΦ; revert c; decide
  · iapply (bar_give0 I c); iexact HL0
  iintro HS
  iapply (op_signal I K c 1 0 2 barS (by decide) (by decide) rfl rfl rfl _ ?_ rfl rfl) $$ HE [HL1] HS
  · clear hΦ; revert c; decide
  · iapply (bar_give1 I c); iexact HL1
  iintro HS
  iapply (op_wait_reg I K c 2 0 barS _ (by decide) rfl (by decide) rfl (bar_pay I c) rfl rfl) $$ HE HS
  iintro ⟨HD0, HD1⟩ HS
  unfold landAll
  icases HD0 with ⟨D00, D01, D02, D03, LL0⟩
  icases HD1 with ⟨D10, D11, D12, D13, LL1⟩
  iapply (run_bind c)
  simp only [k0_part2_eq_skeleton, k0_part2_skel, semSignalWord, semWaitWord, Prog.lift, Prog.bind_op, Prog.bind_ret, Prog.pure_eq_ret]
  iapply (op_startA I c 0 (chunk 0 c 0) (by decide) (chunk_lt 0 c 0) ?_ ?_ (by rfl) (by rfl)) $$ HC0
  · clear hΦ; revert c; decide
  · clear hΦ; revert c; decide
  iintro HC0
  iapply (op_startB I c 0 (chunk 0 c 0) (by decide) (chunk_lt 0 c 0) ?_ (by rfl) (by rfl) (by rfl) (by rfl) (by rfl)) $$ HC0
  · clear hΦ; revert c; decide
  iintro HC0
  iapply (op_startA I c 1 (chunk 1 c 0) (by decide) (chunk_lt 1 c 0) ?_ ?_ (by rfl) (by rfl)) $$ HC1
  · clear hΦ; revert c; decide
  · clear hΦ; revert c; decide
  iintro HC1
  iapply (run_ret c)
  iapply (run_bind c)
  simp only [k0_part3_eq_skeleton, k0_part3_skel, semSignalWord, semWaitWord, Prog.lift, Prog.bind_op, Prog.bind_ret, Prog.pure_eq_ret]
  iapply (op_startB I c 1 (chunk 1 c 0) (by decide) (chunk_lt 1 c 0) ?_ (by rfl) (by rfl) (by rfl) (by rfl) (by rfl)) $$ HC1
  · clear hΦ; revert c; decide
  iintro HC1
  iapply (op_waitA I K c 2 1 0 (chunk 0 c 0) ?_ (by rfl) (by rfl)) $$ HE HC0 HS
  · clear hΦ; revert c; decide
  iintro HC0 HS
  iapply (op_waitB I K c 2 1 0 (chunk 0 c 0) ?_ (by rfl) (by rfl)) $$ HE HC0 HS
  · clear hΦ; revert c; decide
  iintro HC0 HS
  iapply (op_waitA I K c 2 1 1 (chunk 1 c 0) ?_ (by rfl) (by rfl)) $$ HE HC1 HS
  · clear hΦ; revert c; decide
  iintro HC1 HS
  iapply (op_waitB I K c 2 1 1 (chunk 1 c 0) ?_ (by rfl) (by rfl)) $$ HE HC1 HS
  · clear hΦ; revert c; decide
  iintro HC1 HS
  iapply (run_join c)
  simp only [k0_part4_eq_skeleton, k0_part4_skel, k0_part5_eq_skeleton, k0_part5_skel, semSignalWord, semWaitWord, Prog.lift, Prog.bind_op, Prog.bind_ret, Prog.pure_eq_ret]
  iapply (op_conv I c 0 0 (chunk 0 c 0) (by decide) rfl rfl rfl rfl rfl rfl rfl rfl rfl) $$ HC0 HKW
  iintro HC0 HKW
  iapply (op_conv I c 1 0 (chunk 1 c 0) (by decide) rfl rfl rfl rfl rfl rfl rfl rfl rfl) $$ HC1 HKW
  iintro HC1 HKW
  iapply (op_put c (cbS 0 0 0) (accB I 0 0 0 c) (by rfl) (by rfl)) $$ B000
  iintro B000
  simp only [k0_part6_eq_skeleton, k0_part6_skel, semSignalWord, semWaitWord, Prog.lift, Prog.bind_op, Prog.bind_ret, Prog.pure_eq_ret]
  iapply (op_go I K c 2 1 0 0 (by decide) (by decide) (by rfl) (cbS 0 0 0) fullShare (accB I 0 0 0 c) (by rfl) (by rfl) (by rfl) (by rfl) (by rfl) ?_ (by rfl) (by rfl)) $$ HE B000 D00 HS
  · clear hΦ; revert c; decide
  iintro S00 HS
  iapply (op_put c (cbS 1 0 0) (accB I 1 0 0 c) (by rfl) (by rfl)) $$ B100
  iintro B100
  iapply (op_go I K c 3 1 1 0 (by decide) (by decide) (by rfl) (cbS 1 0 0) fullShare (accB I 1 0 0 c) (by rfl) (by rfl) (by rfl) (by rfl) (by rfl) ?_ (by rfl) (by rfl)) $$ HE B100 D10 HS
  · clear hΦ; revert c; decide
  iintro S10 HS
  simp only [k0_part7_eq_skeleton, k0_part7_skel, k0_part8_eq_skeleton, k0_part8_skel, k0_part9_eq_skeleton, k0_part9_skel, semSignalWord, semWaitWord, Prog.lift, Prog.bind_op, Prog.bind_ret, Prog.pure_eq_ret]
  iapply (op_conv I c 0 1 (chunk 0 c 0) (by decide) rfl rfl rfl rfl rfl rfl rfl rfl rfl) $$ HC0 HKW
  iintro HC0 HKW
  iapply (op_conv I c 1 1 (chunk 1 c 0) (by decide) rfl rfl rfl rfl rfl rfl rfl rfl rfl) $$ HC1 HKW
  iintro HC1 HKW
  iapply (op_put c (cbS 0 0 1) (accB I 0 1 0 c) (by rfl) (by rfl)) $$ B001
  iintro B001
  iapply (op_go I K c 4 1 0 1 (by decide) (by decide) (by rfl) (cbS 0 0 1) fullShare (accB I 0 1 0 c) (by rfl) (by rfl) (by rfl) (by rfl) (by rfl) ?_ (by rfl) (by rfl)) $$ HE B001 D01 HS
  · clear hΦ; revert c; decide
  iintro S01 HS
  iapply (op_load_any c (cbS 1 0 1) (by rfl)) $$ B101
  iintro B101
  ihave LL0 : L6 (dwn 0 c) 0 $$ [LL0]
  · unfold L6; iexact LL0
  ihave LL1 : L6 (dwn 1 c) 1 $$ [LL1]
  · unfold L6; iexact LL1
  iapply (run_from10 I K c hΦ _ _ _ rfl _ rfl) $$ HE HS HC0 HC1 B101 B010 B011 B110 B111 S00 S10 S01 D11 D02 D12 D03 D13 HKW T0 T1 OO0 OO1 LL0 LL1 Hk

end Cert.RingProof
-- ==== Proof.Body.lean ====
/-
# The kernel's body

The last arrivals, the transfers' returns and the exit rendezvous, then the body as a whole.
-/
module

public import proofs.«01_k».proof.Proof.Walk0

@[expose] public section

set_option maxRecDepth 16384

noncomputable section

namespace Cert.RingProof

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (I : Inp F) (K : Dev nD × Fin 52 → ℕ) (c : Dev nD)

/-- What the device holds when the body returns. -/
def Final : sProp 𝕄 :=
  iprop(St c 30 52
    ∗ CpIdle I c 0
    ∗ CpIdle I c 1
    ∗ KW I c
    ∗ anyW c (cbS 0 0 0)
    ∗ anyW c (cbS 0 0 1)
    ∗ anyW c (cbS 0 1 0)
    ∗ anyW c (cbS 0 1 1)
    ∗ anyW c (cbS 1 0 0)
    ∗ anyW c (cbS 1 0 1)
    ∗ anyW c (cbS 1 1 0)
    ∗ anyW c (cbS 1 1 1)
    ∗ anyW c (rbS 0 0 0)
    ∗ anyW c (rbS 0 0 1)
    ∗ anyW c (rbS 0 1 0)
    ∗ anyW c (rbS 0 1 1)
    ∗ anyW c (rbS 1 0 0)
    ∗ anyW c (rbS 1 0 1)
    ∗ anyW c (rbS 1 1 0)
    ∗ anyW c (rbS 1 1 1)
    ∗ anyW c (abS 0 0 0)
    ∗ anyW c (abS 0 0 1)
    ∗ anyW c (abS 0 1 0)
    ∗ anyW c (abS 0 1 1)
    ∗ anyW c (abS 0 2 0)
    ∗ anyW c (abS 0 2 1)
    ∗ anyW c (abS 1 0 0)
    ∗ anyW c (abS 1 0 1)
    ∗ anyW c (abS 1 1 0)
    ∗ anyW c (abS 1 1 1)
    ∗ anyW c (abS 1 2 0)
    ∗ anyW c (abS 1 2 1)
    ∗ StIdle c 0
    ∗ StIdle c 1
    ∗ ownsTc c (outS 0 (gid 0 0 c)) fullShare (stg I 0 0 c)
    ∗ ownsTc c (outS 0 (gid 0 1 c)) fullShare (stg I 0 1 c)
    ∗ ownsTc c (outS 0 (gid 0 2 c)) fullShare (stg I 0 2 c)
    ∗ ownsTc c (outS 0 (gid 0 3 c)) fullShare (stg I 0 3 c)
    ∗ ownsTc c (outS 1 (gid 1 0 c)) fullShare (stg I 1 0 c)
    ∗ ownsTc c (outS 1 (gid 1 1 c)) fullShare (stg I 1 1 c)
    ∗ ownsTc c (outS 1 (gid 1 2 c)) fullShare (stg I 1 2 c)
    ∗ ownsTc c (outS 1 (gid 1 3 c)) fullShare (stg I 1 3 c))

theorem any_of_halves (W : WinM) (X Y : FVec F S1x1x512x1024 .bf16) :
    ownsTc c W fullShare.left X ⊢ (iprop(ownsTc c W fullShare.right Y -∗ anyW c W) : sProp 𝕄) := by
  iintro H1 H2
  iapply (any_of_owns c W X)
  iapply (half_join c W X Y)
  isplitl [H1]; · iexact H1
  iexact H2

theorem exit_pay : bigSep ((ringRd (F := F) I).duties (gc c exitL) 0 \ ∅) (fun d => (ringRd (F := F) I).payload (gc c exitL) 0 d)
    ⊢ iprop(emp ∗ emp) := by
  rw [rest_two I c exitL dut_exit, pay_exit, pay_exit]

theorem exit_give (n : ℕ) : iprop(emp) ⊢ payOf I (dto n c) exitL (db n) := by rw [pay_exit]

set_option maxRecDepth 65536 in
/-- The body from its sixty-first part on, as printed. -/
def tailP (d0 : Dev nD) (v13 v24 v1780 v1783 v1784 : BitVec 32) : Prog (TpuEff nD τ sig (Elt F) Λ₀ .tc) PUnit := do
  let v1791 : BitVec 32 ← k0_part61 (Memref.whole main_arg0) (Memref.isWhole_whole _) (Memref.whole cc0_stg0_0) (Memref.isWhole_whole _) (Memref.whole cc0_stg1_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scoped0 v13 v24 v1783 v1784
  k0_part62 (Memref.whole main_arg0) (Memref.isWhole_whole _) (Memref.whole cc0_stg0_0) (Memref.isWhole_whole _) (Memref.whole cc0_stg1_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scoped0 v13 v24
  k0_part63 (Memref.whole main_arg0) (Memref.isWhole_whole _) (Memref.whole cc0_stg0_0) (Memref.isWhole_whole _) (Memref.whole cc0_stg1_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scoped0 d0 v1780 v1791
  k0_part64 (Memref.whole main_arg0) (Memref.isWhole_whole _) (Memref.whole cc0_stg0_0) (Memref.isWhole_whole _) (Memref.whole cc0_stg1_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scoped0 d0
  k0_part65 (Memref.whole main_arg0) (Memref.isWhole_whole _) (Memref.whole cc0_stg0_0) (Memref.isWhole_whole _) (Memref.whole cc0_stg1_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scoped0
  k0_part66 (Memref.whole main_arg0) (Memref.isWhole_whole _) (Memref.whole cc0_stg0_0) (Memref.isWhole_whole _) (Memref.whole cc0_stg1_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scoped0
  k0_part67 (Memref.whole main_arg0) (Memref.isWhole_whole _) (Memref.whole cc0_stg0_0) (Memref.isWhole_whole _) (Memref.whole cc0_stg1_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scoped0
  let v1932 : Memref sig .tc .vmem S1x1x512x1024 .bf16 := (Memref.whole cc0_scratch3).slice (Rect.unit (s := S2x3x1024x1024) ![1, 2, 0, 0] S1x1x512x1024.size inb_S2x3x1024x1024_S1x1x512x1024_1_2_0_0) (fun _ => rfl)
  let v1933 : Memref sig .tc .vmem S512x1024 .bf16 := v1932.squeeze S512x1024 squeezes_S1x1x512x1024_S512x1024
  let v1928 : DmaSems sig S1x1 := cc0_scratch5.slice (Rect.unit (s := S2x12) ![1, 10] S1x1.size inb_S2x12_S1x1_1_10)
  let v1929 : DmaSems sig S_ := v1928.squeeze S_ squeezes_S1x1_S_
  let v1930 : Memref sig .tc .vmem S1x1x512x1024 .bf16 := (Memref.whole cc0_scratch3).slice (Rect.unit (s := S2x3x1024x1024) ![1, 1, 0, 0] S1x1x512x1024.size inb_S2x3x1024x1024_S1x1x512x1024_1_1_0_0) (fun _ => rfl)
  let v1931 : Memref sig .tc .vmem S512x1024 .bf16 := v1930.squeeze S512x1024 squeezes_S1x1x512x1024_S512x1024
  Prog.lift (.waitDma2 v1929.sem v1933 v1931 (((Memref.isWhole_whole _).wordExact_slice rfl _ wordsbf16_S2x3x1024x1024_S1x1x512x1024_1_2_0_0).reshape _ _) (((Memref.isWhole_whole _).wordExact_slice rfl _ wordsbf16_S2x3x1024x1024_S1x1x512x1024_1_1_0_0).reshape _ _))
  let v1934 : DmaSems sig S1x1 := cc0_scratch5.slice (Rect.unit (s := S2x12) ![1, 11] S1x1.size inb_S2x12_S1x1_1_11)
  let v1935 : DmaSems sig S_ := v1934.squeeze S_ squeezes_S1x1_S_
  let v1936 : Memref sig .tc .vmem S1x1x512x1024 .bf16 := (Memref.whole cc0_scratch3).slice (Rect.unit (s := S2x3x1024x1024) ![1, 1, 512, 0] S1x1x512x1024.size inb_S2x3x1024x1024_S1x1x512x1024_1_1_512_0) (fun _ => rfl)
  let v1937 : Memref sig .tc .vmem S512x1024 .bf16 := v1936.squeeze S512x1024 squeezes_S1x1x512x1024_S512x1024
  let v1938 : Memref sig .tc .vmem S1x1x512x1024 .bf16 := (Memref.whole cc0_scratch3).slice (Rect.unit (s := S2x3x1024x1024) ![1, 2, 512, 0] S1x1x512x1024.size inb_S2x3x1024x1024_S1x1x512x1024_1_2_512_0) (fun _ => rfl)
  let v1939 : Memref sig .tc .vmem S512x1024 .bf16 := v1938.squeeze S512x1024 squeezes_S1x1x512x1024_S512x1024
  Prog.lift (.waitDma2 v1935.sem v1939 v1937 (((Memref.isWhole_whole _).wordExact_slice rfl _ wordsbf16_S2x3x1024x1024_S1x1x512x1024_1_2_512_0).reshape _ _) (((Memref.isWhole_whole _).wordExact_slice rfl _ wordsbf16_S2x3x1024x1024_S1x1x512x1024_1_1_512_0).reshape _ _))
  let v1940 : DmaSems sig S1 := cc0_scratch8.slice (Rect.unit (s := S2) ![1] S1.size inb_S2_S1_1)
  let v1941 : DmaSems sig S_ := v1940.squeeze S_ squeezes_S1_S_
  let v1942 : Memref sig .tc .hbm S1x1024x1024 .f32 := (Memref.whole main_v1).slice (Rect.unit (s := S2x4096x1024) ![1, 0, 0] S1x1024x1024.size inb_S2x4096x1024_S1x1024x1024_1_0_0) (fun _ => rfl)
  let v1943 : Memref sig .tc .hbm S1024x1024 .f32 := v1942.squeeze S1024x1024 squeezes_S1x1024x1024_S1024x1024
  let v1944 : Memref sig .tc .vmem S1x1024x1024 .f32 := (Memref.whole cc0_scratch4).slice (Rect.unit (s := S2x1024x1024) ![1, 0, 0] S1x1024x1024.size inb_S2x1024x1024_S1x1024x1024_1_0_0) (fun _ => rfl)
  let v1945 : Memref sig .tc .vmem S1024x1024 .f32 := v1944.squeeze S1024x1024 squeezes_S1x1024x1024_S1024x1024
  Prog.lift (.waitDma2 v1941.sem v1945 v1943 ((View.wordExact_bits rfl).reshape _ _) ((View.wordExact_bits rfl).reshape _ _))
  semSignalWord (⟨k0_dev29 d0, k0_dev29_lt d0⟩ : Dev nD) cc0_scoped0.sem 1#32
  semSignalWord (⟨k0_dev30 d0, k0_dev30_lt d0⟩ : Dev nD) cc0_scoped0.sem 1#32
  semWaitWord cc0_scoped0.sem 2#32
  pure ⟨⟩

theorem run_tail {Q : PUnit → sProp 𝕄} (v13 v24 v1780 v1783 v1784 : BitVec 32) :
    iprop(Env I K ∗ Tail I c ∗ (Final I c -∗ Q ⟨⟩)) ⊢ Run c (tailP c v13 v24 v1780 v1783 v1784) Q := by
  unfold tailP
  unfold Tail OutAny
  iintro ⟨#HE, ⟨HS, HC0, HC1, HKW, B000, B001, B100, B101, R000, R001, R010, R011, R100, R101, R110, R111, S06, S07, S08, S09, S010, S011, S16, S17, S18, S19, S110, S111, B010R, B011R, B110R, B111R, A000R, A001R, A010R, A011R, A100R, A101R, A110R, A111R, T0, T1, O00, O01, O10, O11, O03, O13⟩, Hk⟩
  simp only [k0_part61_eq_skeleton, k0_part61_skel, k0_part62_eq_skeleton, k0_part62_skel, semSignalWord, semWaitWord, Prog.lift, Prog.bind_op, Prog.bind_ret, Prog.pure_eq_ret]
  iapply (op_recv I K c 28 35 0 10 (by decide) (by decide) (by decide) (by rfl) (by decide) (abS 0 2 0) (fin I 0 0 3 c) (by rfl) (by rfl) (by rfl) (by rfl)) $$ HE HS
  iintro A020L A020R HS
  iapply (op_recv I K c 28 36 1 10 (by decide) (by decide) (by decide) (by rfl) (by decide) (abS 1 2 0) (fin I 1 0 3 c) (by rfl) (by rfl) (by rfl) (by rfl)) $$ HE HS
  iintro A120L A120R HS
  iapply (op_recv I K c 28 37 0 11 (by decide) (by decide) (by decide) (by rfl) (by decide) (abS 0 2 1) (fin I 0 1 3 c) (by rfl) (by rfl) (by rfl) (by rfl)) $$ HE HS
  iintro A021L A021R HS
  iapply (op_recv I K c 28 38 1 11 (by decide) (by decide) (by decide) (by rfl) (by decide) (abS 1 2 1) (fin I 1 1 3 c) (by rfl) (by rfl) (by rfl) (by rfl)) $$ HE HS
  iintro A121L A121R HS
  iapply (op_out_wait I K c 28 39 0 (gid 0 2 c) (stg I 0 2 c) (by rfl) (by rfl)) $$ HE T0 HS
  iintro O02 T0 HS
  simp only [k0_part63_eq_skeleton, k0_part63_skel, semSignalWord, semWaitWord, Prog.lift, Prog.bind_op, Prog.bind_ret, Prog.pure_eq_ret]
  iapply (op_load_fin_a c 0 2 fullShare.right (fin I 0 0 3 c) (fin I 0 1 3 c) (by rfl)) $$ [A020R A021R]
  · isplitl [A020R]; · iexact A020R
    iexact A021R
  iintro A020R A021R
  iapply (op_stage c 0 (stg I 0 3 c) (by rfl) (by rfl)) $$ T0
  iintro T0 V0
  iapply (op_out c 0 (gid 0 3 c) (stg I 0 3 c) (by rfl) ?_ (by rfl)) $$ [T0 O03 V0]
  · clear Q; revert c; decide
  · isplitl [T0]; · iexact T0
    isplitl [O03]; · iexact O03
    iexact V0
  iintro T0
  iapply (op_out_wait I K c 28 39 1 (gid 1 2 c) (stg I 1 2 c) (by rfl) (by rfl)) $$ HE T1 HS
  iintro O12 T1 HS
  iapply (op_load_fin_a c 1 2 fullShare.right (fin I 1 0 3 c) (fin I 1 1 3 c) (by rfl)) $$ [A120R A121R]
  · isplitl [A120R]; · iexact A120R
    iexact A121R
  iintro A120R A121R
  iapply (op_stage c 1 (stg I 1 3 c) (by rfl) (by rfl)) $$ T1
  iintro T1 V1
  simp only [k0_part64_eq_skeleton, k0_part64_skel, semSignalWord, semWaitWord, Prog.lift, Prog.bind_op, Prog.bind_ret, Prog.pure_eq_ret]
  iapply (op_out c 1 (gid 1 3 c) (stg I 1 3 c) (by rfl) ?_ (by rfl)) $$ [T1 O13 V1]
  · clear Q; revert c; decide
  · isplitl [T1]; · iexact T1
    isplitl [O13]; · iexact O13
    iexact V1
  iintro T1
  iapply (op_back I K c 28 39 0 6 (by decide) (by decide) (by decide) (by rfl) (cbS 0 1 0) fullShare.left (fin I 0 0 0 c) (by rfl) (by rfl) (by rfl) (by rfl) (by rfl)) $$ HE S06 HS
  iintro B010L HS
  ihave B010 : anyW c (cbS 0 1 0) $$ [B010L B010R]
  · iapply (any_of_halves c (cbS 0 1 0) (fin I 0 0 0 c) (fin I 0 0 0 c)) $$ B010L B010R
  iapply (op_back I K c 28 40 0 7 (by decide) (by decide) (by decide) (by rfl) (cbS 0 1 1) fullShare.left (fin I 0 1 0 c) (by rfl) (by rfl) (by rfl) (by rfl) (by rfl)) $$ HE S07 HS
  iintro B011L HS
  ihave B011 : anyW c (cbS 0 1 1) $$ [B011L B011R]
  · iapply (any_of_halves c (cbS 0 1 1) (fin I 0 1 0 c) (fin I 0 1 0 c)) $$ B011L B011R
  simp only [k0_part65_eq_skeleton, k0_part65_skel, semSignalWord, semWaitWord, Prog.lift, Prog.bind_op, Prog.bind_ret, Prog.pure_eq_ret]
  iapply (op_back I K c 28 41 0 8 (by decide) (by decide) (by decide) (by rfl) (abS 0 0 0) fullShare.left (fin I 0 0 1 c) (by rfl) (by rfl) (by rfl) (by rfl) (by rfl)) $$ HE S08 HS
  iintro A000L HS
  ihave A000 : anyW c (abS 0 0 0) $$ [A000L A000R]
  · iapply (any_of_halves c (abS 0 0 0) (fin I 0 0 1 c) (fin I 0 0 1 c)) $$ A000L A000R
  iapply (op_back I K c 28 42 0 9 (by decide) (by decide) (by decide) (by rfl) (abS 0 0 1) fullShare.left (fin I 0 1 1 c) (by rfl) (by rfl) (by rfl) (by rfl) (by rfl)) $$ HE S09 HS
  iintro A001L HS
  ihave A001 : anyW c (abS 0 0 1) $$ [A001L A001R]
  · iapply (any_of_halves c (abS 0 0 1) (fin I 0 1 1 c) (fin I 0 1 1 c)) $$ A001L A001R
  iapply (op_back I K c 28 43 0 10 (by decide) (by decide) (by decide) (by rfl) (abS 0 1 0) fullShare.left (fin I 0 0 2 c) (by rfl) (by rfl) (by rfl) (by rfl) (by rfl)) $$ HE S010 HS
  iintro A010L HS
  ihave A010 : anyW c (abS 0 1 0) $$ [A010L A010R]
  · iapply (any_of_halves c (abS 0 1 0) (fin I 0 0 2 c) (fin I 0 0 2 c)) $$ A010L A010R
  simp only [k0_part66_eq_skeleton, k0_part66_skel, semSignalWord, semWaitWord, Prog.lift, Prog.bind_op, Prog.bind_ret, Prog.pure_eq_ret]
  iapply (op_back I K c 28 44 0 11 (by decide) (by decide) (by decide) (by rfl) (abS 0 1 1) fullShare.left (fin I 0 1 2 c) (by rfl) (by rfl) (by rfl) (by rfl) (by rfl)) $$ HE S011 HS
  iintro A011L HS
  ihave A011 : anyW c (abS 0 1 1) $$ [A011L A011R]
  · iapply (any_of_halves c (abS 0 1 1) (fin I 0 1 2 c) (fin I 0 1 2 c)) $$ A011L A011R
  iapply (op_out_wait I K c 28 45 0 (gid 0 3 c) (stg I 0 3 c) (by rfl) (by rfl)) $$ HE T0 HS
  iintro O03 T0 HS
  iapply (op_back I K c 28 45 1 6 (by decide) (by decide) (by decide) (by rfl) (cbS 1 1 0) fullShare.left (fin I 1 0 0 c) (by rfl) (by rfl) (by rfl) (by rfl) (by rfl)) $$ HE S16 HS
  iintro B110L HS
  ihave B110 : anyW c (cbS 1 1 0) $$ [B110L B110R]
  · iapply (any_of_halves c (cbS 1 1 0) (fin I 1 0 0 c) (fin I 1 0 0 c)) $$ B110L B110R
  simp only [k0_part67_eq_skeleton, k0_part67_skel, semSignalWord, semWaitWord, Prog.lift, Prog.bind_op, Prog.bind_ret, Prog.pure_eq_ret]
  iapply (op_back I K c 28 46 1 7 (by decide) (by decide) (by decide) (by rfl) (cbS 1 1 1) fullShare.left (fin I 1 1 0 c) (by rfl) (by rfl) (by rfl) (by rfl) (by rfl)) $$ HE S17 HS
  iintro B111L HS
  ihave B111 : anyW c (cbS 1 1 1) $$ [B111L B111R]
  · iapply (any_of_halves c (cbS 1 1 1) (fin I 1 1 0 c) (fin I 1 1 0 c)) $$ B111L B111R
  iapply (op_back I K c 28 47 1 8 (by decide) (by decide) (by decide) (by rfl) (abS 1 0 0) fullShare.left (fin I 1 0 1 c) (by rfl) (by rfl) (by rfl) (by rfl) (by rfl)) $$ HE S18 HS
  iintro A100L HS
  ihave A100 : anyW c (abS 1 0 0) $$ [A100L A100R]
  · iapply (any_of_halves c (abS 1 0 0) (fin I 1 0 1 c) (fin I 1 0 1 c)) $$ A100L A100R
  iapply (op_back I K c 28 48 1 9 (by decide) (by decide) (by decide) (by rfl) (abS 1 0 1) fullShare.left (fin I 1 1 1 c) (by rfl) (by rfl) (by rfl) (by rfl) (by rfl)) $$ HE S19 HS
  iintro A101L HS
  ihave A101 : anyW c (abS 1 0 1) $$ [A101L A101R]
  · iapply (any_of_halves c (abS 1 0 1) (fin I 1 1 1 c) (fin I 1 1 1 c)) $$ A101L A101R
  iapply (op_back I K c 28 49 1 10 (by decide) (by decide) (by decide) (by rfl) (abS 1 1 0) fullShare.left (fin I 1 0 2 c) (by rfl) (by rfl) (by rfl) (by rfl) (by rfl)) $$ HE S110 HS
  iintro A110L HS
  ihave A110 : anyW c (abS 1 1 0) $$ [A110L A110R]
  · iapply (any_of_halves c (abS 1 1 0) (fin I 1 0 2 c) (fin I 1 0 2 c)) $$ A110L A110R
  iapply (op_back I K c 28 50 1 11 (by decide) (by decide) (by decide) (by rfl) (abS 1 1 1) fullShare.left (fin I 1 1 2 c) (by rfl) (by rfl) (by rfl) (by rfl) (by rfl)) $$ HE S111 HS
  iintro A111L HS
  ihave A111 : anyW c (abS 1 1 1) $$ [A111L A111R]
  · iapply (any_of_halves c (abS 1 1 1) (fin I 1 1 2 c) (fin I 1 1 2 c)) $$ A111L A111R
  iapply (op_out_wait I K c 28 51 1 (gid 1 3 c) (stg I 1 3 c) (by rfl) (by rfl)) $$ HE T1 HS
  iintro O13 T1 HS
  iapply (op_signal I K c 28 51 3 exitS (by decide) (by decide) rfl rfl rfl _ ?_ rfl rfl) $$ HE [] HS
  · clear Q; revert c; decide
  · iapply (exit_give I c 28)
    iempintro
  iintro HS
  iapply (op_signal I K c 29 51 3 exitS (by decide) (by decide) rfl rfl rfl _ ?_ rfl rfl) $$ HE [] HS
  · clear Q; revert c; decide
  · iapply (exit_give I c 29)
    iempintro
  iintro HS
  iapply (op_wait_reg I K c 30 51 exitS _ (by decide) (by rfl) (by decide) (by rfl) (exit_pay I c) (by rfl) (by rfl)) $$ HE HS
  iintro - HS
  ihave HC0 : CpIdle I c 0 $$ [HC0]
  · iapply (idle_of_ready I c 0 (chunk 0 c 3)); iexact HC0
  ihave HC1 : CpIdle I c 1 $$ [HC1]
  · iapply (idle_of_ready I c 1 (chunk 1 c 3)); iexact HC1
  ihave R000 : anyW c (rbS 0 0 0) $$ [R000]
  · iapply (any_of_owns c (rbS 0 0 0) (accB I 0 0 2 (up 0 c))); iexact R000
  ihave R001 : anyW c (rbS 0 0 1) $$ [R001]
  · iapply (any_of_owns c (rbS 0 0 1) (accB I 0 1 2 (up 0 c))); iexact R001
  ihave R010 : anyW c (rbS 0 1 0) $$ [R010]
  · iapply (any_of_owns c (rbS 0 1 0) (accB I 0 0 1 (up 0 c))); iexact R010
  ihave R011 : anyW c (rbS 0 1 1) $$ [R011]
  · iapply (any_of_owns c (rbS 0 1 1) (accB I 0 1 1 (up 0 c))); iexact R011
  ihave R100 : anyW c (rbS 1 0 0) $$ [R100]
  · iapply (any_of_owns c (rbS 1 0 0) (accB I 1 0 2 (up 1 c))); iexact R100
  ihave R101 : anyW c (rbS 1 0 1) $$ [R101]
  · iapply (any_of_owns c (rbS 1 0 1) (accB I 1 1 2 (up 1 c))); iexact R101
  ihave R110 : anyW c (rbS 1 1 0) $$ [R110]
  · iapply (any_of_owns c (rbS 1 1 0) (accB I 1 0 1 (up 1 c))); iexact R110
  ihave R111 : anyW c (rbS 1 1 1) $$ [R111]
  · iapply (any_of_owns c (rbS 1 1 1) (accB I 1 1 1 (up 1 c))); iexact R111
  ihave A020 : anyW c (abS 0 2 0) $$ [A020L A020R]
  · iapply (any_of_halves c (abS 0 2 0) (fin I 0 0 3 c) (fin I 0 0 3 c)) $$ A020L A020R
  ihave A021 : anyW c (abS 0 2 1) $$ [A021L A021R]
  · iapply (any_of_halves c (abS 0 2 1) (fin I 0 1 3 c) (fin I 0 1 3 c)) $$ A021L A021R
  ihave A120 : anyW c (abS 1 2 0) $$ [A120L A120R]
  · iapply (any_of_halves c (abS 1 2 0) (fin I 1 0 3 c) (fin I 1 0 3 c)) $$ A120L A120R
  ihave A121 : anyW c (abS 1 2 1) $$ [A121L A121R]
  · iapply (any_of_halves c (abS 1 2 1) (fin I 1 1 3 c) (fin I 1 1 3 c)) $$ A121L A121R
  iapply (run_ret c)
  iapply Hk
  unfold Final
  isplitl [HS]; · iexact HS
  isplitl [HC0]; · iexact HC0
  isplitl [HC1]; · iexact HC1
  isplitl [HKW]; · iexact HKW
  isplitl [B000]; · iexact B000
  isplitl [B001]; · iexact B001
  isplitl [B010]; · iexact B010
  isplitl [B011]; · iexact B011
  isplitl [B100]; · iexact B100
  isplitl [B101]; · iexact B101
  isplitl [B110]; · iexact B110
  isplitl [B111]; · iexact B111
  isplitl [R000]; · iexact R000
  isplitl [R001]; · iexact R001
  isplitl [R010]; · iexact R010
  isplitl [R011]; · iexact R011
  isplitl [R100]; · iexact R100
  isplitl [R101]; · iexact R101
  isplitl [R110]; · iexact R110
  isplitl [R111]; · iexact R111
  isplitl [A000]; · iexact A000
  isplitl [A001]; · iexact A001
  isplitl [A010]; · iexact A010
  isplitl [A011]; · iexact A011
  isplitl [A020]; · iexact A020
  isplitl [A021]; · iexact A021
  isplitl [A100]; · iexact A100
  isplitl [A101]; · iexact A101
  isplitl [A110]; · iexact A110
  isplitl [A111]; · iexact A111
  isplitl [A120]; · iexact A120
  isplitl [A121]; · iexact A121
  isplitl [T0]; · iexact T0
  isplitl [T1]; · iexact T1
  isplitl [O00]; · iexact O00
  isplitl [O01]; · iexact O01
  isplitl [O02]; · iexact O02
  isplitl [O03]; · iexact O03
  isplitl [O10]; · iexact O10
  isplitl [O11]; · iexact O11
  isplitl [O12]; · iexact O12
  iexact O13

/-- The body as a whole. -/
theorem run_body {Q : PUnit → sProp 𝕄} :
    Env I K ⊢ iprop(St c 0 0
      -∗ landAll c 0
      -∗ landAll c 1
      -∗ CpIdle I c 0
      -∗ CpIdle I c 1
      -∗ anyW c (cbS 0 0 0)
      -∗ anyW c (cbS 0 0 1)
      -∗ anyW c (cbS 0 1 0)
      -∗ anyW c (cbS 0 1 1)
      -∗ anyW c (cbS 1 0 0)
      -∗ anyW c (cbS 1 0 1)
      -∗ anyW c (cbS 1 1 0)
      -∗ anyW c (cbS 1 1 1)
      -∗ KW I c
      -∗ StIdle c 0
      -∗ StIdle c 1
      -∗ Outs c 0
      -∗ Outs c 1
      -∗ (Final I c -∗ Q ⟨⟩) -∗ Run c (cc0_body (Memref.whole main_arg0) (Memref.isWhole_whole _) (Memref.whole cc0_stg0_0) (Memref.isWhole_whole _) (Memref.whole cc0_stg1_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scoped0) Q) := by
  iintro #HE HS HL0 HL1 HC0 HC1 B000 B001 B010 B011 B100 B101 B110 B111 HKW T0 T1 OO0 OO1 Hk
  rw [cc0_body_eq_skeleton]; unfold cc0_body_skel
  iapply (run_bind c)
  rw [part68_eq]
  iapply (run_from1 I K c (Ψ := iprop(Env I K ∗ Tail I c ∗ (Final I c -∗ Q ⟨⟩))) (fun _ _ _ _ _ => run_tail I K c _ _ _ _ _)) $$ HE HS HL0 HL1 HC0 HC1 B000 B001 B010 B011 B100 B101 B110 B111 HKW T0 T1 OO0 OO1 [Hk]
  iintro HT
  isplitl []; · iexact HE
  isplitl [HT]; · iexact HT
  iexact Hk

end Cert.RingProof
-- ==== Proof.Tile.lean ====
/-
# Buffers and their tiles
-/
module

public import proofs.«01_k».proof.Proof.Body

@[expose] public section

set_option maxRecDepth 16384

noncomputable section

namespace Cert.RingProof

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

section Tiles
variable (c : Dev nD) {sp : Space} {sh : Shape} {e : EltTy} (M : Memref sig .tc sp sh e) {T : Type} [Fintype T] [DecidableEq T]
  (R : T → Rect sh) (hr : ∀ t a, (R t).stride a = 1) (key : sh.Idx → T) (hk : ∀ t i, i ∈ (R t).set ↔ key i = t)
include hk

theorem tile_disj (t t' : T) (h : t ≠ t') : Disjoint (R t).set (R t').set :=
  Finset.disjoint_left.mpr fun i h1 h2 => h (((hk t i).1 h1).symm.trans ((hk t' i).1 h2))
theorem tile_cov : (Finset.univ : Finset T).biUnion (fun t => (R t).set) = Finset.univ :=
  Finset.eq_univ_iff_forall.mpr fun i => Finset.mem_biUnion.mpr ⟨key i, Finset.mem_univ _, (hk _ i).2 rfl⟩

/-- A whole buffer, at any contents, is its tiles, each at any contents; -/
theorem any_split : iprop(∃ X, ownsTc c M fullShare X)
    ⊢ (bigSep Finset.univ fun t => iprop(∃ X, ownsTc c (M.slice (R t) (hr t)) fullShare X) : sProp 𝕄) := by
  iintro ⟨%X, H⟩
  unfold ownsTc
  ihave H := (owns_rects (c : Thread nD τ) M fullShare R hr (tile_disj R key hk) (tile_cov R key hk) X) $$ H
  have hm : (bigSep Finset.univ fun t => (owns (c : Thread nD τ) (M.slice (R t) (hr t)) fullShare (fun j => X ((R t).emb j)) : sProp 𝕄))
      ⊢ bigSep Finset.univ fun t => iprop(∃ X, owns (c : Thread nD τ) (M.slice (R t) (hr t)) fullShare X) := by
    exact bigSep_mono fun t _ => exists_intro (Φ := fun X => (owns (c : Thread nD τ) (M.slice (R t) (hr t)) fullShare X : sProp 𝕄)) (fun j => X ((R t).emb j))
  iapply hm; iexact H

/-- and the tiles together, each at its contents, are the buffer, at the contents they make up. -/
theorem tile_join (V : (t : T) → (R t).shape.Idx → Elt F e) (X : sh.Idx → Elt F e) (hX : ∀ t j, X ((R t).emb j) = V t j) :
    (bigSep Finset.univ fun t => (ownsTc c (M.slice (R t) (hr t)) fullShare (V t) : sProp 𝕄)) ⊢ ownsTc c M fullShare X := by
  have h : V = fun t j => X ((R t).emb j) := funext fun t => funext fun j => (hX t j).symm
  subst h
  exact owns_of_rects (c : Thread nD τ) M fullShare R hr (tile_disj R key hk) (tile_cov R key hk) X

theorem any_join : (bigSep Finset.univ fun t => iprop(∃ X, ownsTc c (M.slice (R t) (hr t)) fullShare X) : sProp 𝕄)
    ⊢ iprop(∃ X, ownsTc c M fullShare X) := by
  have hne : ∀ t, Nonempty ((R t).shape.Idx → Elt F e) := fun t => ⟨fun _ => Classical.arbitrary _⟩
  refine (bigSep_exists_pi Finset.univ (fun t (X : (R t).shape.Idx → Elt F e) => (ownsTc c (M.slice (R t) (hr t)) fullShare X : sProp 𝕄))).trans ?_
  iintro ⟨%V, H⟩
  have hpre : ∀ i, ∃ j, (R (key i)).emb j = i := fun i => by
    have h := (hk (key i) i).2 rfl
    rw [← Rect.map_emb_univ, Finset.mem_map] at h
    obtain ⟨j, -, hj⟩ := h
    exact ⟨j, hj⟩
  choose pre hp using hpre
  iexists fun i => V (key i) (pre i)
  iapply (tile_join c M R hr key hk V (fun i => V (key i) (pre i)) ?_)
  · intro t j
    have ht : key ((R t).emb j) = t := (hk t _).1 (by rw [← Rect.map_emb_univ]; exact Finset.mem_map_of_mem _ (Finset.mem_univ j))
    have key' : ∀ t', key ((R t).emb j) = t' → ∀ j' : (R t').shape.Idx, (R t').emb j' = (R t).emb j → t' = t → V t' j' = V t j := by
      intro t' _ j' hj' e
      subst e
      exact congrArg (V t') ((R t').emb.injective hj')
    exact key' _ rfl _ (hp _) ht
  iexact H
end Tiles

section Buffers
variable (c : Dev nD)

theorem whole_in (b : Ref sig .tc) : iprop(∃ f : Buf (Elt F) ((c : Thread nD τ).loc b), (((c : Thread nD τ).loc b) ↦{fullShare} f))
    ⊢ (iprop(∃ X, ownsTc c (Memref.whole b) fullShare X) : sProp 𝕄) := by
  iintro ⟨%f, H⟩
  iexists f
  iapply (Entails.of_eq (owns_whole (c : Thread nD τ) b fullShare f).symm)
  iexact H
theorem whole_out (b : Ref sig .tc) : (iprop(∃ X, ownsTc c (Memref.whole b) fullShare X) : sProp 𝕄)
    ⊢ iprop(∃ f : Buf (Elt F) ((c : Thread nD τ).loc b), (((c : Thread nD τ).loc b) ↦{fullShare} f)) := by
  iintro ⟨%X, H⟩
  iexists X
  iapply (Entails.of_eq (owns_whole (c : Thread nD τ) b fullShare X))
  iexact H

theorem mem3 {n0 n1 n2 m0 m1 m2 o0 o1 o2 : ℕ} {inb} (i : (⟨3, ![n0, n1, n2]⟩ : Shape).Idx) :
    i ∈ (Rect.unit (s := ⟨3, ![n0, n1, n2]⟩) ![o0, o1, o2] ![m0, m1, m2] inb).set
      ↔ (o0 ≤ (i 0).val ∧ (i 0).val < o0 + m0) ∧ (o1 ≤ (i 1).val ∧ (i 1).val < o1 + m1) ∧ (o2 ≤ (i 2).val ∧ (i 2).val < o2 + m2) := by
  rw [Rect.mem_set_unit]
  exact ⟨fun h => ⟨h 0, h 1, h 2⟩, fun h a => match a with | 0 => h.1 | 1 => h.2.1 | 2 => h.2.2⟩
theorem mem4 {n0 n1 n2 n3 m0 m1 m2 m3 o0 o1 o2 o3 : ℕ} {inb} (i : (⟨4, ![n0, n1, n2, n3]⟩ : Shape).Idx) :
    i ∈ (Rect.unit (s := ⟨4, ![n0, n1, n2, n3]⟩) ![o0, o1, o2, o3] ![m0, m1, m2, m3] inb).set
      ↔ (o0 ≤ (i 0).val ∧ (i 0).val < o0 + m0) ∧ (o1 ≤ (i 1).val ∧ (i 1).val < o1 + m1) ∧ (o2 ≤ (i 2).val ∧ (i 2).val < o2 + m2)
        ∧ (o3 ≤ (i 3).val ∧ (i 3).val < o3 + m3) := by
  rw [Rect.mem_set_unit]
  exact ⟨fun h => ⟨h 0, h 1, h 2, h 3⟩, fun h a => match a with | 0 => h.1 | 1 => h.2.1 | 2 => h.2.2.1 | 3 => h.2.2.2⟩

/-- The tiles of each buffer, and the tile an entry lies in: the row of the extended input, -/
def tx (t : Fin 2) : Rect S2x1032x1024 := Rect.unit (s := S2x1032x1024) ![t.val % 2, 0, 0] S1x1032x1024.size (inb_x t.val)
def kx (i : S2x1032x1024.Idx) : Fin 2 := i 0
theorem hx (t : Fin 2) (i : S2x1032x1024.Idx) : i ∈ (tx t).set ↔ kx i = t := by
  refine (mem3 (n0 := 2) (n1 := 1032) (n2 := 1024) i).trans ?_
  have e : kx i = t ↔ (i 0).val = t.val := ⟨congrArg Fin.val, fun h => Fin.ext h⟩
  have h1 : (i 1).val < 1032 := (i 1).isLt
  have h2 : (i 2).val < 1024 := (i 2).isLt
  rw [e]; omega

/-- a staged chunk, -/
def ts (t : Fin 2) : Rect S2x1024x1024 := Rect.unit (s := S2x1024x1024) ![t.val % 2, 0, 0] S1x1024x1024.size (inb_s t.val)
def ks (i : S2x1024x1024.Idx) : Fin 2 := i 0
theorem hs (t : Fin 2) (i : S2x1024x1024.Idx) : i ∈ (ts t).set ↔ ks i = t := by
  refine (mem3 (n0 := 2) (n1 := 1024) (n2 := 1024) i).trans ?_
  have e : ks i = t ↔ (i 0).val = t.val := ⟨congrArg Fin.val, fun h => Fin.ext h⟩
  have h1 : (i 1).val < 1024 := (i 1).isLt
  have h2 : (i 2).val < 1024 := (i 2).isLt
  rw [e]; omega

/-- the half-blocks of the two ring buffers, -/
def tb (t : Fin 2 × Fin 2 × Fin 2) : Rect S2x2x1024x1024 :=
  Rect.unit (s := S2x2x1024x1024) ![t.1.val % 2, t.2.1.val % 2, 512 * (t.2.2.val % 2), 0] S1x1x512x1024.size (inb_c t.1.val t.2.1.val t.2.2.val)
def kb (i : S2x2x1024x1024.Idx) : Fin 2 × Fin 2 × Fin 2 := (i 0, i 1, ⟨(i 2).val / 512, by have h : (i 2).val < 1024 := (i 2).isLt; omega⟩)
theorem hb (t : Fin 2 × Fin 2 × Fin 2) (i : S2x2x1024x1024.Idx) : i ∈ (tb t).set ↔ kb i = t := by
  refine (mem4 (n0 := 2) (n1 := 2) (n2 := 1024) (n3 := 1024) i).trans ?_
  obtain ⟨r, p, u⟩ := t
  have e : kb i = (r, p, u) ↔ (i 0).val = r.val ∧ (i 1).val = p.val ∧ (i 2).val / 512 = u.val :=
    ⟨fun h => ⟨congrArg (fun t => t.1.val) h, congrArg (fun t => t.2.1.val) h, congrArg (fun t => t.2.2.val) h⟩,
     fun h => Prod.ext (Fin.ext h.1) (Prod.ext (Fin.ext h.2.1) (Fin.ext h.2.2))⟩
  have h2 : (i 2).val < 1024 := (i 2).isLt
  have h3 : (i 3).val < 1024 := (i 3).isLt
  rw [e]; dsimp only; omega

/-- those of the all-gather buffer, -/
def ta (t : Fin 2 × Fin 3 × Fin 2) : Rect S2x3x1024x1024 :=
  Rect.unit (s := S2x3x1024x1024) ![t.1.val % 2, t.2.1.val % 3, 512 * (t.2.2.val % 2), 0] S1x1x512x1024.size (inb_a t.1.val t.2.1.val t.2.2.val)
def ka (i : S2x3x1024x1024.Idx) : Fin 2 × Fin 3 × Fin 2 := (i 0, i 1, ⟨(i 2).val / 512, by have h : (i 2).val < 1024 := (i 2).isLt; omega⟩)
theorem ha (t : Fin 2 × Fin 3 × Fin 2) (i : S2x3x1024x1024.Idx) : i ∈ (ta t).set ↔ ka i = t := by
  refine (mem4 (n0 := 2) (n1 := 3) (n2 := 1024) (n3 := 1024) i).trans ?_
  obtain ⟨r, p, u⟩ := t
  have e : ka i = (r, p, u) ↔ (i 0).val = r.val ∧ (i 1).val = p.val ∧ (i 2).val / 512 = u.val :=
    ⟨fun h => ⟨congrArg (fun t => t.1.val) h, congrArg (fun t => t.2.1.val) h, congrArg (fun t => t.2.2.val) h⟩,
     fun h => Prod.ext (Fin.ext h.1) (Prod.ext (Fin.ext h.2.1) (Fin.ext h.2.2))⟩
  have h2 : (i 2).val < 1024 := (i 2).isLt
  have h3 : (i 3).val < 1024 := (i 3).isLt
  rw [e]; dsimp only; omega

/-- and a row's chunk of the result. -/
def tr (t : Fin 2 × Fin 4) : Rect S2x4096x1024 :=
  Rect.unit (s := S2x4096x1024) ![t.1.val % 2, 1024 * (t.2.val % 4), 0] S1x1024x1024.size (inb_o t.1.val t.2.val)
def ko (i : S2x4096x1024.Idx) : Fin 2 × Fin 4 := (i 0, ⟨(i 1).val / 1024, by have h : (i 1).val < 4096 := (i 1).isLt; omega⟩)
theorem ho (t : Fin 2 × Fin 4) (i : S2x4096x1024.Idx) : i ∈ (tr t).set ↔ ko i = t := by
  refine (mem3 (n0 := 2) (n1 := 4096) (n2 := 1024) i).trans ?_
  obtain ⟨r, g⟩ := t
  have e : ko i = (r, g) ↔ (i 0).val = r.val ∧ (i 1).val / 1024 = g.val :=
    ⟨fun h => ⟨congrArg (fun t => t.1.val) h, congrArg (fun t => t.2.val) h⟩,
     fun h => Prod.ext (Fin.ext h.1) (Fin.ext h.2)⟩
  have h1 : (i 1).val < 4096 := (i 1).isLt
  have h2 : (i 2).val < 1024 := (i 2).isLt
  rw [e]; dsimp only; omega

/-- The tiles of a buffer one by one. -/
theorem list2 (P : ℕ → sProp 𝕄) : (bigSep Finset.univ fun t : Fin 2 => P t.val) = iprop(P 0 ∗ P 1) :=
  bigSep_univ_eq_bigSepL [0, 1] (by decide) (by decide) _
theorem list222 (P : ℕ → ℕ → ℕ → sProp 𝕄) : (bigSep Finset.univ fun t : Fin 2 × Fin 2 × Fin 2 => P t.1.val t.2.1.val t.2.2.val)
    = iprop(P 0 0 0 ∗ P 0 0 1 ∗ P 0 1 0 ∗ P 0 1 1 ∗ P 1 0 0 ∗ P 1 0 1 ∗ P 1 1 0 ∗ P 1 1 1) :=
  bigSep_univ_eq_bigSepL [(0, 0, 0), (0, 0, 1), (0, 1, 0), (0, 1, 1), (1, 0, 0), (1, 0, 1), (1, 1, 0), (1, 1, 1)] (by decide) (by decide) _
theorem list232 (P : ℕ → ℕ → ℕ → sProp 𝕄) : (bigSep Finset.univ fun t : Fin 2 × Fin 3 × Fin 2 => P t.1.val t.2.1.val t.2.2.val)
    = iprop(P 0 0 0 ∗ P 0 0 1 ∗ P 0 1 0 ∗ P 0 1 1 ∗ P 0 2 0 ∗ P 0 2 1 ∗ P 1 0 0 ∗ P 1 0 1 ∗ P 1 1 0 ∗ P 1 1 1 ∗ P 1 2 0 ∗ P 1 2 1) :=
  bigSep_univ_eq_bigSepL [(0, 0, 0), (0, 0, 1), (0, 1, 0), (0, 1, 1), (0, 2, 0), (0, 2, 1), (1, 0, 0), (1, 0, 1), (1, 1, 0), (1, 1, 1), (1, 2, 0), (1, 2, 1)]
    (by decide) (by decide) _
theorem list24 (P : ℕ → ℕ → sProp 𝕄) : (bigSep Finset.univ fun t : Fin 2 × Fin 4 => P t.1.val t.2.val)
    = iprop(P 0 0 ∗ P 0 1 ∗ P 0 2 ∗ P 0 3 ∗ P 1 0 ∗ P 1 1 ∗ P 1 2 ∗ P 1 3) :=
  bigSep_univ_eq_bigSepL [(0, 0), (0, 1), (0, 2), (0, 3), (1, 0), (1, 1), (1, 2), (1, 3)] (by decide) (by decide) _

def anyX (r : ℕ) : sProp 𝕄 := iprop(∃ X, ownsTc c (xwS r) fullShare X)
def anyS (r : ℕ) : sProp 𝕄 := iprop(∃ X, ownsTc c (stS r) fullShare X)

theorem x_in : iprop(∃ f : Buf (Elt F) ((c : Thread nD τ).loc cc0_scratch0), (((c : Thread nD τ).loc cc0_scratch0) ↦{fullShare} f))
    ⊢ (iprop(anyX c 0 ∗ anyX c 1) : sProp 𝕄) :=
  ((whole_in c cc0_scratch0).trans (any_split c (Memref.whole cc0_scratch0) tx (fun _ _ => rfl) kx hx)).trans (Entails.of_eq (list2 (anyX c)))
theorem x_out : (iprop(anyX c 0 ∗ anyX c 1) : sProp 𝕄)
    ⊢ iprop(∃ f : Buf (Elt F) ((c : Thread nD τ).loc cc0_scratch0), (((c : Thread nD τ).loc cc0_scratch0) ↦{fullShare} f)) :=
  (Entails.of_eq (list2 (anyX c)).symm).trans ((any_join c (Memref.whole cc0_scratch0) tx (fun _ _ => rfl) kx hx).trans (whole_out c cc0_scratch0))
theorem s_in : iprop(∃ f : Buf (Elt F) ((c : Thread nD τ).loc cc0_scratch4), (((c : Thread nD τ).loc cc0_scratch4) ↦{fullShare} f))
    ⊢ (iprop(anyS c 0 ∗ anyS c 1) : sProp 𝕄) :=
  ((whole_in c cc0_scratch4).trans (any_split c (Memref.whole cc0_scratch4) ts (fun _ _ => rfl) ks hs)).trans (Entails.of_eq (list2 (anyS c)))
theorem s_out : (iprop(anyS c 0 ∗ anyS c 1) : sProp 𝕄)
    ⊢ iprop(∃ f : Buf (Elt F) ((c : Thread nD τ).loc cc0_scratch4), (((c : Thread nD τ).loc cc0_scratch4) ↦{fullShare} f)) :=
  (Entails.of_eq (list2 (anyS c)).symm).trans ((any_join c (Memref.whole cc0_scratch4) ts (fun _ _ => rfl) ks hs).trans (whole_out c cc0_scratch4))

/-- The eight half-blocks of a ring buffer and the twelve of the all-gather buffer. -/
def All8 (W : ℕ → ℕ → ℕ → WinM) : sProp 𝕄 := iprop(anyW c (W 0 0 0) ∗ anyW c (W 0 0 1) ∗ anyW c (W 0 1 0) ∗ anyW c (W 0 1 1)
  ∗ anyW c (W 1 0 0) ∗ anyW c (W 1 0 1) ∗ anyW c (W 1 1 0) ∗ anyW c (W 1 1 1))
def All12 (W : ℕ → ℕ → ℕ → WinM) : sProp 𝕄 := iprop(anyW c (W 0 0 0) ∗ anyW c (W 0 0 1) ∗ anyW c (W 0 1 0) ∗ anyW c (W 0 1 1) ∗ anyW c (W 0 2 0) ∗ anyW c (W 0 2 1)
  ∗ anyW c (W 1 0 0) ∗ anyW c (W 1 0 1) ∗ anyW c (W 1 1 0) ∗ anyW c (W 1 1 1) ∗ anyW c (W 1 2 0) ∗ anyW c (W 1 2 1))

theorem c_in : iprop(∃ f : Buf (Elt F) ((c : Thread nD τ).loc cc0_scratch1), (((c : Thread nD τ).loc cc0_scratch1) ↦{fullShare} f))
    ⊢ (All8 c cbS : sProp 𝕄) :=
  ((whole_in c cc0_scratch1).trans (any_split c (Memref.whole cc0_scratch1) tb (fun _ _ => rfl) kb hb)).trans (Entails.of_eq (list222 (fun r p u => anyW c (cbS r p u))))
theorem c_out : (All8 c cbS : sProp 𝕄)
    ⊢ iprop(∃ f : Buf (Elt F) ((c : Thread nD τ).loc cc0_scratch1), (((c : Thread nD τ).loc cc0_scratch1) ↦{fullShare} f)) :=
  (Entails.of_eq (list222 (fun r p u => anyW c (cbS r p u))).symm).trans ((any_join c (Memref.whole cc0_scratch1) tb (fun _ _ => rfl) kb hb).trans (whole_out c cc0_scratch1))
theorem r_in : iprop(∃ f : Buf (Elt F) ((c : Thread nD τ).loc cc0_scratch2), (((c : Thread nD τ).loc cc0_scratch2) ↦{fullShare} f))
    ⊢ (All8 c rbS : sProp 𝕄) :=
  ((whole_in c cc0_scratch2).trans (any_split c (Memref.whole cc0_scratch2) tb (fun _ _ => rfl) kb hb)).trans (Entails.of_eq (list222 (fun r p u => anyW c (rbS r p u))))
theorem r_out : (All8 c rbS : sProp 𝕄)
    ⊢ iprop(∃ f : Buf (Elt F) ((c : Thread nD τ).loc cc0_scratch2), (((c : Thread nD τ).loc cc0_scratch2) ↦{fullShare} f)) :=
  (Entails.of_eq (list222 (fun r p u => anyW c (rbS r p u))).symm).trans ((any_join c (Memref.whole cc0_scratch2) tb (fun _ _ => rfl) kb hb).trans (whole_out c cc0_scratch2))
theorem a_in : iprop(∃ f : Buf (Elt F) ((c : Thread nD τ).loc cc0_scratch3), (((c : Thread nD τ).loc cc0_scratch3) ↦{fullShare} f))
    ⊢ (All12 c abS : sProp 𝕄) :=
  ((whole_in c cc0_scratch3).trans (any_split c (Memref.whole cc0_scratch3) ta (fun _ _ => rfl) ka ha)).trans (Entails.of_eq (list232 (fun r p u => anyW c (abS r p u))))
theorem a_out : (All12 c abS : sProp 𝕄)
    ⊢ iprop(∃ f : Buf (Elt F) ((c : Thread nD τ).loc cc0_scratch3), (((c : Thread nD τ).loc cc0_scratch3) ↦{fullShare} f)) :=
  (Entails.of_eq (list232 (fun r p u => anyW c (abS r p u))).symm).trans ((any_join c (Memref.whole cc0_scratch3) ta (fun _ _ => rfl) ka ha).trans (whole_out c cc0_scratch3))

/-- The result's eight chunks, at any contents, -/
theorem o_in : iprop(∃ f : Buf (Elt F) ((c : Thread nD τ).loc main_v1), (((c : Thread nD τ).loc main_v1) ↦{fullShare} f))
    ⊢ (iprop(OutAny c 0 0 ∗ OutAny c 0 1 ∗ OutAny c 0 2 ∗ OutAny c 0 3 ∗ OutAny c 1 0 ∗ OutAny c 1 1 ∗ OutAny c 1 2 ∗ OutAny c 1 3) : sProp 𝕄) :=
  ((whole_in c main_v1).trans (any_split c (Memref.whole main_v1) tr (fun _ _ => rfl) ko ho)).trans (Entails.of_eq (list24 (OutAny c)))

/-- The device that adds up chunk `g` of ring `r`, -/
def own (r g : ℕ) : Dev nD := if r = 0 then ⟨(g + 3) % 4, Nat.mod_lt _ (by decide)⟩ else ⟨(g + 1) % 4, Nat.mod_lt _ (by decide)⟩
theorem own_gid : ∀ r : Fin 2, ∀ h : Fin 4, ∀ c : Dev nD, own r.val (gid r.val h.val c) = upN r.val h.val c := by decide

/-- the whole chunk, gated, as that device stages it, -/
def stv (I : Inp F) (r : ℕ) (d : Dev nD) : Vec F S1x1024x1024 .f32 := k0_pay68 (joinH (accB I r 0 3 d) (accB I r 1 3 d))

/-- and the result: the same on every device. -/
def res (I : Inp F) : S2x4096x1024.Idx → Elt F .f32 := fun i =>
  stv I (i 0).val (own (i 0).val ((i 1).val / 1024)) (ix3 0 ⟨(i 1).val % 1024, Nat.mod_lt _ (by decide)⟩ (i 2))

theorem res_at (I : Inp F) (i : S2x4096x1024.Idx) (r g : ℕ) (j : S1x1024x1024.Idx) (h0 : (i 0).val = r) (h1 : (i 1).val / 1024 = g)
    (h1' : (i 1).val % 1024 = (j 1).val) (h2 : (i 2).val = (j 2).val) : res I i = stv I r (own r g) j := by
  subst h0; subst h1
  unfold res
  refine congrArg (stv I (i 0).val (own (i 0).val ((i 1).val / 1024))) ?_
  have b0 : (j 0).val < 1 := (j 0).isLt
  funext a
  match a with
  | 0 => exact Fin.ext (by show 0 = (j 0).val; omega)
  | 1 => exact Fin.ext h1'
  | 2 => exact Fin.ext h2

/-- A device meets the four chunks of a row in an order of its own. -/
def gidF (r : Fin 2) (c : Dev nD) (h : Fin 4) : Fin 4 := ⟨gid r.val h.val c % 4, Nat.mod_lt _ (by decide)⟩
theorem gid_lt : ∀ r : Fin 2, ∀ c : Dev nD, ∀ h : Fin 4, gid r.val h.val c % 4 = gid r.val h.val c := by decide
theorem gidF_bij : ∀ r : Fin 2, ∀ c : Dev nD, Function.Bijective (gidF r c) := by decide
theorem list4 (P : ℕ → sProp 𝕄) : (bigSep Finset.univ fun t : Fin 4 => P t.val) = iprop(P 0 ∗ P 1 ∗ P 2 ∗ P 3) :=
  bigSep_univ_eq_bigSepL [0, 1, 2, 3] (by decide) (by decide) _
theorem perm (r : Fin 2) (P : ℕ → sProp 𝕄) : iprop(P (gid r.val 0 c) ∗ P (gid r.val 1 c) ∗ P (gid r.val 2 c) ∗ P (gid r.val 3 c))
    = iprop(P 0 ∗ P 1 ∗ P 2 ∗ P 3) := by
  rw [← list4 P, ← list4 (fun h => P (gid r.val h c)), bigSep_univ_equiv (Equiv.ofBijective _ (gidF_bij r c)) (fun t : Fin 4 => P t.val)]
  exact bigSep_congr fun h _ => congrArg P (gid_lt r c h).symm

theorem outs_in : iprop(∃ f : Buf (Elt F) ((c : Thread nD τ).loc main_v1), (((c : Thread nD τ).loc main_v1) ↦{fullShare} f))
    ⊢ (iprop(Outs c 0 ∗ Outs c 1) : sProp 𝕄) := by
  refine (o_in c).trans ?_
  have h0 : (Outs c 0 : sProp 𝕄) = _ := perm c 0 (OutAny c 0)
  have h1 : (Outs c 1 : sProp 𝕄) = _ := perm c 1 (OutAny c 1)
  rw [h0, h1]
  iintro ⟨H0, H1, H2, H3, H⟩
  isplitl [H0 H1 H2 H3]
  · isplitl [H0]; · iexact H0
    isplitl [H1]; · iexact H1
    isplitl [H2]; · iexact H2
    iexact H3
  iexact H

/-- A row's four chunks, as the device leaves them. -/
def Rows (I : Inp F) (r : ℕ) : sProp 𝕄 := iprop(ownsTc c (outS r (gid r 0 c)) fullShare (stg I r 0 c) ∗ ownsTc c (outS r (gid r 1 c)) fullShare (stg I r 1 c)
  ∗ ownsTc c (outS r (gid r 2 c)) fullShare (stg I r 2 c) ∗ ownsTc c (outS r (gid r 3 c)) fullShare (stg I r 3 c))

theorem rows_eq (I : Inp F) (r : Fin 2) : (Rows c I r.val : sProp 𝕄)
    = iprop(ownsTc c (outS r.val 0) fullShare (stv I r.val (own r.val 0)) ∗ ownsTc c (outS r.val 1) fullShare (stv I r.val (own r.val 1))
      ∗ ownsTc c (outS r.val 2) fullShare (stv I r.val (own r.val 2)) ∗ ownsTc c (outS r.val 3) fullShare (stv I r.val (own r.val 3))) := by
  rw [← perm c r (fun g => (ownsTc c (outS r.val g) fullShare (stv I r.val (own r.val g)) : sProp 𝕄))]
  have e0 := own_gid r 0 c
  have e1 := own_gid r 1 c
  have e2 := own_gid r 2 c
  have e3 := own_gid r 3 c
  show _ = iprop(ownsTc c (outS r.val (gid r.val (0 : Fin 4).val c)) fullShare (stv I r.val (own r.val (gid r.val (0 : Fin 4).val c)))
    ∗ ownsTc c (outS r.val (gid r.val (1 : Fin 4).val c)) fullShare (stv I r.val (own r.val (gid r.val (1 : Fin 4).val c)))
    ∗ ownsTc c (outS r.val (gid r.val (2 : Fin 4).val c)) fullShare (stv I r.val (own r.val (gid r.val (2 : Fin 4).val c)))
    ∗ ownsTc c (outS r.val (gid r.val (3 : Fin 4).val c)) fullShare (stv I r.val (own r.val (gid r.val (3 : Fin 4).val c))))
  rw [e0, e1, e2, e3]
  rfl

/-- The eight chunks make up the result. -/
theorem outs_out (I : Inp F) : (iprop(Rows c I 0 ∗ Rows c I 1) : sProp 𝕄) ⊢ (((c : Thread nD τ).loc main_v1) ↦{fullShare} (res I)) := by
  have h0 : (Rows c I 0 : sProp 𝕄) = _ := rows_eq c I 0
  have h1 : (Rows c I 1 : sProp 𝕄) = _ := rows_eq c I 1
  rw [h0, h1]
  refine BIBase.Entails.trans ?_ (Entails.of_eq (owns_whole (c : Thread nD τ) main_v1 fullShare (res I)))
  refine BIBase.Entails.trans ?_ (tile_join c (Memref.whole main_v1) tr (fun _ _ => rfl) ko ho (fun t => stv I t.1.val (own t.1.val t.2.val)) (res I) ?_)
  · refine BIBase.Entails.trans ?_ (Entails.of_eq (list24 (fun r g => (ownsTc c (outS r g) fullShare (stv I r (own r g)) : sProp 𝕄))).symm)
    iintro ⟨⟨H0, H1, H2, H3⟩, H⟩
    isplitl [H0]; · iexact H0
    isplitl [H1]; · iexact H1
    isplitl [H2]; · iexact H2
    isplitl [H3]; · iexact H3
    iexact H
  · rintro ⟨r, g⟩ j
    have b0 : (j 0).val < 1 := (j 0).isLt
    have b1 : (j 1).val < 1024 := (j 1).isLt
    have e0 : ((tr (r, g)).emb j 0).val = r.val := by
      show r.val % 2 + 1 * (j 0).val = r.val
      omega
    have e1 : ((tr (r, g)).emb j 1).val = 1024 * g.val + (j 1).val := by
      show 1024 * (g.val % 4) + 1 * (j 1).val = _
      omega
    have e2 : (tr (r, g)).emb j 2 = j 2 := by
      apply Fin.ext
      show 0 + 1 * (j 2).val = (j 2).val
      omega
    refine res_at I _ r.val g.val j e0 ?_ ?_ (congrArg Fin.val e2)
    · rw [e1]; omega
    · rw [e1]; omega
end Buffers

end Cert.RingProof
-- ==== Proof.Deal.lean ====
/-
# What the launch deals each device
-/
module

public import proofs.«01_k».proof.Proof.Tile

@[expose] public section

set_option maxRecDepth 16384

noncomputable section

namespace Cert.RingProof

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (I : Inp F) (K : Dev nD × Fin 52 → ℕ)

/-! ## Numbered families -/

theorem fin_range (n : ℕ) (P : ℕ → sProp 𝕄) : (bigSep Finset.univ fun i : Fin n => P i.val) = bigSep (Finset.range n) P := by
  have e : Finset.range n = Finset.univ.map (Fin.valEmbedding (n := n)) := by
    ext x; simp [Finset.mem_map, Fin.exists_iff]
  rw [e, bigSep_map]; rfl

/-- Every cell is waited on once. -/
def zF (j : Fin 52) : Fin 52 := zi j.val
theorem zF_bij : Function.Bijective zF :=
  Finite.injective_iff_bijective.mp fun i j h => Fin.ext (zi_inj i.val i.isLt j.val j.isLt h)
theorem cells_waits (P : SemLoc sig → sProp 𝕄) : (bigSep Finset.univ fun i : Fin 52 => P (cloc i)) = bigSep (Finset.range 52) fun j => P (zloc j) := by
  rw [bigSep_univ_equiv (Equiv.ofBijective zF zF_bij) (fun i : Fin 52 => P (cloc i)), ← fin_range 52 (fun j => P (zloc j))]
  rfl

/-! ## The semaphores at launch -/

/-- The kernel's own semaphores, -/
def osem (i : Fin 55) : SemLoc sig :=
  if h : i.val < 2 then .reg ⟨i.val, Nat.lt_of_lt_of_le h (by decide)⟩ else if i.val = 2 then exitL else .dma ⟨i.val - 1, lt54 (by omega)⟩
theorem ownSemFacts : Pipeline.OwnSemFacts cfg0.spec osem := by decide
theorem osem_inj : Function.Injective osem := by decide +kernel
/-- of which four serve transfers within the device. -/
def spl (i : Fin 4) : SemLoc sig := .dma ⟨50 + i.val, lt54 (by omega)⟩
theorem spl_inj : Function.Injective spl := by decide
def Spare (c : Dev nD) : sProp 𝕄 := bigSep Finset.univ fun i : Fin 4 => semVal (gc c (spl i)) 0

theorem unscopedSems0_eq (c : Dev nD) : (unscopedSems0 c : sProp 𝕄) = semVal (gc c barL) 0 := by
  unfold unscopedSems0; rw [bigSep_eq_bigSepL_of_eq [SemLoc.reg barS] (by decide) (by decide)]; rfl
theorem sems_set : insert barL (Finset.univ.map ⟨osem, osem_inj⟩) = Finset.univ.map ⟨cloc, cloc_inj⟩ ∪ Finset.univ.map ⟨spl, spl_inj⟩ := by decide +kernel
theorem sems_bar : barL ∉ (Finset.univ.map ⟨osem, osem_inj⟩ : Finset (SemLoc sig)) := by decide +kernel
theorem sems_disj : Disjoint (Finset.univ.map ⟨cloc, cloc_inj⟩ : Finset (SemLoc sig)) (Finset.univ.map ⟨spl, spl_inj⟩) := by decide +kernel

theorem sems_eq (c : Dev nD) :
    (iprop(unscopedSems0 c ∗ Pipeline.ownSems0 (Ix := Unit) (Name := ℕ) (U := UU) (Lvl := ℕ) (Val := Elt F) (τ := τ) osem c) : sProp 𝕄)
      = iprop((bigSep Finset.univ fun i : Fin 52 => semVal (kcell (c, i)) 0) ∗ Spare c) := by
  have h1 : (bigSep (insert barL (Finset.univ.map ⟨osem, osem_inj⟩)) fun sm => (semVal (gc c sm) 0 : sProp 𝕄))
      = iprop(unscopedSems0 c ∗ Pipeline.ownSems0 (Ix := Unit) (Name := ℕ) (U := UU) (Lvl := ℕ) (Val := Elt F) (τ := τ) osem c) := by
    rw [bigSep_insert sems_bar, bigSep_map, unscopedSems0_eq]; rfl
  rw [← h1, sems_set, bigSep_union sems_disj, bigSep_map, bigSep_map]; rfl

/-! ## Dealing the tokens -/

def ringCells : Finset (GSem nD τ sig) := Finset.univ.map ⟨kcell, kcell_injective⟩

/-- The token a device pays `n` with, and that of its own send cell when the payment is a transfer; a token no one uses otherwise. -/
def tk (x : Fin 30 × Bool) : SemLoc sig × ℕ × Fin 2 :=
  if x.2 = false then (dloc x.1.val, 0, db x.1.val)
  else if isPut x.1.val then (sendL (dj x.1.val % 2) (dj x.1.val / 2), 0, 0) else (barL, x.1.val + 1, 0)
def tdev (x : Fin 30 × Bool) (c : Dev nD) : Dev nD := if x.2 = false then dto x.1.val c else c
theorem tk_inj : Function.Injective tk := by decide +kernel
theorem dto_inj : ∀ n : Fin 30, ∀ c d : Dev nD, dto n.val c = dto n.val d → c = d := by decide +kernel
def tokOf (x : Dev nD × Fin 30 × Bool) : GSem nD τ sig × ℕ × Fin 2 := (gc (tdev x.2 x.1) (tk x.2).1, (tk x.2).2.1, (tk x.2).2.2)
theorem tokOf_inj : Function.Injective tokOf := by
  rintro ⟨c, x⟩ ⟨d, y⟩ h
  have h1 : tdev x c = tdev y d := congrArg (fun t : GSem nD τ sig × ℕ × Fin 2 => t.1.1.1) h
  have h2 : tk x = tk y := congrArg (fun t : GSem nD τ sig × ℕ × Fin 2 => (t.1.2, t.2.1, t.2.2)) h
  have h3 := tk_inj h2
  subst h3
  unfold tdev at h1
  split at h1
  · rw [dto_inj x.1 c d h1]
  · rw [h1]
def ringToks : Finset (GSem nD τ sig × ℕ × Fin 2) := Finset.univ.map ⟨tokOf, tokOf_inj⟩

theorem toks_pays (c : Dev nD) : (bigSep Finset.univ fun x : Fin 30 × Bool => (dutyTok ER (tokOf (c, x)).1 (tokOf (c, x)).2.1 (tokOf (c, x)).2.2 : sProp 𝕄))
    ⊢ Pays c 0 := by
  unfold Pays
  rw [← Finset.range_eq_Ico, ← fin_range 30 (ptok c), bigSep_univ_prod]
  refine bigSep_mono fun n _ => ?_
  rw [bigSep_univ_eq_bigSepL [false, true] (by decide) (by decide), bigSepL_cons_cons, bigSepL_singleton]
  unfold ptok
  refine sep_mono ?_ ?_
  · exact BI.Entails.refl _
  · by_cases h : isPut n.val = true
    · rw [if_pos h]
      have e : tk (n, true) = (sendL (dj n.val % 2) (dj n.val / 2), 0, 0) := by unfold tk; exact (if_neg Bool.noConfusion).trans (if_pos h)
      have g : tokOf (c, n, true) = (gc c (sendL (dj n.val % 2) (dj n.val / 2)), 0, 0) := by unfold tokOf; rw [e]; rfl
      rw [g]; exact BI.Entails.refl _
    · rw [if_neg h]
      exact fun _ _ => trivial

/-- What the launch deals device `c`: its cells, unopened, its place at each of them, and what it pays with. -/
def G (c : Dev nD) : sProp 𝕄 :=
  iprop((bigSep Finset.univ fun i : Fin 52 => roundState ER (ringRd I) (kcell (c, i)) 0)
    ∗ (bigSep Finset.univ fun i : Fin 52 => atPos ER (kcell (c, i)) 0 ∅ 0) ∗ (bigSep Finset.univ fun i : Fin 52 => reached ER (kcell (c, i)) 0) ∗ Pays c 0)

theorem cells_dev (Φ : GSem nD τ sig → sProp 𝕄) :
    bigSep ringCells Φ = bigSep Finset.univ fun c : Dev nD => bigSep Finset.univ fun i : Fin 52 => Φ (kcell (c, i)) := by
  unfold ringCells; rw [bigSep_map, bigSep_univ_prod]; rfl

theorem fund_ring : BI.own (ER (initOf ringCells ringToks)) ⊢ (|==> bigSep Finset.univ (G I) : sProp 𝕄) := by
  have hT : bigSep ringToks (fun x => (dutyTok ER x.1 x.2.1 x.2.2 : sProp 𝕄)) ⊢ bigSep Finset.univ fun c : Dev nD => Pays c 0 := by
    unfold ringToks; rw [bigSep_map, bigSep_univ_prod]
    exact bigSep_mono fun c _ => toks_pays c
  iintro HX
  imod (Rounds.fund ER (ringRd I) ringCells ringToks) $$ HX with ⟨Hst, Hr, Hat, Htok⟩
  imodintro
  ihave Hst := (Entails.of_eq (cells_dev fun g => roundState ER (ringRd I) g 0)) $$ Hst
  ihave Hat := (Entails.of_eq (cells_dev fun g => atPos ER g 0 ∅ 0)) $$ Hat
  ihave Hr := (Entails.of_eq (cells_dev fun g => reached ER g 0)) $$ Hr
  ihave Htok := hT $$ Htok
  unfold G; simp only [bigSep_sep']
  isplitl [Hst]; · iexact Hst
  isplitl [Hat]; · iexact Hat
  isplitl [Hr]; · iexact Hr
  iexact Htok

/-- The cells' invariants, and that each has reached its round. -/
def Recs (K : Dev nD × Fin 52 → ℕ) : sProp 𝕄 :=
  bigSep Finset.univ (fun x : Dev nD × Fin 52 => iprop(cellInv ER (ringRd I) (K x) (kcell x) ∗ reached ER (kcell x) 0))
instance Recs_persistent : BI.Persistent (Recs I K) := by unfold Recs; infer_instance

/-- What each device keeps to itself. -/
def Keep (c : Dev nD) : sProp 𝕄 := iprop((bigSep Finset.univ fun i : Fin 52 => atPos ER (kcell (c, i)) 0 ∅ 0) ∗ Pays c 0 ∗ Spare c)
def G' (c : Dev nD) : sProp 𝕄 := iprop((∃ K, Recs I K) ∗ Keep c)

/-- A device opens its cells. -/
theorem core_alloc (c : Dev nD) :
    iprop(Pipeline.ownSems0 (Ix := Unit) (Name := ℕ) (U := UU) (Lvl := ℕ) (Val := Elt F) (τ := τ) osem c ∗ unscopedSems0 c ∗ G I c)
      ⊢ |={Set.univ}=> iprop((bigSep Finset.univ fun i : Fin 52 => iprop(∃ κ : ℕ, cellInv ER (ringRd I) κ (kcell (c, i))))
          ∗ (bigSep Finset.univ fun i : Fin 52 => reached ER (kcell (c, i)) 0) ∗ Keep c) := by
  have hi : iprop((bigSep Finset.univ fun i : Fin 52 => semVal (kcell (c, i)) 0) ∗ bigSep Finset.univ fun i : Fin 52 => roundState ER (ringRd I) (kcell (c, i)) 0)
      ⊢ (|={Set.univ}=> bigSep Finset.univ fun i : Fin 52 => iprop(∃ κ : ℕ, cellInv ER (ringRd I) κ (kcell (c, i))) : sProp 𝕄) := by
    rw [← bigSep_sep']
    exact (bigSep_mono fun i _ => (Rounds.body_intro ER (ringRd I) (kcell (c, i))).trans inv_alloc).trans (bigSep_fupd _ _)
  unfold G Keep
  iintro ⟨Ho, Hu, Hst, Hat, Hr, HP⟩
  ihave Hs := (Entails.of_eq (sems_eq c)) $$ [Ho Hu]
  · isplitl [Hu]; · iexact Hu
    iexact Ho
  icases Hs with ⟨Hv, Hsp⟩
  imod hi $$ [Hv Hst] with Hinv
  · isplitl [Hv]; · iexact Hv
    iexact Hst
  imodintro
  isplitl [Hinv]; · iexact Hinv
  isplitl [Hr]; · iexact Hr
  isplitl [Hat]; · iexact Hat
  isplitl [HP]; · iexact HP
  iexact Hsp

theorem recs_keep (c : Dev nD) : iprop(Recs I K ∗ Keep c) ⊢ G' I c := by
  unfold G'
  iintro ⟨H1, H2⟩
  isplitl [H1]; · iexists K; iexact H1
  iexact H2

/-- What the devices have opened, put together. -/
theorem regroup : (bigSep Finset.univ fun c : Dev nD => iprop((bigSep Finset.univ fun i : Fin 52 => iprop(∃ κ : ℕ, cellInv ER (ringRd I) κ (kcell (c, i))))
          ∗ (bigSep Finset.univ fun i : Fin 52 => reached ER (kcell (c, i)) 0) ∗ Keep c) : sProp 𝕄) ⊢ bigSep Finset.univ (G' I) := by
  rw [bigSep_sep', bigSep_sep', ← bigSep_univ_prod (fun x : Dev nD × Fin 52 => iprop(∃ κ : ℕ, cellInv ER (ringRd I) κ (kcell x))),
    ← bigSep_univ_prod (fun x : Dev nD × Fin 52 => (reached ER (kcell x) 0 : sProp 𝕄))]
  iintro ⟨HI, HR, HK⟩
  ihave HI := (BI.bigSep_exists_pi Finset.univ (fun (x : Dev nD × Fin 52) (κ : ℕ) => (cellInv ER (ringRd I) κ (kcell x) : sProp 𝕄))) $$ HI
  icases HI with ⟨%K, HI⟩
  have hr : iprop((bigSep Finset.univ fun x : Dev nD × Fin 52 => (cellInv ER (ringRd I) (K x) (kcell x) : sProp 𝕄)) ∗ bigSep Finset.univ fun x : Dev nD × Fin 52 => (reached ER (kcell x) 0 : sProp 𝕄))
      ⊢ Recs I K := by unfold Recs; rw [bigSep_sep']
  ihave #HRec := hr $$ [HI HR]
  · isplitl [HI]; · iexact HI
    iexact HR
  have hd : iprop(Recs I K ∗ bigSep Finset.univ fun c : Dev nD => Keep c) ⊢ bigSep Finset.univ (G' I) := by
    refine (sep_mono_left (BI.bigSep_of_persistent (Finset.univ : Finset (Dev nD)) (Recs I K))).trans ?_
    rw [← bigSep_sep']
    exact bigSep_mono fun c _ => recs_keep I K c
  iapply hd
  isplitr; · iexact HRec
  iexact HK

/-- All devices open theirs. -/
theorem glob : (bigSep Finset.univ fun c : Dev nD => iprop(Pipeline.ownSems0 (Ix := Unit) (Name := ℕ) (U := UU) (Lvl := ℕ) (Val := Elt F) (τ := τ) osem c ∗ unscopedSems0 c ∗ G I c) : sProp 𝕄)
    ⊢ |={Set.univ}=> bigSep Finset.univ (G' I) := by
  refine BI.Entails.trans (bigSep_mono fun c _ => core_alloc I c) ?_
  refine BI.Entails.trans (bigSep_fupd _ _) ?_
  exact BI.fupd_mono (regroup I)

/-! ## The credits at launch -/

/-- How many payments go to a cell. -/
def cnt (sm : SemLoc sig) : ℕ :=
  match sm with
  | .reg s => if s.val < 2 then 1 else 2
  | .dma _ => 1
theorem wamt_cnt (sm : SemLoc sig) : wamt sm = cnt sm * amtOf sm := by
  cases sm with
  | reg s => show (if s.val < 2 then 1 else 2) = (if s.val < 2 then 1 else 2) * 1; rw [Nat.mul_one]
  | dma q => show N = 1 * N; rw [Nat.one_mul]
theorem count : ∀ (i : Fin 52) (c : Dev nD), isSnd (cloc i) = false →
    (∑ d : Dev nD, ∑ n ∈ Finset.Ico 0 30, if dto n d = c ∧ dloc n = cloc i then 1 else 0) = cnt (cloc i) := by decide +kernel

theorem owed_at (d c : Dev nD) (sm : SemLoc sig) :
    owedFrom d 0 (gc c sm) () = (∑ n ∈ Finset.Ico 0 30, if dto n d = c ∧ dloc n = sm then 1 else 0) * amtOf sm := by
  unfold owedFrom
  rw [Finset.sum_apply, Finsupp.finset_sum_apply, Finset.sum_mul]
  refine Finset.sum_congr rfl fun n _ => ?_
  rw [tallyAt_apply]
  by_cases h : dto n d = c ∧ dloc n = sm
  · rw [if_pos h, h.1, h.2, if_pos ⟨rfl, rfl⟩, Nat.one_mul]
  · rw [if_neg h, if_neg, Nat.zero_mul]
    rintro ⟨e, -⟩
    exact h ⟨(congrArg (fun g : GSem nD τ sig => g.1.1) e).symm, (congrArg Prod.snd e).symm⟩

theorem credit_at (c : Dev nD) (i : Fin 52) (h : isSnd (cloc i) = false) :
    tallyOn (gc c (cloc i)) (launchCredit (Pipeline.owing fun d => owedFrom d 0) 0 (gc c (cloc i))) = (tallyAt (gc c (cloc i)) () (wamt (cloc i)) : CellTallies nD τ sig Unit) := by
  unfold tallyAt; refine congrArg _ (Finsupp.ext fun u => ?_); cases u
  rw [Pipeline.launchCredit_owing, Finsupp.single_eq_same, Finset.sum_congr rfl fun d _ => owed_at d c (cloc i), ← Finset.sum_mul, count i c h, wamt_cnt]

theorem creds (c : Dev nD) : (Pipeline.launchCred (fun d => owedFrom d 0) c : sProp 𝕄)
    ⊢ bigSep Finset.univ fun i : Fin 52 => if isSnd (cloc i) then BI.emp else cred (tallyAt (gc c (cloc i)) () (wamt (cloc i))) := by
  unfold Pipeline.launchCred
  refine (bigSep_subset (Finset.subset_univ (Finset.univ.map ⟨cloc, cloc_inj⟩))).trans ?_
  rw [bigSep_map]
  refine bigSep_mono fun i _ => ?_
  by_cases h : isSnd (cloc i) = true
  · rw [if_pos h]
    exact fun _ _ => trivial
  · rw [if_neg h]
    have h' : isSnd (cloc i) = false := by simpa using h
    rw [← credit_at c i h']
    exact BI.Entails.refl _

/-- What a device starts its protocol with. -/
theorem wts_in (c : Dev nD) : iprop((bigSep Finset.univ fun i : Fin 52 => atPos ER (kcell (c, i)) 0 ∅ 0)
      ∗ bigSep Finset.univ fun i : Fin 52 => if isSnd (cloc i) then BI.emp else cred (tallyAt (gc c (cloc i)) () (wamt (cloc i))))
    ⊢ (Wts c 0 : sProp 𝕄) := by
  rw [← bigSep_sep', cells_waits (fun sm => iprop(atPos ER (gc c sm) 0 ∅ 0 ∗ if isSnd sm then BI.emp else cred (tallyAt (gc c sm) () (wamt sm))))]
  unfold Wts
  rw [← Finset.range_eq_Ico, Finset.range_zero, bigSep_empty]
  iintro H
  isplitl [H]; · iexact H
  iempintro
/-- What it ends with. -/
theorem wts_out (c : Dev nD) : (Wts c 52 : sProp 𝕄) ⊢ bigSep Finset.univ fun i : Fin 52 => semVal (kcell (c, i)) 0 := by
  rw [cells_waits (fun sm => semVal (gc c sm) 0)]
  unfold Wts
  iintro ⟨-, H⟩
  iexact H

end Cert.RingProof
-- ==== Proof.Launch.lean ====
/-
# The launch
-/
module

public import proofs.«01_k».proof.Proof.Deal
public import Idealize.ShloMosaic.Lib.Pipeline.CollectiveSegs

@[expose] public section

set_option maxRecDepth 16384

noncomputable section

namespace Cert.RingProof

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The kernel's arguments as the memory holds them. -/
def inp : Inp F where
  x c := m ((c : Thread nD τ).loc main_arg0)
  k c := m ((c : Thread nD τ).loc main_arg1)
  w c := m ((c : Thread nD τ).loc main_arg2)

/-! ## Before and after the body -/

def xPts (c : Dev nD) : sProp 𝕄 := (((c : Thread nD τ).loc main_arg0) ↦{fullShare} (m ((c : Thread nD τ).loc main_arg0)))
def yPts (c : Dev nD) : sProp 𝕄 := (((c : Thread nD τ).loc main_v1) ↦{fullShare} (res (inp m)))

def start (c : Dev nD) : sProp 𝕄 :=
  iprop(G' (inp m) c ∗ (bigSep Finset.univ fun i : Fin 52 => if isSnd (cloc i) then BI.emp else cred (tallyAt (gc c (cloc i)) () (wamt (cloc i))))
    ∗ levAts L lv ∗ xPts m c ∗ ∃ f : Buf (Elt F) ((c : Thread nD τ).loc main_v1), (((c : Thread nD τ).loc main_v1) ↦{fullShare} f))
def Φ₀ (c : Dev nD) : sProp 𝕄 := iprop(start m c ∗ Pipeline.scopedRest spec0 c)
def Φ₁ (c : Dev nD) : sProp 𝕄 :=
  iprop((unscopedSems0 c ∗ Pipeline.ownSems0 (Ix := Unit) (Name := ℕ) (U := UU) (Lvl := ℕ) (Val := Elt F) (τ := τ) osem c)
    ∗ Pipeline.scopedRest spec0 c ∗ xPts m c ∗ yPts m c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => (inp m).k c
    | ⟨1, _⟩ => (inp m).w c
  Φ t := match t with
    | ⟨0, _⟩ => Φ₀ m c
    | ⟨_ + 1, _⟩ => Φ₁ m c
  q _ := fullShare
  owed t := match t with
    | ⟨0, _⟩ => owedFrom c 0
    | ⟨_ + 1, _⟩ => 0

theorem blk_0 (f : Vec F S4x1024 .f32) : (win0_0.blk (0 : Fin 1)).view.read (Elt F) f = f := by
  funext j
  refine congrArg f (funext fun a => Fin.ext ?_)
  match a with
  | 0 => show 0 + 1 * (j 0).val = (j 0).val; omega
  | 1 => show 0 + 1 * (j 1).val = (j 1).val; omega
theorem blk_1 (f : Vec F S1024x1024 .f32) : (win0_1.blk (0 : Fin 1)).view.read (Elt F) f = f := by
  funext j
  refine congrArg f (funext fun a => Fin.ext ?_)
  match a with
  | 0 => show 0 + 1 * (j 0).val = (j 0).val; omega
  | 1 => show 0 + 1 * (j 1).val = (j 1).val; omega
theorem before_0 (c : Dev nD) (d) : (dats m ρ 0 c).before (0 : Fin 2) t0_0 d = (inp m).k c := by
  unfold Dat.before; rw [if_pos (show (cfg0.win (0 : Fin 2)).fetch t0_0 = true from rfl)]; exact blk_0 (F := F) _
theorem before_1 (c : Dev nD) (d) : (dats m ρ 0 c).before (1 : Fin 2) t0_0 d = (inp m).w c := by
  unfold Dat.before; rw [if_pos (show (cfg0.win (1 : Fin 2)).fetch t0_0 = true from rfl)]; exact blk_1 (F := F) _

/-! ## What the body needs, from what the launch gives, and back -/

theorem x_halves (c : Dev nD) : xPts m c ⊢ iprop(XH (inp m) c 0 ∗ XH (inp m) c 1) := by
  unfold xPts XH
  refine BIBase.Entails.trans ?_ (half_split c (Memref.whole main_arg0) ((inp m).x c))
  exact Entails.of_eq (owns_whole (c : Thread nD τ) main_arg0 fullShare _).symm
theorem x_whole (c : Dev nD) : iprop(XH (inp m) c 0 ∗ XH (inp m) c 1) ⊢ xPts m c := by
  unfold xPts XH
  refine (half_join c (Memref.whole main_arg0) ((inp m).x c) ((inp m).x c)).trans ?_
  exact Entails.of_eq (owns_whole (c : Thread nD τ) main_arg0 fullShare _)

/-- The four semaphores of transfers within the device. -/
theorem spare_eq (c : Dev nD) : (Spare c : sProp 𝕄) = iprop(semVal (gc c (.dma (copyS 0))) 0 ∗ semVal (gc c (.dma (copyS 1))) 0
    ∗ semVal (gc c (.dma (stageS 0))) 0 ∗ semVal (gc c (.dma (stageS 1))) 0) := by
  unfold Spare; rw [bigSep_univ_eq_bigSepL [0, 1, 2, 3] (by decide) (by decide)]; rfl

/-- Everything but the staged windows that the body starts from, -/
def Pre (c : Dev nD) : sProp 𝕄 :=
  iprop((∃ K, Env (inp m) K) ∗ (Pays c 0 ∗ Wts c 0) ∗ (landAll c 0 ∗ landAll c 1) ∗ (CpIdle (inp m) c 0 ∗ CpIdle (inp m) c 1) ∗ All8 c cbS
    ∗ (StIdle c 0 ∗ StIdle c 1) ∗ Outs c 0 ∗ Outs c 1)

theorem land_in (c : Dev nD) : iprop(All8 c rbS ∗ All12 c abS) ⊢ (iprop(landAll c 0 ∗ landAll c 1) : sProp 𝕄) := by
  unfold All8 All12 landAll
  iintro ⟨⟨R0, R1, R2, R3, R4, R5, R6, R7⟩, A0, A1, A2, A3, A4, A5, A6, A7, A8, A9, A10, A11⟩
  isplitl [R0 R1 R2 R3 A0 A1 A2 A3 A4 A5]
  · isplitl [R0]; · iexact R0
    isplitl [R1]; · iexact R1
    isplitl [R2]; · iexact R2
    isplitl [R3]; · iexact R3
    isplitl [A0]; · iexact A0
    isplitl [A1]; · iexact A1
    isplitl [A2]; · iexact A2
    isplitl [A3]; · iexact A3
    isplitl [A4]; · iexact A4
    iexact A5
  · isplitl [R4]; · iexact R4
    isplitl [R5]; · iexact R5
    isplitl [R6]; · iexact R6
    isplitl [R7]; · iexact R7
    isplitl [A6]; · iexact A6
    isplitl [A7]; · iexact A7
    isplitl [A8]; · iexact A8
    isplitl [A9]; · iexact A9
    isplitl [A10]; · iexact A10
    iexact A11

theorem pre_intro (c : Dev nD) : Φ₀ m c ⊢ Pre m c := by
  unfold Φ₀ start G' Keep Pre
  rw [scopedRest0_eq, spare_eq]
  iintro ⟨⟨⟨⟨%K, #HR⟩, Hat, HP, S0, S1, T0, T1⟩, Hcr, #Hlev, Hx, Hy⟩, B0, B1, B2, B3, B4⟩
  isplitr
  · iexists K
    unfold Env
    isplitr
    · unfold Recs; iexact HR
    · iexact Hlev
  isplitl [Hat HP Hcr]
  · isplitl [HP]; · iexact HP
    iapply (wts_in c)
    isplitl [Hat]; · iexact Hat
    iexact Hcr
  isplitl [B2 B3]
  · iapply (land_in c)
    isplitl [B2]; · iapply (r_in c); iexact B2
    iapply (a_in c); iexact B3
  isplitl [B0 Hx S0 S1]
  · ihave HX := (x_halves m c) $$ Hx
    ihave HB := (x_in c) $$ B0
    icases HX with ⟨X0, X1⟩
    icases HB with ⟨B0, B1⟩
    unfold CpIdle anyX
    isplitl [B0 X0 S0]
    · isplitl [B0]; · iexact B0
      isplitl [X0]; · iexact X0
      iexact S0
    · isplitl [B1]; · iexact B1
      isplitl [X1]; · iexact X1
      iexact S1
  isplitl [B1]; · iapply (c_in c); iexact B1
  isplitl [B4 T0 T1]
  · ihave HB := (s_in c) $$ B4
    icases HB with ⟨B0, B1⟩
    unfold StIdle anyS
    isplitl [B0 T0]
    · isplitl [B0]; · iexact B0
      iexact T0
    · isplitl [B1]; · iexact B1
      iexact T1
  iapply (outs_in c); iexact Hy

/-- and what it leaves. -/
theorem post_elim (c : Dev nD) : Final (inp m) c ⊢ iprop((Ow c 30 ∗ KW (inp m) c) ∗ Φ₁ m c) := by
  unfold Final Φ₁ St CpIdle StIdle
  rw [sems_eq, scopedRest0_eq, spare_eq]
  iintro ⟨⟨HO, -, HW⟩, ⟨X0, H0, S0⟩, ⟨X1, H1, S1⟩, HKW, C0, C1, C2, C3, C4, C5, C6, C7, R0, R1, R2, R3, R4, R5, R6, R7,
    A0, A1, A2, A3, A4, A5, A6, A7, A8, A9, A10, A11, ⟨T0, V0⟩, ⟨T1, V1⟩, O0, O1, O2, O3, O4, O5, O6, O7⟩
  isplitl [HO HKW]
  · isplitl [HO]; · iexact HO
    iexact HKW
  isplitl [HW S0 S1 V0 V1]
  · isplitl [HW]; · iapply (wts_out c); iexact HW
    isplitl [S0]; · iexact S0
    isplitl [S1]; · iexact S1
    isplitl [V0]; · iexact V0
    iexact V1
  isplitl [X0 X1 C0 C1 C2 C3 C4 C5 C6 C7 R0 R1 R2 R3 R4 R5 R6 R7 A0 A1 A2 A3 A4 A5 A6 A7 A8 A9 A10 A11 T0 T1]
  · isplitl [X0 X1]
    · iapply (x_out c)
      unfold anyX
      isplitl [X0]; · iexact X0
      iexact X1
    isplitl [C0 C1 C2 C3 C4 C5 C6 C7]
    · iapply (c_out c)
      unfold All8
      isplitl [C0]; · iexact C0
      isplitl [C1]; · iexact C1
      isplitl [C2]; · iexact C2
      isplitl [C3]; · iexact C3
      isplitl [C4]; · iexact C4
      isplitl [C5]; · iexact C5
      isplitl [C6]; · iexact C6
      iexact C7
    isplitl [R0 R1 R2 R3 R4 R5 R6 R7]
    · iapply (r_out c)
      unfold All8
      isplitl [R0]; · iexact R0
      isplitl [R1]; · iexact R1
      isplitl [R2]; · iexact R2
      isplitl [R3]; · iexact R3
      isplitl [R4]; · iexact R4
      isplitl [R5]; · iexact R5
      isplitl [R6]; · iexact R6
      iexact R7
    isplitl [A0 A1 A2 A3 A4 A5 A6 A7 A8 A9 A10 A11]
    · iapply (a_out c)
      unfold All12
      isplitl [A0]; · iexact A0
      isplitl [A1]; · iexact A1
      isplitl [A2]; · iexact A2
      isplitl [A3]; · iexact A3
      isplitl [A4]; · iexact A4
      isplitl [A5]; · iexact A5
      isplitl [A6]; · iexact A6
      isplitl [A7]; · iexact A7
      isplitl [A8]; · iexact A8
      isplitl [A9]; · iexact A9
      isplitl [A10]; · iexact A10
      iexact A11
    iapply (s_out c)
    unfold anyS
    isplitl [T0]; · iexact T0
    iexact T1
  isplitl [H0 H1]
  · iapply (x_whole m c)
    isplitl [H0]; · iexact H0
    iexact H1
  unfold yPts
  iapply (outs_out c (inp m))
  unfold Rows
  isplitl [O0 O1 O2 O3]
  · isplitl [O0]; · iexact O0
    isplitl [O1]; · iexact O1
    isplitl [O2]; · iexact O2
    iexact O3
  · isplitl [O4]; · iexact O4
    isplitl [O5]; · iexact O5
    isplitl [O6]; · iexact O6
    iexact O7

/-! ## The body obligation -/

abbrev held (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

def bodyPre (c : Dev nD) : sProp 𝕄 :=
  iprop(Φ₀ m c ∗ (dats m ρ 0 c).owesAt () t0_0.castSucc
    ∗ (∃ d, held c cc0_stg0_0 ((dats m ρ 0 c).before (0 : Fin 2) t0_0 d))
    ∗ (∃ d, held c cc0_stg1_0 ((dats m ρ 0 c).before (1 : Fin 2) t0_0 d)))
def bodyPost (c : Dev nD) : sProp 𝕄 :=
  iprop(Φ₁ m c ∗ (dats m ρ 0 c).owesAt () t0_0.succ ∗ held c cc0_stg0_0 ((inp m).k c) ∗ held c cc0_stg1_0 ((inp m).w c))

theorem held_owns (c : Dev nD) (b : Ref sig .tc) (X : b.ty.Contents (Elt F)) : held c b X = (ownsTc c (Memref.whole b) fullShare X : sProp 𝕄) :=
  (owns_whole_eq (c : Thread nD τ) b fullShare X).symm

theorem owes_in (c : Dev nD) : (dats m ρ 0 c).owesAt () t0_0.castSucc ⊢ (Ow c 0 : sProp 𝕄) := by
  unfold Dat.owesAt Pipeline.owesWithin Ow
  iintro ⟨%W, %hW, HO⟩
  iexists W
  iexact HO
theorem owes_out (c : Dev nD) : (Ow c 30 : sProp 𝕄) ⊢ (dats m ρ 0 c).owesAt () t0_0.succ := by
  unfold Dat.owesAt Pipeline.owesWithin Ow
  rw [owedFrom_end]
  iintro ⟨%W, HO⟩
  iexists W
  isplitr; · ipureintro; exact fun _ _ => Or.inl trivial
  iexact HO

theorem sound_body (c : Dev nD) : bodyPre m ρ c ⊢ Run c (cc0_body (Memref.whole main_arg0) (Memref.isWhole_whole _) (Memref.whole cc0_stg0_0) (Memref.isWhole_whole _)
    (Memref.whole cc0_stg1_0) (Memref.isWhole_whole _) (Memref.whole main_v1) (Memref.isWhole_whole _) (Memref.whole cc0_scratch0) (Memref.isWhole_whole _)
    (Memref.whole cc0_scratch1) (Memref.isWhole_whole _) (Memref.whole cc0_scratch2) (Memref.isWhole_whole _) (Memref.whole cc0_scratch3) (Memref.isWhole_whole _)
    (Memref.whole cc0_scratch4) (Memref.isWhole_whole _) cc0_scratch5 cc0_scratch6 cc0_scratch7 cc0_scratch8 cc0_scratch9 cc0_scoped0) (fun _ => bodyPost m ρ c) := by
  unfold bodyPre
  simp only [before_0, before_1, held_owns]
  iintro ⟨HΦ, HO, ⟨%d0, H0⟩, ⟨%d1, H1⟩⟩
  ihave HP := (pre_intro m c) $$ HΦ
  ihave HO := (owes_in m ρ c) $$ HO
  unfold Pre All8
  icases HP with ⟨⟨%K, #HE⟩, ⟨HP, HW⟩, ⟨L0, L1⟩, ⟨P0, P1⟩, ⟨C0, C1, C2, C3, C4, C5, C6, C7⟩, ⟨T0, T1⟩, O0, O1⟩
  iapply (run_body (inp m) K c) $$ HE [HO HP HW] L0 L1 P0 P1 C0 C1 C2 C3 C4 C5 C6 C7 [H0 H1] T0 T1 O0 O1
  · unfold St
    isplitl [HO]; · iexact HO
    isplitl [HP]; · iexact HP
    iexact HW
  · unfold KW
    isplitl [H0]; · iexact H0
    iexact H1
  iintro HF
  ihave HF := (post_elim m c) $$ HF
  icases HF with ⟨⟨HO, HKW⟩, HΦ⟩
  unfold bodyPost KW
  simp only [held_owns]
  icases HKW with ⟨H0, H1⟩
  isplitl [HΦ]; · iexact HΦ
  isplitl [HO]; · iapply (owes_out m ρ c); iexact HO
  isplitl [H0]; · iexact H0
  iexact H1

theorem body_obligation (c : Dev nD) : BodyObligation (dats (F := F) m ρ 0 c) (defs₀ (F := F)) 𝒱₀ () Set.univ := fun t => by
  rw [fin_N0 t]
  rw [bigSep_W0, bigSep_W0]
  simp only [owns_whole_eq]
  exact sound_body m ρ c

/-! ## The run -/

theorem ownU_split (a : UR sig nD τ) (b : UB) : (ownU ((a, (b, 1)) : UU) : sProp 𝕄) ⊢ iprop(BI.own (EP a) ∗ BI.own (ER b)) :=
  BI.own_op_elim ((uEmb (nD := nD) (sig := sig) (Ix := Unit) (Val := Elt F) (Name := ℕ) (U := UU) (Lvl := ℕ)).toEmb.op_of_mem
    (Prod.mk_mem_op (URA.mem_op_one a) (URA.mem_one_op (b, (1 : Counters)))))

def u₀ : UU :=
  (initOf (Pipeline.cells cfgs cellOf_inj) (Pipeline.launchToks cfgs cellOf_inj), (initOf ringCells ringToks, 1))

/-- What device `c` holds at the end. -/
def Fin_ (c : Dev nD) : sProp 𝕄 := iprop(unscopedSems0 c ∗ xPts m c ∗ yPts m c)

theorem start_intro (c : Dev nD) :
    iprop(Pipeline.unscopedRestP Pipeline.Prefetch.none cfg0.spec c (fun b => m ((c : Thread nD τ).loc b)) ∗ levAts L lv
        ∗ Pipeline.launchCred (fun d => owedFrom d 0) c ∗ prngReg c (ρ c) ∗ G' (inp m) c)
      ⊢ |={Set.univ}=> iprop(start m c ∗ emp) := by
  rw [Pipeline.unscopedRestP_none, unscopedRest0_eq]
  iintro ⟨⟨Hx, Hy⟩, Hlev, Hcr, -, HG⟩
  ihave Hc := (creds (F := F) c) $$ Hcr
  imodintro
  unfold start xPts
  isplitl
  · isplitl [HG]; · iexact HG
    isplitl [Hc]; · iexact Hc
    isplitl [Hlev]; · iexact Hlev
    isplitl [Hx]; · iexact Hx
    iexists _; iexact Hy
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl]
  unfold Φ₀
  iintro ⟨Hs, -, Hr⟩
  isplitl [Hs]; · iexact Hs
  iexact Hr

theorem phi1_exit (c : Dev nD) :
    (dats m ρ 0 c).Φ (Fin.last cfg0.N) ⊢ iprop(Fin_ m c ∗ Pipeline.ownSems0 osem c ∗ Pipeline.scopedRest cfg0.spec c) := by
  rw [show (dats m ρ 0 c).Φ (Fin.last cfg0.N) = Φ₁ m c from rfl]
  unfold Φ₁ Fin_
  iintro ⟨⟨HzB, HzO⟩, Hr, Hx, Hy⟩
  isplitl [HzB Hx Hy]
  · isplitl [HzB]; · iexact HzB
    isplitl [Hx]; · iexact Hx
    iexact Hy
  isplitl [HzO]; · iexact HzO
  iexact Hr

theorem wait_in (c : Dev nD) (sm : SemLoc sig) (h : lvS sm = 0) (O : CellTallies nD τ sig Unit) (hO : O = owedFrom c 0 ∨ O = 0) :
    (levAts L lv : sProp 𝕄) ⊢ MayWait (c : Thread nD τ) sm () O := by
  rcases hO with rfl | rfl
  · exact mayWait c sm 0 (fun i hi _ => by rw [h]; exact lv0 i hi)
  · rw [MayWait_zero]; iintro -; iempintro

theorem waits (c : Dev nD) : (levAts L lv : sProp 𝕄) ⊢ Pipeline.cellsWaits cfgs (dats m ρ) () 0 c :=
  Pipeline.cellsWaits_intro cfgs (dats m ρ) () 0 c fun w s t =>
    wait_in c _ (by fin_cases w <;> fin_cases s <;> decide) _ (by
      rcases t with ⟨_ | _, ht⟩
      · exact Or.inl rfl
      · exact Or.inr rfl)

theorem share_eq (c : Dev nD) (w : Fin cfg0.W) : (dats m ρ 0 c).share w = fullShare := by
  unfold Dat.share; split <;> rfl

/-- What the run leaves in device `c`'s memory. -/
def Ends (c : Dev nD) (s : MemSt nD τ sig (Elt F)) : Prop :=
  s.mem ((c : Thread nD τ).loc main_arg0) = m ((c : Thread nD τ).loc main_arg0)
    ∧ s.mem ((c : Thread nD τ).loc main_arg1) = m ((c : Thread nD τ).loc main_arg1)
    ∧ s.mem ((c : Thread nD τ).loc main_arg2) = m ((c : Thread nD τ).loc main_arg2)
    ∧ s.mem ((c : Thread nD τ).loc main_v1) = res (inp m)

def Reads (c : Dev nD) (s : MemSt nD τ sig (Elt F)) : Prop :=
  s.mem ((c : Thread nD τ).loc main_arg0) = m ((c : Thread nD τ).loc main_arg0)
    ∧ s.mem ((c : Thread nD τ).loc main_v1) = res (inp m)
    ∧ ∀ sm : SemLoc sig, sm.isScoped .tc = false → s.sem ((c.tc : Thread nD τ), sm) = 0

theorem reads (c : Dev nD) (s' : Phys nD τ sig (Elt F)) :
    iprop(Fin_ m c ∗ emp ∗ SI s') ⊢ |={Set.univ}=> iprop(⌜Reads m c s'.mem⌝ ∗ SI s') := by
  unfold Fin_ xPts yPts Reads
  iintro ⟨⟨Hu, H0, H1⟩, -, HSI⟩
  icombine HSI H0 gives %h0
  icombine HSI H1 gives %h1
  imod (Pipeline.unscopedSems0_read (X := unscopedSems0 c) (c := c) fupd_intro s') $$ [Hu HSI] with ⟨%hz, HSI⟩
  · isplitl [Hu] <;> iassumption
  imodintro
  isplitr; · ipureintro; exact ⟨Buf.eq_of_forall_mem_univ h0, Buf.eq_of_forall_mem_univ h1, hz⟩
  iexact HSI

set_option maxRecDepth 8000 in
/-- On four devices, for any float values, from any memory with zero counters: every weakly fair execution of @main
    terminates, with the arguments unchanged, the result array as computed and every semaphore counter at zero. -/
theorem run_main : θ_run defs (onTc (τ := τ) (main (F := F))) (s₀ m ρ) (fun r => (∀ c, Ends m c r.2) ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := fun c => owedFrom c 0) (howed₀ := fun _ => rfl) (howedN := fun _ => rfl)
    (L := L) (lv := lv) (hL := L_of_ne) (hwaits := waits m ρ)
    (G := G (inp m)) (G' := G' (inp m)) (u₀ := u₀)
    (hu₀ := by
      unfold u₀
      iintro Hu
      ihave H := (ownU_split _ _) $$ Hu
      icases H with ⟨HP, HX⟩
      imod (fund_ring (inp m)) $$ HX with HG
      imodintro
      isplitl [HP] <;> iassumption)
    (hglob := glob (inp m))
    (hA := fun _ _ => rfl) (hpf := fun _ k => k.elim0)
    (X := start m) (Y := Fin_ m) (Z := fun _ => iprop(emp))
    (hX := start_intro m ρ) (hin := phi0_intro m ρ) (hout := phi1_exit m ρ)
    (QY := Reads m)
    (hY := reads m)
    (hQ := fun r h hs => ⟨fun c => ⟨(h c).2.2.1, ((h c).1 (0 : Fin 2)).trans ((dats m ρ 0 c).arrAt_in (0 : Fin 2) rfl _),
      ((h c).1 (1 : Fin 2)).trans ((dats m ρ 0 c).arrAt_in (1 : Fin 2) rfl _), (h c).2.2.2.1⟩, sem_eq_zero hs fun c => (h c).2.2.2.2⟩)

end Cert.RingProof
-- ==== Proof.Half.lean ====
/-
# Half a chunk at the ideal floats

The gated convolution of one half chunk, times the rows of the projection a device holds, as a sum over its channels.
-/
module

public import proofs.«01_k».proof.Proof.Values
public import Idealize.ShloMosaic.Lib.Pipeline.Value
public import Idealize.ShloMosaic.Lib.ValueIdx
public import Idealize.ShloMosaic.Lib.IdealHost
public import Idealize.ShloMosaic.PureOps.Ideal.Laws

@[expose] public section

set_option maxRecDepth 16384

noncomputable section

namespace Cert.RingProof

open Cert.KernelIdeal Cert.KernelIdeal.Gen

open Idealize.ShloMosaic
open Idealize.ShloMosaic.ValueIdx

/-- The gate: `v / (1 + exp (-v))`. -/
def gate (v : EReal) : EReal := Ideal.div v (1 + Ideal.exp (-v))

theorem exp_nonneg (v : EReal) : 0 ≤ Ideal.exp v := by
  induction v with
  | bot => exact le_refl _
  | top => exact le_top
  | coe r => show (0 : EReal) ≤ ((Real.exp r : ℝ) : EReal); exact_mod_cast (Real.exp_pos r).le

theorem one_add_exp_ne (v : EReal) : 1 + Ideal.exp v ≠ 0 := by
  have h : (1 : EReal) ≤ 1 + Ideal.exp v := by
    have := add_le_add_right (exp_nonneg v) (1 : EReal); simpa [add_comm] using this
  intro e
  rw [e] at h
  exact absurd h (by simp)

/-- The kernel multiplies by the reciprocal instead. -/
theorem gate_eq (v : EReal) : v * Ideal.div 1 (1 + Ideal.exp (0 - v)) = gate v := by
  unfold gate Ideal.div
  rw [zero_sub, if_neg (one_add_exp_ne _), if_neg (one_add_exp_ne _), one_mul]

/-- Half a chunk's window read as a matrix, -/
theorem row_apply (X : Vec Ideal S1x1032x1024 .f32) (off : ℕ) (j : S512x1024.Idx) :
    shapeCast S512x1024 (xrow X off) shapeCasts_S1x512x1024_S512x1024 j
      = X (ix3 0 ⟨(off + (j 0).val) % 1032, Nat.mod_lt _ (by decide)⟩ (j 1)) := by
  rw [shapeCast_apply _ shapeCasts_S1x512x1024_S512x1024 j (ix3 0 (j 0) (j 1)) (by
    rw [Shape.rowMajor_val_three, Shape.rowMajor_val_two]
    show (0 * 512 + (j 0).val) * 1024 + (j 1).val = (j 0).val * 1024 + (j 1).val
    omega)]
  rfl

/-- and a tap repeated down its rows. -/
theorem tap_apply (k : Vec Ideal S4x1024 .f32) (t : Fin 4) (j : S512x1024.Idx) :
    broadcastTo S512x1024 (shapeCast S1x1024 (shapeCast S1024 (krow k t.val) shapeCasts_S1x1024_S1024) shapeCasts_S1024_S1x1024)
      broadcasts_S1x1024_S512x1024 j = k (ix2 t (j 1)) := by
  rw [shapeCast_shapeCast, broadcastTo_apply _ broadcasts_S1x1024_S512x1024 j (ix2 0 (j 1)) (fun a => match a with
    | ⟨0, _⟩ => by show 0 = if (1 : ℕ) = 1 then 0 else (j 0).val; rw [if_pos rfl]
    | ⟨1, _⟩ => by show (j 1).val = if (1024 : ℕ) = 1 then 0 else (j 1).val; rw [if_neg (by decide)])]
  unfold krow
  refine congrArg k ?_
  congr 1
  exact Fin.ext (Nat.mod_eq_of_lt t.isLt)

/-- The rows of the left operand are the rows of the product, -/
theorem dot_lhs_row (j : S512x1024.Idx) (q : dot_S512x1024_S1024x1024_S512x1024_1_0_0_1_n_n.contr.Idx) : (dot_S512x1024_S1024x1024_S512x1024_1_0_0_1_n_n.lhsIdx j q 0).val = (j 0).val := by
  unfold DotDims.lhsIdx
  rw [dif_neg (show ¬(0 : Fin S512x1024.rank) ∈ dot_S512x1024_S1024x1024_S512x1024_1_0_0_1_n_n.lhsBatch by decide),
    dif_pos (show (0 : Fin S512x1024.rank) ∈ dot_S512x1024_S1024x1024_S512x1024_1_0_0_1_n_n.lhsNonContracting by decide)]
  rfl

/-- and the columns of the right operand its columns. -/
theorem dot_rhs_col (j : S512x1024.Idx) (q : dot_S512x1024_S1024x1024_S512x1024_1_0_0_1_n_n.contr.Idx) : (dot_S512x1024_S1024x1024_S512x1024_1_0_0_1_n_n.rhsIdx j q 1).val = (j 1).val := by
  unfold DotDims.rhsIdx
  rw [dif_neg (show ¬(1 : Fin S1024x1024.rank) ∈ dot_S512x1024_S1024x1024_S512x1024_1_0_0_1_n_n.rhsBatch by decide),
    dif_pos (show (1 : Fin S1024x1024.rank) ∈ dot_S512x1024_S1024x1024_S512x1024_1_0_0_1_n_n.rhsNonContracting by decide)]
  rfl

/-- The matrix product, element by element. -/
theorem dot_apply (x : FVec Ideal S512x1024 .bf16) (w : FVec Ideal S1024x1024 .bf16) (j : S512x1024.Idx) :
    matmul dot_S512x1024_S1024x1024_S512x1024_1_0_0_1_n_n none x w (constant S512x1024 .f32 0x00000000#32) j
      = ∑ e : Fin 1024, (x (ix2 (j 0) e) : EReal) * w (ix2 e (j 1)) := by
  simp only [matmul]
  rw [Ideal.matmul_constant_zero_apply,
    ← Equiv.sum_comp (contrEquiv1 dot_S512x1024_S1024x1024_S512x1024_1_0_0_1_n_n 1024 rfl rfl).symm]
  refine Finset.sum_congr rfl fun k _ => ?_
  have hk := contrEquiv1_symm_val dot_S512x1024_S1024x1024_S512x1024_1_0_0_1_n_n 1024 rfl rfl k
  have el : dot_S512x1024_S1024x1024_S512x1024_1_0_0_1_n_n.lhsIdx j
      ((contrEquiv1 dot_S512x1024_S1024x1024_S512x1024_1_0_0_1_n_n 1024 rfl rfl).symm k) = ix2 (j 0) k := funext fun a => Fin.ext (by
    match a with
    | ⟨0, _⟩ => exact dot_lhs_row _ _
    | ⟨1, _⟩ => exact (dot_S512x1024_S1024x1024_S512x1024_1_0_0_1_n_n.lhsIdx_val_of_single rfl j _).trans hk)
  have er : dot_S512x1024_S1024x1024_S512x1024_1_0_0_1_n_n.rhsIdx j
      ((contrEquiv1 dot_S512x1024_S1024x1024_S512x1024_1_0_0_1_n_n 1024 rfl rfl).symm k) = ix2 k (j 1) := funext fun a => Fin.ext (by
    match a with
    | ⟨0, _⟩ => exact (dot_S512x1024_S1024x1024_S512x1024_1_0_0_1_n_n.rhsIdx_val_of_single rfl j _).trans hk
    | ⟨1, _⟩ => exact dot_rhs_col _ _)
  rw [el, er]
  rfl

/-- The four taps at row `q` of half `u`. -/
def taps (X : Vec Ideal S1x1032x1024 .f32) (k : Vec Ideal S4x1024 .f32) (u q : ℕ) (e : Fin 1024) : EReal :=
  let x (n : ℕ) : EReal := X (ix3 0 ⟨(n + 512 * u + q) % 1032, Nat.mod_lt _ (by decide)⟩ e)
  let t (n : Fin 4) : EReal := k (ix2 n e)
  x 5 * t 0 + x 6 * t 1 + x 7 * t 2 + x 8 * t 3

/-- Half a chunk of the gated convolution times the device's rows of the projection. -/
theorem convDot_apply (X : Vec Ideal S1x1032x1024 .f32) (k : Vec Ideal S4x1024 .f32) (w : Vec Ideal S1024x1024 .f32) (u : ℕ)
    (j : S512x1024.Idx) :
    (convDot X k w u j : EReal) = ∑ e : Fin 1024, gate (taps X k u (j 0).val e) * w (ix2 e (j 1)) := by
  unfold convDot k0_pay5 k0_pay3 k0_pay4
  rw [dot_apply]
  refine Finset.sum_congr rfl fun e _ => ?_
  have hw : truncf (F := Ideal) .bf16 (shapeCast S1024x1024 w shapeCasts_S1024x1024_S1024x1024) bitsLt_bf16_f32 (ix2 e (j 1)) = w (ix2 e (j 1)) := by
    rw [shapeCast_self]; rfl
  rw [hw]
  refine congrArg (fun v : EReal => v * w (ix2 e (j 1))) ?_
  rw [← gate_eq, ← Ideal.ofBits_one_f32, ← Ideal.ofBits_zero_f32]
  have hv : taps X k u (j 0).val e
      = (shapeCast S512x1024 (xrow X (8 + 512 * u)) shapeCasts_S1x512x1024_S512x1024 (ix2 (j 0) e) : EReal) *
          broadcastTo S512x1024 (shapeCast S1x1024 (shapeCast S1024 (krow k 3) shapeCasts_S1x1024_S1024) shapeCasts_S1024_S1x1024)
            broadcasts_S1x1024_S512x1024 (ix2 (j 0) e)
        + shapeCast S512x1024 (xrow X (5 + 512 * u)) shapeCasts_S1x512x1024_S512x1024 (ix2 (j 0) e) *
          broadcastTo S512x1024 (shapeCast S1x1024 (shapeCast S1024 (krow k 0) shapeCasts_S1x1024_S1024) shapeCasts_S1024_S1x1024)
            broadcasts_S1x1024_S512x1024 (ix2 (j 0) e)
        + shapeCast S512x1024 (xrow X (6 + 512 * u)) shapeCasts_S1x512x1024_S512x1024 (ix2 (j 0) e) *
          broadcastTo S512x1024 (shapeCast S1x1024 (shapeCast S1024 (krow k 1) shapeCasts_S1x1024_S1024) shapeCasts_S1024_S1x1024)
            broadcasts_S1x1024_S512x1024 (ix2 (j 0) e)
        + shapeCast S512x1024 (xrow X (7 + 512 * u)) shapeCasts_S1x512x1024_S512x1024 (ix2 (j 0) e) *
          broadcastTo S512x1024 (shapeCast S1x1024 (shapeCast S1024 (krow k 2) shapeCasts_S1x1024_S1024) shapeCasts_S1024_S1x1024)
            broadcasts_S1x1024_S512x1024 (ix2 (j 0) e) := by
    rw [row_apply, row_apply, row_apply, row_apply]
    have t0 := tap_apply k 0 (ix2 (j 0) e)
    have t1 := tap_apply k 1 (ix2 (j 0) e)
    have t2 := tap_apply k 2 (ix2 (j 0) e)
    have t3 := tap_apply k 3 (ix2 (j 0) e)
    erw [t0, t1, t2, t3]
    unfold taps
    simp only
    rw [add_comm _ (_ * k (ix2 3 e)), ← add_assoc, ← add_assoc]
  rw [hv]
  rfl

end Cert.RingProof
-- ==== Proof.Total.lean ====
/-
# The kernel's result at the ideal floats

The devices hold blocks of whole operands; the result, element by element, is one sum over all channels.
-/
module

public import proofs.«01_k».proof.Proof.Tile
public import proofs.«01_k».proof.Proof.Half
public import Idealize.ShloMosaic.Lib.Pipeline.Value
public import Idealize.ShloMosaic.Lib.ValueIdx
public import Idealize.ShloMosaic.Lib.IdealHost
public import Idealize.ShloMosaic.PureOps.Ideal.Laws

@[expose] public section

set_option maxRecDepth 16384

noncomputable section

namespace Cert.RingProof

open Cert.KernelIdeal Cert.KernelIdeal.Gen

open Idealize.ShloMosaic
open Idealize.ShloMosaic.ValueIdx

/-- The whole operands: `x`, the taps, the projection. -/
structure Whole where
  x : (⟨3, ![2, 4096, 4096]⟩ : Shape).Idx → EReal
  k : (⟨2, ![4, 4096]⟩ : Shape).Idx → EReal
  w : (⟨2, ![4096, 1024]⟩ : Shape).Idx → EReal

variable (A : Whole)

/-- Row `n - 8` of batch row `b` of `x`, zero before the first. -/
def xp (b n : ℕ) (ch : Fin 4096) : EReal :=
  if n < 8 then 0 else A.x (ix3 ⟨b % 2, Nat.mod_lt _ (by decide)⟩ ⟨(n - 8) % 4096, Nat.mod_lt _ (by decide)⟩ ch)

/-- The causal convolution at time `t`, -/
def conv (b t : ℕ) (ch : Fin 4096) : EReal :=
  xp A b (5 + t) ch * A.k (ix2 0 ch) + xp A b (6 + t) ch * A.k (ix2 1 ch) + xp A b (7 + t) ch * A.k (ix2 2 ch)
    + xp A b (8 + t) ch * A.k (ix2 3 ch)

/-- and what channel `ch` adds to column `p` of the result. -/
def term (b t : ℕ) (p : Fin 1024) (ch : Fin 4096) : EReal := gate (conv A b t ch) * A.w (ix2 ch p)

/-- Channel `e` of device `d`. -/
def chOf (d : Fin 4) (e : Fin 1024) : Fin 4096 := ⟨d.val * 1024 + e.val, by have := d.isLt; have := e.isLt; omega⟩

/-- The channels, device by device. -/
theorem sum_channels (f : Fin 4096 → EReal) : ∑ ch, f ch = ∑ d : Fin 4, ∑ e : Fin 1024, f (chOf d e) := by
  rw [← Fintype.sum_prod_type']
  refine (Fintype.sum_bijective (fun y : Fin 4 × Fin 1024 => chOf y.1 y.2) ⟨?_, ?_⟩ _ _ (fun _ => rfl)).symm
  · rintro ⟨d, e⟩ ⟨d', e'⟩ h
    have h' : d.val * 1024 + e.val = d'.val * 1024 + e'.val := congrArg Fin.val h
    have := e.isLt; have := e'.isLt
    exact Prod.ext (Fin.ext (by show d.val = d'.val; omega)) (Fin.ext (by show e.val = e'.val; omega))
  · intro ch
    have := ch.isLt
    exact ⟨(⟨ch.val / 1024, by omega⟩, ⟨ch.val % 1024, by omega⟩), Fin.ext (by show ch.val / 1024 * 1024 + ch.val % 1024 = ch.val; omega)⟩

/-- What device `d` adds to an element of the result. -/
def dsum (d : Fin 4) (b t : ℕ) (p : Fin 1024) : EReal := ∑ e : Fin 1024, term A b t p (chOf d e)

/-- The devices hold their blocks of the whole operands. -/
structure Cut (I : Inp Ideal) : Prop where
  x : ∀ c b n e, I.x c (ix3 b n e) = A.x (ix3 b n (chOf c e))
  k : ∀ c t e, I.k c (ix2 t e) = A.k (ix2 t (chOf c e))
  w : ∀ c e p, I.w c (ix2 e p) = A.w (ix2 (chOf c e) p)

variable {A} {I : Inp Ideal} (H : Cut A I)
include H

theorem Cut.xch (c : Dev nD) (r g : ℕ) (n : ℕ) (hn : n < 1032) (e : Fin 1024) :
    (RingProof.xch I c r g (ix3 0 ⟨n % 1032, Nat.mod_lt _ (by decide)⟩ e) : EReal) = xp A r (1024 * g + n) (chOf c e) := by
  unfold RingProof.xch xp
  show (if 1024 * g + n % 1032 < 8 then (Ideal.ofBits .f32 0x00000000#32 : EReal)
    else I.x c (ix3 ⟨r % 2, _⟩ ⟨(1024 * g + n % 1032 - 8) % 4096, _⟩ e)) = _
  rw [H.x, Ideal.ofBits_zero_f32]
  simp only [Nat.mod_eq_of_lt hn]

theorem Cut.taps (c : Dev nD) (r g u q : ℕ) (hu : u < 2) (hq : q < 512) (e : Fin 1024) :
    RingProof.taps (RingProof.xch I c r g) (I.k c) u q e = conv A r (1024 * g + 512 * u + q) (chOf c e) := by
  unfold RingProof.taps conv
  simp only
  rw [H.k, H.k, H.k, H.k, H.xch c r g _ (by omega), H.xch c r g _ (by omega), H.xch c r g _ (by omega), H.xch c r g _ (by omega)]
  have e5 : ∀ a, 1024 * g + (a + 512 * u + q) = a + (1024 * g + 512 * u + q) := fun a => by omega
  rw [e5, e5, e5, e5]

/-- A device's part of half a chunk. -/
theorem Cut.part (c : Dev nD) (r g u : ℕ) (hu : u < 2) (j : S512x1024.Idx) :
    (RingProof.part I c r g u j : EReal) = dsum A c r (1024 * g + 512 * u + (j 0).val) (j 1) := by
  unfold RingProof.part dsum
  rw [convDot_apply]
  refine Finset.sum_congr rfl fun e _ => ?_
  rw [H.taps c r g u _ hu (j 0).isLt]
  exact congrArg (fun z : EReal => gate _ * z) (H.w c e (j 1))

omit H

/-- A running sum read as a matrix. -/
theorem mat_apply {α : Type} (v : S512x1024.Idx → α) (i : S1x1x512x1024.Idx) :
    shapeCast S1x1x512x1024 v shapeCasts_S512x1024_S1x1x512x1024 i = v (ix2 (i 2) (i 3)) :=
  shapeCast_apply v shapeCasts_S512x1024_S1x1x512x1024 i (ix2 (i 2) (i 3)) (by
    have h0 : (i 0).val < 1 := (i 0).isLt
    have h1 : (i 1).val < 1 := (i 1).isLt
    rw [Shape.rowMajor_val_two, Shape.rowMajor_val_four]
    show (i 2).val * 1024 + (i 3).val = (((i 0).val * 1 + (i 1).val) * 512 + (i 2).val) * 1024 + (i 3).val
    omega)

theorem unmat_apply {α : Type} (v : S1x1x512x1024.Idx → α) (j : S512x1024.Idx) :
    shapeCast S512x1024 v shapeCasts_S1x1x512x1024_S512x1024 j = v (ix4 0 0 (j 0) (j 1)) :=
  shapeCast_apply v shapeCasts_S1x1x512x1024_S512x1024 j (ix4 0 0 (j 0) (j 1)) (by
    rw [Shape.rowMajor_val_two, Shape.rowMajor_val_four]
    show ((0 * 1 + 0) * 512 + (j 0).val) * 1024 + (j 1).val = (j 0).val * 1024 + (j 1).val
    omega)

theorem acc_zero (I : Inp Ideal) (r u : ℕ) (c : Dev nD) (q : Fin 512) (p : Fin 1024) :
    (accB I r u 0 c (ix4 0 0 q p) : EReal) = RingProof.part I c r (chunk r c 0) u (ix2 q p) := by
  unfold accB k0_pay9
  rw [mat_apply]
  rfl

theorem acc_succ (I : Inp Ideal) (r u s : ℕ) (c : Dev nD) (q : Fin 512) (p : Fin 1024) :
    (accB I r u (s + 1) c (ix4 0 0 q p) : EReal)
      = RingProof.part I c r (chunk r c (s + 1)) u (ix2 q p) + accB I r u s (up r c) (ix4 0 0 q p) := by
  rw [accB]
  unfold k0_pay24
  rw [mat_apply]
  generalize accB I r u s (up r c) = v
  have h := unmat_apply v (ix2 q p)
  exact congrArg (fun z : EReal => RingProof.part I c r (chunk r c (s + 1)) u (ix2 q p) + z) h

/-- The chunk moves along with the device, and four places upstream is the whole ring. -/
theorem chunk_up : ∀ r : Fin 2, ∀ s : Fin 4, ∀ d : Dev nD, chunk r.val (upN r.val s.val d) (3 - s.val) = chunk r.val d 3 := by decide
theorem upN_bij : ∀ r : Fin 2, ∀ d : Dev nD, Function.Bijective (fun s : Fin 4 => upN r.val s.val d) := by decide

include H in
/-- A finished half chunk: every device's part. -/
theorem Cut.acc (r : Fin 2) (u : ℕ) (hu : u < 2) (d : Dev nD) (q : Fin 512) (p : Fin 1024) :
    (accB I r.val u 3 d (ix4 0 0 q p) : EReal) = ∑ c : Fin 4, dsum A c r.val (1024 * chunk r.val d 3 + 512 * u + q.val) p := by
  have e (s : Fin 4) : (RingProof.part I (upN r.val s.val d) r.val (chunk r.val (upN r.val s.val d) (3 - s.val)) u (ix2 q p) : EReal)
      = dsum A (upN r.val s.val d) r.val (1024 * chunk r.val d 3 + 512 * u + q.val) p := by
    rw [chunk_up, H.part _ _ _ _ hu]
  rw [← Function.Bijective.sum_comp (upN_bij r d), Fin.sum_univ_four, ← e, ← e, ← e, ← e, acc_succ, acc_succ, acc_succ, acc_zero,
    add_assoc, add_assoc]
  rfl

theorem stage_apply (v : Vec Ideal S1x1x1024x1024 .bf16) (j : S1x1024x1024.Idx) : (k0_pay68 v j : EReal) = v (ix4 0 0 (j 1) (j 2)) := by
  unfold k0_pay68
  rw [shapeCast_apply _ shapeCasts_S1024x1024_S1x1024x1024 j (ix2 (j 1) (j 2)) (by
    have h0 : (j 0).val < 1 := (j 0).isLt
    rw [Shape.rowMajor_val_two, Shape.rowMajor_val_three]
    show (j 1).val * 1024 + (j 2).val = ((j 0).val * 1024 + (j 1).val) * 1024 + (j 2).val
    omega)]
  have h := shapeCast_apply v shapeCasts_S1x1x1024x1024_S1024x1024 (ix2 (j 1) (j 2)) (ix4 0 0 (j 1) (j 2)) (by
    rw [Shape.rowMajor_val_two, Shape.rowMajor_val_four]
    show ((0 * 1 + 0) * 1024 + (j 1).val) * 1024 + (j 2).val = (j 1).val * 1024 + (j 2).val
    omega)
  exact h

theorem joinH_lo (X Y : FVec Ideal S1x1x512x1024 .bf16) (m p : Fin 1024) (h : m.val < 512) :
    joinH X Y (ix4 0 0 m p) = X (ix4 0 0 ⟨m.val, h⟩ p) := dif_pos h
theorem joinH_hi (X Y : FVec Ideal S1x1x512x1024 .bf16) (m p : Fin 1024) (h : ¬m.val < 512) :
    joinH X Y (ix4 0 0 m p) = Y (ix4 0 0 ⟨m.val - 512, by have := m.isLt; omega⟩ p) := dif_neg h

theorem chunk_own : ∀ r : Fin 2, ∀ g : Fin 4, chunk r.val (own r.val g.val) 3 = g.val := by decide

include H in
/-- The kernel's result: every channel of every device. -/
theorem Cut.res (i : S2x4096x1024.Idx) : (RingProof.res I i : EReal) = ∑ ch : Fin 4096, term A (i 0).val (i 1).val (i 2) ch := by
  have h1 : (i 1).val < 4096 := (i 1).isLt
  obtain ⟨r, hr⟩ : ∃ r : Fin 2, r.val = (i 0).val := ⟨i 0, rfl⟩
  have hg := chunk_own r ⟨(i 1).val / 1024, by omega⟩
  rw [sum_channels]
  unfold RingProof.res stv
  rw [stage_apply, ← hr]
  by_cases hm : (i 1).val % 1024 < 512
  · refine (joinH_lo _ _ ⟨(i 1).val % 1024, Nat.mod_lt _ (by decide)⟩ (i 2) hm).trans ?_
    refine (H.acc r 0 (by decide) _ ⟨(i 1).val % 1024, hm⟩ (i 2)).trans ?_
    rw [hg]
    have e : 1024 * ((i 1).val / 1024) + 512 * 0 + (i 1).val % 1024 = (i 1).val := by omega
    simp only [e]
    rfl
  · refine (joinH_hi _ _ ⟨(i 1).val % 1024, Nat.mod_lt _ (by decide)⟩ (i 2) hm).trans ?_
    refine (H.acc r 1 (by decide) _ ⟨(i 1).val % 1024 - 512, by omega⟩ (i 2)).trans ?_
    rw [hg]
    have e : 1024 * ((i 1).val / 1024) + 512 * 1 + ((i 1).val % 1024 - 512) = (i 1).val := by omega
    simp only [e]
    rfl

end Cert.RingProof
-- ==== Proof.Ref.lean ====
/-
# The reference at the ideal floats

The same sum over all channels as the kernel's.
-/
module

public import proofs.«01_k».proof.Proof.Total
public import proofs.«01_k».proof.Proof.Gen.ReferenceIdeal.Read
public import Idealize.ShloMosaic.Lib.Pipeline.Value
public import Idealize.ShloMosaic.Lib.ValueIdx
public import Idealize.ShloMosaic.Lib.IdealHost
public import Idealize.ShloMosaic.PureOps.Ideal.Laws

@[expose] public section

set_option maxRecDepth 16384

noncomputable section

namespace Cert.RingProof

open Idealize.ShloMosaic
open Idealize.ShloMosaic.ValueIdx

open Cert.ReferenceIdeal.Read

variable (A : Whole)

/-- `x` with three zero rows before it. -/
theorem padded_apply (i : Cert.ReferenceIdeal.S2x4099x4096.Idx) :
    (val_main_v1 (F := Ideal) A.x i : EReal) = xp A (i 0).val (5 + (i 1).val) (i 2) := by
  have h0 : (i 0).val < 2 := (i 0).isLt
  have h1 : (i 1).val < 4099 := (i 1).isLt
  unfold val_main_v1 xp
  by_cases h : (i 1).val < 3
  · rw [if_pos (by omega), concatenate_pair_apply_left (t := Cert.ReferenceIdeal.S2x4099x4096) 1 (val_main_v0 (F := Ideal)) A.x
      Cert.ReferenceIdeal.Gen.concatenates_S2x3x4096_S2x4096x4096_S2x4099x4096_d1 i rfl (ix3 (i 0) ⟨(i 1).val, h⟩ (i 2)) (fun b => match b with
      | ⟨0, _⟩ => rfl
      | ⟨1, _⟩ => rfl
      | ⟨2, _⟩ => rfl), val_main_v0_apply, val_main_cst_apply]
    exact Ideal.ofBits_zero_f32
  · rw [if_neg (by omega), concatenate_pair_apply_right (t := Cert.ReferenceIdeal.S2x4099x4096) 1 (val_main_v0 (F := Ideal)) A.x
      Cert.ReferenceIdeal.Gen.concatenates_S2x3x4096_S2x4096x4096_S2x4099x4096_d1 i rfl rfl
      (ix3 ⟨(i 0).val % 2, Nat.mod_lt _ (by decide)⟩ ⟨(5 + (i 1).val - 8) % 4096, Nat.mod_lt _ (by decide)⟩ (i 2)) (fun b => match b with
      | ⟨0, _⟩ => fun _ => Nat.mod_eq_of_lt h0
      | ⟨1, _⟩ => fun hb => absurd rfl hb
      | ⟨2, _⟩ => fun _ => rfl) (by show (5 + (i 1).val - 8) % 4096 + 3 = (i 1).val; omega)]

/-- The convolution, -/
theorem conv_apply (i : Cert.ReferenceIdeal.S2x4096x4096.Idx) :
    (val_main_v30 (F := Ideal) A.x A.k i : EReal) = conv A (i 0).val (i 1).val (i 2) := by
  have h2 : (i 2).val < 4096 := (i 2).isLt
  have tap (n : Fin 4) (j : Cert.ReferenceIdeal.S4x4096.Idx) (hj : (j 0).val = n.val) (hj' : (j 1).val = (i 2).val % 4096) :
      A.k j = A.k (ix2 n (i 2)) := congrArg A.k (funext fun a => Fin.ext (by
    match a with
    | ⟨0, _⟩ => exact hj
    | ⟨1, _⟩ => exact hj'.trans (Nat.mod_eq_of_lt h2)))
  have k0 : (val_main_v7 (F := Ideal) A.k i : EReal) = A.k (ix2 0 (i 2)) := by
    rw [val_main_v7_apply, val_main_v6_apply, val_main_v5_apply, val_main_v4_apply]; exact tap 0 _ rfl rfl
  have k1 : (val_main_v14 (F := Ideal) A.k i : EReal) = A.k (ix2 1 (i 2)) := by
    rw [val_main_v14_apply, val_main_v13_apply, val_main_v12_apply, val_main_v11_apply]; exact tap 1 _ rfl rfl
  have k2 : (val_main_v21 (F := Ideal) A.k i : EReal) = A.k (ix2 2 (i 2)) := by
    rw [val_main_v21_apply, val_main_v20_apply, val_main_v19_apply, val_main_v18_apply]; exact tap 2 _ rfl rfl
  have k3 : (val_main_v28 (F := Ideal) A.k i : EReal) = A.k (ix2 3 (i 2)) := by
    rw [val_main_v28_apply, val_main_v27_apply, val_main_v26_apply, val_main_v25_apply]; exact tap 3 _ rfl rfl
  have x0 : (val_main_v3 (F := Ideal) A.x i : EReal) = xp A (i 0).val (5 + (i 1).val) (i 2) := by
    rw [val_main_v3_apply, padded_apply]; rfl
  have x1 : (val_main_v10 (F := Ideal) A.x i : EReal) = xp A (i 0).val (6 + (i 1).val) (i 2) := by
    rw [val_main_v10_apply, padded_apply, show 6 + (i 1).val = 5 + (1 + (i 1).val) by omega]; rfl
  have x2 : (val_main_v17 (F := Ideal) A.x i : EReal) = xp A (i 0).val (7 + (i 1).val) (i 2) := by
    rw [val_main_v17_apply, padded_apply, show 7 + (i 1).val = 5 + (2 + (i 1).val) by omega]; rfl
  have x3 : (val_main_v24 (F := Ideal) A.x i : EReal) = xp A (i 0).val (8 + (i 1).val) (i 2) := by
    rw [val_main_v24_apply, padded_apply, show 8 + (i 1).val = 5 + (3 + (i 1).val) by omega]; rfl
  have z : (val_main_v2 (F := Ideal) i : EReal) = 0 := by
    rw [val_main_v2_apply, val_main_cst_0_apply]; exact Ideal.ofBits_zero_f32
  unfold conv
  rw [← x0, ← x1, ← x2, ← x3, ← k0, ← k1, ← k2, ← k3]
  show (val_main_v2 (F := Ideal) i : EReal) + _ + _ + _ + _ = _
  rw [z, zero_add]
  rfl

/-- gated, -/
theorem gated_apply (i : Cert.ReferenceIdeal.S2x4096x4096.Idx) :
    (val_main_v35 (F := Ideal) A.x A.k i : EReal) = gate (conv A (i 0).val (i 1).val (i 2)) := by
  have o : (val_main_v33 (F := Ideal) i : EReal) = 1 := by
    rw [val_main_v33_apply]; exact Ideal.ofBits_one_f32
  rw [← conv_apply]
  unfold gate
  rw [← o]
  rfl

/-- and the reference's result: the same sum over all channels. -/
theorem reference_apply (i : Cert.ReferenceIdeal.S2x4096x1024.Idx) :
    (val_main_v36 (F := Ideal) A.x A.k A.w i : EReal) = ∑ ch : Fin 4096, term A (i 0).val (i 1).val (i 2) ch := by
  rw [val_main_v36_apply]
  refine Finset.sum_congr rfl fun ch _ => ?_
  unfold term
  rw [gated_apply]
  refine congrArg (fun z : EReal => _ * z) (congrArg A.w (funext fun a => ?_))
  match a with
  | ⟨0, _⟩ => rfl
  | ⟨1, _⟩ => rfl

end Cert.RingProof
-- ==== Proof.lean ====
/-
# The proof of `Cert.Claim`

The kernel's run is proved once, over any float values (`Proof/Launch.lean`); both frames are that run at the bit-level
and at the ideal floats. The value of the result is compared with the reference's at the ideal floats: both are one sum over
all channels (`Proof/Total.lean`, `Proof/Ref.lean`).
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import proofs.«01_k».proof.Proof.Launch
public import proofs.«01_k».proof.Proof.Ref
public import Idealize.ShloMosaic.Lib.Tactic
public import Idealize.ShloMosaic.Adequacy
public import Idealize.ShloMosaic.Init

@[expose] public section

noncomputable section

namespace Cert.Proof

open Idealize.ShloMosaic Idealize.SL.Sem Cert.KernelIdeal

theorem frame_ideal : Cert.quiescent_KernelIdeal := fun m ρ _ =>
  (θ_run Cert.KernelIdeal.defs _ _).mono (fun _ h => ⟨fun c => ⟨(h.1 c).1, (h.1 c).2.1, (h.1 c).2.2.1⟩, h.2⟩) (RingProof.run_main (F := Ideal) m ρ)

/-- The same frame at the bit-level floats, in the idealized program's names. -/
def FrameBits : Prop :=
  ∀ (m : (ℓ : Loc nD τ sig) → Buf (Elt Bits) ℓ) (g : Dev nD → PrngReg), True →
    θ_run (defs (F := Bits)) (onTc (τ := τ) (main (F := Bits))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0)

theorem frame_bits : FrameBits := fun m ρ _ =>
  (θ_run Cert.KernelIdeal.defs _ _).mono (fun _ h => ⟨fun c => ⟨(h.1 c).1, (h.1 c).2.1, (h.1 c).2.2.1⟩, h.2⟩) (RingProof.run_main (F := Bits) m ρ)

/-- The two programs have the same text. -/
theorem same_text : Cert.quiescent_Kernel = FrameBits := by sl_kernel_rfl

theorem frame_kernel : Cert.quiescent_Kernel := Eq.mpr same_text frame_bits

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The reference's operands, whole, -/
def whole (m' : (ℓ : Loc Cert.ReferenceIdeal.nD Cert.ReferenceIdeal.τ Cert.ReferenceIdeal.sig) → Buf (Elt Ideal) ℓ) : RingProof.Whole where
  x := m' (((0 : Dev Cert.ReferenceIdeal.nD).tc : Thread Cert.ReferenceIdeal.nD Cert.ReferenceIdeal.τ).loc Cert.ReferenceIdeal.main_arg0)
  k := m' (((0 : Dev Cert.ReferenceIdeal.nD).tc : Thread Cert.ReferenceIdeal.nD Cert.ReferenceIdeal.τ).loc Cert.ReferenceIdeal.main_arg1)
  w := m' (((0 : Dev Cert.ReferenceIdeal.nD).tc : Thread Cert.ReferenceIdeal.nD Cert.ReferenceIdeal.τ).loc Cert.ReferenceIdeal.main_arg2)

/-- The kernel, run from blocks of the reference's operands, ends with the reference's result on every device. -/
theorem algebraic : Cert.algebraic_KernelIdeal_ReferenceIdeal := by
  intro m g m' g' _ hin
  have cut : RingProof.Cut (whole m') (RingProof.inp m) := by
    refine ⟨fun c b n e => ?_, fun c t e => ?_, fun c e p => ?_⟩
    · refine (congrFun (hin c).1 (ValueIdx.ix3 b n e)).trans (congrArg (whole m').x (funext fun a => ?_))
      match a with
      | ⟨0, _⟩ => rfl
      | ⟨1, _⟩ => rfl
      | ⟨2, _⟩ => rfl
    · refine (congrFun (hin c).2.1 (ValueIdx.ix2 t e)).trans (congrArg (whole m').k (funext fun a => ?_))
      match a with
      | ⟨0, _⟩ => rfl
      | ⟨1, _⟩ => rfl
    · refine (congrFun (hin c).2.2 (ValueIdx.ix2 e p)).trans (congrArg (whole m').w (funext fun a => ?_))
      match a with
      | ⟨0, _⟩ => rfl
      | ⟨1, _⟩ => rfl
  have value : Cert.ReferenceIdeal.Value.res_main_v36 m' 0 = RingProof.res (RingProof.inp m) := by
    rw [Cert.ReferenceIdeal.Read.val_main_v36_eq]
    exact funext fun i => (RingProof.reference_apply (whole m') i).trans (cut.res i).symm
  refine ⟨RingProof.res (RingProof.inp m), ?_, ?_⟩
  · exact (θ_run Cert.KernelIdeal.defs _ _).mono
      (fun _ h c => ⟨(h.1 c).2.2.2, (h.1 c).1, (h.1 c).2.1, (h.1 c).2.2.1⟩) (RingProof.run_main (F := Ideal) m g)
  · exact (θ_run Cert.ReferenceIdeal.defs _ _).mono (fun _ h => ⟨(h 0).1.trans value, (h 0).2⟩)
      (Cert.ReferenceIdeal.Value.run (F := Ideal) m' g')

theorem claim : Cert.Claim := ⟨Cert.Kernel.Gen.facts, Cert.KernelIdeal.Gen.facts, Cert.ReferenceIdeal.Gen.facts,
  frame_kernel, frame_ideal, frame_reference, trivial, algebraic⟩

end Cert.Proof

end
